-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_boxes [hPre_finite_boxes : Cert.Pre_finite_boxes.Facts] (m : (ℓ : Loc Cert.KernelIdeal.nD Cert.KernelIdeal.τ Cert.KernelIdeal.sig) → Buf (Elt Ideal) ℓ) : Prop :=
  ∀ c : Dev Cert.KernelIdeal.nD,
    (Cert.Pre_finite_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_boxes [hPre_finite_boxes : Cert.Pre_finite_boxes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_boxes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_boxes [hKernelIdeal : Cert.KernelIdeal.Facts] [hPre_finite_boxes : Cert.Pre_finite_boxes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_boxes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_boxes [hReferenceIdeal : Cert.ReferenceIdeal.Facts] [hPre_finite_boxes : Cert.Pre_finite_boxes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_boxes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_boxes [hKernelIdeal : Cert.KernelIdeal.Facts] [hReferenceIdeal : Cert.ReferenceIdeal.Facts] [hPre_finite_boxes : Cert.Pre_finite_boxes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_boxes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_boxes : Cert.Pre_finite_boxes.Facts),
    quiescent_Kernel (hKernel := hKernel)
    ∧ quiescent_KernelIdeal (hKernelIdeal := hKernelIdeal)
    ∧ quiescent_KernelIdeal_pre_finite_boxes (hKernelIdeal := hKernelIdeal) (hPre_finite_boxes := hPre_finite_boxes)
    ∧ quiescent_ReferenceIdeal (hReferenceIdeal := hReferenceIdeal)
    ∧ quiescent_ReferenceIdeal_pre_finite_boxes (hReferenceIdeal := hReferenceIdeal) (hPre_finite_boxes := hPre_finite_boxes)
    ∧ preserves_Kernel_KernelIdeal
    ∧ algebraic_KernelIdeal_ReferenceIdeal_pre_finite_boxes (hKernelIdeal := hKernelIdeal) (hReferenceIdeal := hReferenceIdeal) (hPre_finite_boxes := hPre_finite_boxes)
-- ==== Pre_finite_boxes.lean ====
abbrev S4x20000x19 : Shape := ⟨3, ![4, 20000, 19]⟩
abbrev S4x20000x18x6 : Shape := ⟨4, ![4, 20000, 18, 6]⟩
abbrev S4x20000x6 : Shape := ⟨3, ![4, 20000, 6]⟩
abbrev S4x20000x3 : Shape := ⟨3, ![4, 20000, 3]⟩
abbrev S_ : Shape := ⟨0, ![]⟩

class Facts : Prop where
  bcast_S_S4x20000x18x6 : S_.BroadcastsInDim S4x20000x18x6 (![] : Fin 0 → Fin S4x20000x18x6.rank)
  reducesTo_S4x20000x18x6_S_d0_1_2_3 : S4x20000x18x6.ReducesTo [0, 1, 2, 3] S_
  h_S_ : 0 < S_.numel
  bcast_S_S4x20000x6 : S_.BroadcastsInDim S4x20000x6 (![] : Fin 0 → Fin S4x20000x6.rank)
  reducesTo_S4x20000x6_S_d0_1_2 : S4x20000x6.ReducesTo [0, 1, 2] S_
  bcast_S_S4x20000x3 : S_.BroadcastsInDim S4x20000x3 (![] : Fin 0 → Fin S4x20000x3.rank)
  reducesTo_S4x20000x3_S_d0_1_2 : S4x20000x3.ReducesTo [0, 1, 2] S_

variable [Facts]

def fn {F : FTy → Type} [FloatOps F] (main_arg0 : FVec F S4x20000x19 .f32) (main_arg1 : FVec F S4x20000x18x6 .f32) (main_arg2 : FVec F S4x20000x6 .f32) (main_arg3 : FVec F S4x20000x3 .f32) : IVec S_ 1 :=
  let main_v0 : FVec F S4x20000x18x6 .f32 := Host.absf main_arg1
  let main_cst : FVec F S_ .f32 := constant S_ .f32 0x7F800000#32
  let main_v1 : FVec F S4x20000x18x6 .f32 := broadcastInDim S4x20000x18x6 ![] bcast_S_S4x20000x18x6 main_cst
  let main_v2 : IVec S4x20000x18x6 1 := cmpf .olt main_v0 main_v1
  let main_c : IVec S_ 1 := constantI S_ 1 1#1
  let main_v3 : IVec S_ 1 := (fun x v => Host.reduce IntOp.andi x v reducesTo_S4x20000x18x6_S_d0_1_2_3 h_S_) main_v2 main_c
  let main_v4 : FVec F S4x20000x6 .f32 := Host.absf main_arg2
  let main_cst_0 : FVec F S_ .f32 := constant S_ .f32 0x7F800000#32
  let main_v5 : FVec F S4x20000x6 .f32 := broadcastInDim S4x20000x6 ![] bcast_S_S4x20000x6 main_cst_0
  let main_v6 : IVec S4x20000x6 1 := cmpf .olt main_v4 main_v5
  let main_c_1 : IVec S_ 1 := constantI S_ 1 1#1
  let main_v7 : IVec S_ 1 := (fun x v => Host.reduce IntOp.andi x v reducesTo_S4x20000x6_S_d0_1_2 h_S_) main_v6 main_c_1
  let main_v8 : IVec S_ 1 := andi main_v3 main_v7
  let main_v9 : FVec F S4x20000x3 .f32 := Host.absf main_arg3
  let main_cst_2 : FVec F S_ .f32 := constant S_ .f32 0x7F800000#32
  let main_v10 : FVec F S4x20000x3 .f32 := broadcastInDim S4x20000x3 ![] bcast_S_S4x20000x3 main_cst_2
  let main_v11 : IVec S4x20000x3 1 := cmpf .olt main_v9 main_v10
  let main_c_3 : IVec S_ 1 := constantI S_ 1 1#1
  let main_v12 : IVec S_ 1 := (fun x v => Host.reduce IntOp.andi x v reducesTo_S4x20000x3_S_d0_1_2 h_S_) main_v11 main_c_3
  let main_v13 : IVec S_ 1 := andi main_v8 main_v12
  main_v13
-- ==== Kernel.lean ====
abbrev S4x20000x19 : Shape := ⟨3, ![4, 20000, 19]⟩
abbrev S4x20000x18x6 : Shape := ⟨4, ![4, 20000, 18, 6]⟩
abbrev S4x20000x6 : Shape := ⟨3, ![4, 20000, 6]⟩
abbrev S4x20000x3 : Shape := ⟨3, ![4, 20000, 3]⟩
abbrev S_ : Shape := ⟨0, ![]⟩
abbrev S4x20000 : Shape := ⟨2, ![4, 20000]⟩
abbrev S4x20000x1 : Shape := ⟨3, ![4, 20000, 1]⟩
abbrev S4x20000x18 : Shape := ⟨3, ![4, 20000, 18]⟩
abbrev S4x360000 : Shape := ⟨2, ![4, 360000]⟩
abbrev S4x2048 : Shape := ⟨2, ![4, 2048]⟩
abbrev S4x360000x6 : Shape := ⟨3, ![4, 360000, 6]⟩
abbrev S4x2048x1 : Shape := ⟨3, ![4, 2048, 1]⟩
abbrev S1 : Shape := ⟨1, ![1]⟩
abbrev S1x1x1 : Shape := ⟨3, ![1, 1, 1]⟩
abbrev S4x2048x6 : Shape := ⟨3, ![4, 2048, 6]⟩
abbrev S4x2048x3 : Shape := ⟨3, ![4, 2048, 3]⟩
abbrev S4x2048x8 : Shape := ⟨3, ![4, 2048, 8]⟩
abbrev S4x8x2048 : Shape := ⟨3, ![4, 8, 2048]⟩
abbrev S4x256x8 : Shape := ⟨3, ![4, 256, 8]⟩
abbrev S1x2048x8 : Shape := ⟨3, ![1, 2048, 8]⟩
abbrev S1x8x2048 : Shape := ⟨3, ![1, 8, 2048]⟩
abbrev S1x256x8 : Shape := ⟨3, ![1, 256, 8]⟩
abbrev S256x256 : Shape := ⟨2, ![256, 256]⟩
abbrev S2048x8 : Shape := ⟨2, ![2048, 8]⟩
abbrev S8x2048 : Shape := ⟨2, ![8, 2048]⟩
abbrev S2048x1 : Shape := ⟨2, ![2048, 1]⟩
abbrev S1x2048 : Shape := ⟨2, ![1, 2048]⟩
abbrev S1x256 : Shape := ⟨2, ![1, 256]⟩
abbrev S256x1 : Shape := ⟨2, ![256, 1]⟩
abbrev S1x1x256 : Shape := ⟨3, ![1, 1, 256]⟩
abbrev S1x1x2048 : Shape := ⟨3, ![1, 1, 2048]⟩
abbrev S128x128 : Shape := ⟨2, ![128, 128]⟩
abbrev S256x8 : Shape := ⟨2, ![256, 8]⟩
abbrev S1x128 : Shape := ⟨2, ![1, 128]⟩
abbrev S256x128 : Shape := ⟨2, ![256, 128]⟩
abbrev S128x8 : Shape := ⟨2, ![128, 8]⟩
abbrev S1x1x128 : Shape := ⟨3, ![1, 1, 128]⟩
abbrev S4x256x7 : Shape := ⟨3, ![4, 256, 7]⟩
abbrev S4x256x1 : Shape := ⟨3, ![4, 256, 1]⟩
abbrev S4x256 : Shape := ⟨2, ![4, 256]⟩

abbrev nBuf : Space → Nat
  | .hbm => 154
  | .vmem => 7
  | .smem => 0
  | _ => 0

abbrev hbmTy0_0 (i : Nat) : BufTy := match i % 128 with
  | 0 => ⟨S4x20000x19, .f32⟩
  | 1 => ⟨S4x20000x18x6, .f32⟩
  | 2 => ⟨S4x20000x6, .f32⟩
  | 3 => ⟨S4x20000x3, .f32⟩
  | 4 => ⟨S_, .f32⟩
  | 5 => ⟨S4x20000, .f32⟩
  | 6 => ⟨S_, .f32⟩
  | 7 => ⟨S4x20000, .f32⟩
  | 8 => ⟨S4x20000, .f32⟩
  | 9 => ⟨S4x20000x1, .f32⟩
  | 10 => ⟨S4x20000x19, .f32⟩
  | 11 => ⟨S4x20000x19, .f32⟩
  | 12 => ⟨S4x20000x19, .f32⟩
  | 13 => ⟨S_, .f32⟩
  | 14 => ⟨S4x20000, .f32⟩
  | 15 => ⟨S4x20000x1, .f32⟩
  | 16 => ⟨S4x20000x19, .f32⟩
  | 17 => ⟨S4x20000x19, .f32⟩
  | 18 => ⟨S4x20000x18, .f32⟩
  | 19 => ⟨S_, .f32⟩
  | 20 => ⟨S4x20000x18, .f32⟩
  | 21 => ⟨S4x20000x18, .i1⟩
  | 22 => ⟨S_, .f32⟩
  | 23 => ⟨S_, .f32⟩
  | 24 => ⟨S4x20000x18, .f32⟩
  | 25 => ⟨S4x20000x18, .f32⟩
  | 26 => ⟨S4x360000, .f32⟩
  | 27 => ⟨S4x2048, .f32⟩
  | 28 => ⟨S4x2048, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S4x2048, .i32⟩
  | 36 => ⟨S4x2048, .i32⟩
  | 37 => ⟨S_, .i32⟩
  | 38 => ⟨S4x2048, .i32⟩
  | 39 => ⟨S4x2048, .i1⟩
  | 40 => ⟨S_, .i32⟩
  | 41 => ⟨S4x2048, .i32⟩
  | 42 => ⟨S4x2048, .i1⟩
  | 43 => ⟨S_, .i32⟩
  | 44 => ⟨S_, .i1⟩
  | 45 => ⟨S4x2048, .i1⟩
  | 46 => ⟨S4x2048, .i1⟩
  | 47 => ⟨S4x2048, .i1⟩
  | 48 => ⟨S4x2048, .i32⟩
  | 49 => ⟨S4x2048, .i32⟩
  | 50 => ⟨S4x2048, .i32⟩
  | 51 => ⟨S4x360000x6, .f32⟩
  | 52 => ⟨S4x2048x1, .i32⟩
  | 53 => ⟨S_, .i32⟩
  | 54 => ⟨S4x2048x1, .i32⟩
  | 55 => ⟨S4x2048x1, .i1⟩
  | 56 => ⟨S_, .i32⟩
  | 57 => ⟨S4x2048x1, .i32⟩
  | 58 => ⟨S4x2048x1, .i32⟩
  | 59 => ⟨S4x2048x1, .i32⟩
  | 60 => ⟨S1, .i32⟩
  | 61 => ⟨S_, .i32⟩
  | 62 => ⟨S4x2048x1, .i32⟩
  | 63 => ⟨S4x2048x1, .i1⟩
  | 64 => ⟨S1x1x1, .i32⟩
  | 65 => ⟨S4x2048x1, .i32⟩
  | 66 => ⟨S4x2048x1, .i1⟩
  | 67 => ⟨S4x2048x1, .i1⟩
  | 68 => ⟨S_, .i1⟩
  | 69 => ⟨S4x2048, .i1⟩
  | 70 => ⟨S4x2048x6, .f32⟩
  | 71 => ⟨S4x2048x6, .i1⟩
  | 72 => ⟨S_, .f32⟩
  | 73 => ⟨S4x2048x6, .f32⟩
  | 74 => ⟨S4x2048x6, .f32⟩
  | 75 => ⟨S_, .i32⟩
  | 76 => ⟨S_, .i32⟩
  | 77 => ⟨S4x2048, .i32⟩
  | 78 => ⟨S4x2048, .i32⟩
  | 79 => ⟨S4x2048, .i32⟩
  | 80 => ⟨S_, .i32⟩
  | 81 => ⟨S4x2048, .i32⟩
  | 82 => ⟨S4x2048, .i1⟩
  | 83 => ⟨S4x2048, .i32⟩
  | 84 => ⟨S4x2048, .i32⟩
  | 85 => ⟨S_, .i32⟩
  | 86 => ⟨S4x2048, .i32⟩
  | 87 => ⟨S4x2048, .i1⟩
  | 88 => ⟨S4x2048, .i1⟩
  | 89 => ⟨S_, .i32⟩
  | 90 => ⟨S4x2048, .i32⟩
  | 91 => ⟨S4x2048, .i32⟩
  | 92 => ⟨S4x2048, .i32⟩
  | 93 => ⟨S4x2048x1, .i32⟩
  | 94 => ⟨S_, .i32⟩
  | 95 => ⟨S4x2048x1, .i32⟩
  | 96 => ⟨S4x2048x1, .i1⟩
  | 97 => ⟨S_, .i32⟩
  | 98 => ⟨S4x2048x1, .i32⟩
  | 99 => ⟨S4x2048x1, .i32⟩
  | 100 => ⟨S4x2048x1, .i32⟩
  | 101 => ⟨S1, .i32⟩
  | 102 => ⟨S_, .i32⟩
  | 103 => ⟨S4x2048x1, .i32⟩
  | 104 => ⟨S4x2048x1, .i1⟩
  | 105 => ⟨S1x1x1, .i32⟩
  | 106 => ⟨S4x2048x1, .i32⟩
  | 107 => ⟨S4x2048x1, .i1⟩
  | 108 => ⟨S4x2048x1, .i1⟩
  | 109 => ⟨S_, .i1⟩
  | 110 => ⟨S4x2048, .i1⟩
  | 111 => ⟨S4x2048x6, .f32⟩
  | 112 => ⟨S4x2048x6, .i1⟩
  | 113 => ⟨S_, .f32⟩
  | 114 => ⟨S4x2048x6, .f32⟩
  | 115 => ⟨S4x2048x6, .f32⟩
  | 116 => ⟨S4x2048x1, .i32⟩
  | 117 => ⟨S_, .i32⟩
  | 118 => ⟨S4x2048x1, .i32⟩
  | 119 => ⟨S4x2048x1, .i1⟩
  | 120 => ⟨S_, .i32⟩
  | 121 => ⟨S4x2048x1, .i32⟩
  | 122 => ⟨S4x2048x1, .i32⟩
  | 123 => ⟨S4x2048x1, .i32⟩
  | 124 => ⟨S1, .i32⟩
  | 125 => ⟨S_, .i32⟩
  | 126 => ⟨S4x2048x1, .i32⟩
  | 127 => ⟨S4x2048x1, .i1⟩
  | _ => ⟨S4x20000x19, .f32⟩

abbrev hbmTy0_1 (i : Nat) : BufTy := match i % 128 with
  | 0 => ⟨S1x1x1, .i32⟩
  | 1 => ⟨S4x2048x1, .i32⟩
  | 2 => ⟨S4x2048x1, .i1⟩
  | 3 => ⟨S4x2048x1, .i1⟩
  | 4 => ⟨S_, .i1⟩
  | 5 => ⟨S4x2048, .i1⟩
  | 6 => ⟨S4x2048x3, .f32⟩
  | 7 => ⟨S4x2048x3, .i1⟩
  | 8 => ⟨S_, .f32⟩
  | 9 => ⟨S4x2048x3, .f32⟩
  | 10 => ⟨S4x2048x3, .f32⟩
  | 11 => ⟨S4x2048x6, .f32⟩
  | 12 => ⟨S4x2048x3, .f32⟩
  | 13 => ⟨S4x2048x3, .f32⟩
  | 14 => ⟨S4x2048x3, .f32⟩
  | 15 => ⟨S4x2048x3, .f32⟩
  | 16 => ⟨S4x2048x1, .f32⟩
  | 17 => ⟨S4x2048, .f32⟩
  | 18 => ⟨S4x2048x1, .f32⟩
  | 19 => ⟨S4x2048x8, .f32⟩
  | 20 => ⟨S4x8x2048, .f32⟩
  | 21 => ⟨S4x256x8, .f32⟩
  | 22 => ⟨S4x256x7, .f32⟩
  | 23 => ⟨S4x256x1, .f32⟩
  | 24 => ⟨S4x256, .f32⟩
  | 25 => ⟨S4x256, .i32⟩
  | _ => ⟨S4x20000x19, .f32⟩

abbrev hbmTy (i : Nat) : BufTy := match i / 128 with
  | 0 => hbmTy0_0 i
  | 1 => hbmTy0_1 i
  | _ => ⟨S4x20000x19, .f32⟩

abbrev bufTy : (tb : Table) → Fin (tcTables nBuf tb) → BufTy
  | .hbm, ⟨i, _⟩ => hbmTy i
  | .local _ .vmem, ⟨0, _⟩ => ⟨S1x2048x8, .f32⟩
  | .local _ .vmem, ⟨1, _⟩ => ⟨S1x2048x8, .f32⟩
  | .local _ .vmem, ⟨2, _⟩ => ⟨S1x8x2048, .f32⟩
  | .local _ .vmem, ⟨3, _⟩ => ⟨S1x8x2048, .f32⟩
  | .local _ .vmem, ⟨4, _⟩ => ⟨S1x256x8, .f32⟩
  | .local _ .vmem, ⟨5, _⟩ => ⟨S1x256x8, .f32⟩
  | .local _ .vmem, ⟨6, _⟩ => ⟨S256x256, .f32⟩
  | _, _ => ⟨S4x20000x19, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_v15 : Ref sig .tc := ⟨.hbm, 26, rfl⟩
abbrev main_values : Ref sig .tc := ⟨.hbm, 27, rfl⟩
abbrev main_indices : Ref sig .tc := ⟨.hbm, 28, rfl⟩
abbrev main_c : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_v5 : Ref sig .tc := ⟨.hbm, 38, rfl⟩
abbrev main_call1_v6 : Ref sig .tc := ⟨.hbm, 39, rfl⟩
abbrev main_call1_c_2 : Ref sig .tc := ⟨.hbm, 40, rfl⟩
abbrev main_call1_v7 : Ref sig .tc := ⟨.hbm, 41, rfl⟩
abbrev main_call1_v8 : Ref sig .tc := ⟨.hbm, 42, rfl⟩
abbrev main_call1_c_3 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_call2_c : Ref sig .tc := ⟨.hbm, 53, rfl⟩
abbrev main_call2_v0 : Ref sig .tc := ⟨.hbm, 54, rfl⟩
abbrev main_call2_v1 : Ref sig .tc := ⟨.hbm, 55, rfl⟩
abbrev main_call2_c_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_c_1 : Ref sig .tc := ⟨.hbm, 60, rfl⟩
abbrev main_call2_c_2 : Ref sig .tc := ⟨.hbm, 61, rfl⟩
abbrev main_call2_v5 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_call2_c_3 : Ref sig .tc := ⟨.hbm, 68, rfl⟩
abbrev main_call2_v11 : Ref sig .tc := ⟨.hbm, 69, rfl⟩
abbrev main_call2_v12 : Ref sig .tc := ⟨.hbm, 70, rfl⟩
abbrev main_call2_v13 : Ref sig .tc := ⟨.hbm, 71, rfl⟩
abbrev main_call2_cst : Ref sig .tc := ⟨.hbm, 72, rfl⟩
abbrev main_call2_v14 : Ref sig .tc := ⟨.hbm, 73, rfl⟩
abbrev main_v19 : Ref sig .tc := ⟨.hbm, 74, rfl⟩
abbrev main_c_4 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_v5 : Ref sig .tc := ⟨.hbm, 81, rfl⟩
abbrev main_call3_v6 : Ref sig .tc := ⟨.hbm, 82, rfl⟩
abbrev main_call3_v7 : Ref sig .tc := ⟨.hbm, 83, rfl⟩
abbrev main_call3_v8 : Ref sig .tc := ⟨.hbm, 84, rfl⟩
abbrev main_call3_c : Ref sig .tc := ⟨.hbm, 85, rfl⟩
abbrev main_call3_v9 : Ref sig .tc := ⟨.hbm, 86, rfl⟩
abbrev main_call3_v10 : Ref sig .tc := ⟨.hbm, 87, rfl⟩
abbrev main_call3_v11 : Ref sig .tc := ⟨.hbm, 88, rfl⟩
abbrev main_call3_c_0 : Ref sig .tc := ⟨.hbm, 89, rfl⟩
abbrev main_call3_v12 : Ref sig .tc := ⟨.hbm, 90, rfl⟩
abbrev main_call3_v13 : Ref sig .tc := ⟨.hbm, 91, rfl⟩
abbrev main_v20 : Ref sig .tc := ⟨.hbm, 92, rfl⟩
abbrev main_v21 : Ref sig .tc := ⟨.hbm, 93, rfl⟩
abbrev main_call4_c : Ref sig .tc := ⟨.hbm, 94, rfl⟩
abbrev main_call4_v0 : Ref sig .tc := ⟨.hbm, 95, rfl⟩
abbrev main_call4_v1 : Ref sig .tc := ⟨.hbm, 96, rfl⟩
abbrev main_call4_c_0 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_call4_c_1 : Ref sig .tc := ⟨.hbm, 101, rfl⟩
abbrev main_call4_c_2 : Ref sig .tc := ⟨.hbm, 102, rfl⟩
abbrev main_call4_v5 : Ref sig .tc := ⟨.hbm, 103, rfl⟩
abbrev main_call4_v6 : Ref sig .tc := ⟨.hbm, 104, rfl⟩
abbrev main_call4_v7 : Ref sig .tc := ⟨.hbm, 105, rfl⟩
abbrev main_call4_v8 : Ref sig .tc := ⟨.hbm, 106, rfl⟩
abbrev main_call4_v9 : Ref sig .tc := ⟨.hbm, 107, rfl⟩
abbrev main_call4_v10 : Ref sig .tc := ⟨.hbm, 108, rfl⟩
abbrev main_call4_c_3 : Ref sig .tc := ⟨.hbm, 109, rfl⟩
abbrev main_call4_v11 : Ref sig .tc := ⟨.hbm, 110, rfl⟩
abbrev main_call4_v12 : Ref sig .tc := ⟨.hbm, 111, rfl⟩
abbrev main_call4_v13 : Ref sig .tc := ⟨.hbm, 112, rfl⟩
abbrev main_call4_cst : Ref sig .tc := ⟨.hbm, 113, rfl⟩
abbrev main_call4_v14 : Ref sig .tc := ⟨.hbm, 114, rfl⟩
abbrev main_v22 : Ref sig .tc := ⟨.hbm, 115, rfl⟩
abbrev main_v23 : Ref sig .tc := ⟨.hbm, 116, rfl⟩
abbrev main_call5_c : Ref sig .tc := ⟨.hbm, 117, rfl⟩
abbrev main_call5_v0 : Ref sig .tc := ⟨.hbm, 118, rfl⟩
abbrev main_call5_v1 : Ref sig .tc := ⟨.hbm, 119, rfl⟩
abbrev main_call5_c_0 : Ref sig .tc := ⟨.hbm, 120, rfl⟩
abbrev main_call5_v2 : Ref sig .tc := ⟨.hbm, 121, rfl⟩
abbrev main_call5_v3 : Ref sig .tc := ⟨.hbm, 122, rfl⟩
abbrev main_call5_v4 : Ref sig .tc := ⟨.hbm, 123, rfl⟩
abbrev main_call5_c_1 : Ref sig .tc := ⟨.hbm, 124, rfl⟩
abbrev main_call5_c_2 : Ref sig .tc := ⟨.hbm, 125, rfl⟩
abbrev main_call5_v5 : Ref sig .tc := ⟨.hbm, 126, rfl⟩
abbrev main_call5_v6 : Ref sig .tc := ⟨.hbm, 127, rfl⟩
abbrev main_call5_v7 : Ref sig .tc := ⟨.hbm, 128, rfl⟩
abbrev main_call5_v8 : Ref sig .tc := ⟨.hbm, 129, rfl⟩
abbrev main_call5_v9 : Ref sig .tc := ⟨.hbm, 130, rfl⟩
abbrev main_call5_v10 : Ref sig .tc := ⟨.hbm, 131, rfl⟩
abbrev main_call5_c_3 : Ref sig .tc := ⟨.hbm, 132, rfl⟩
abbrev main_call5_v11 : Ref sig .tc := ⟨.hbm, 133, rfl⟩
abbrev main_call5_v12 : Ref sig .tc := ⟨.hbm, 134, rfl⟩
abbrev main_call5_v13 : Ref sig .tc := ⟨.hbm, 135, rfl⟩
abbrev main_call5_cst : Ref sig .tc := ⟨.hbm, 136, rfl⟩
abbrev main_call5_v14 : Ref sig .tc := ⟨.hbm, 137, rfl⟩
abbrev main_v24 : Ref sig .tc := ⟨.hbm, 138, rfl⟩
abbrev main_v25 : Ref sig .tc := ⟨.hbm, 139, rfl⟩
abbrev main_v26 : Ref sig .tc := ⟨.hbm, 140, rfl⟩
abbrev main_v27 : Ref sig .tc := ⟨.hbm, 141, rfl⟩
abbrev main_v28 : Ref sig .tc := ⟨.hbm, 142, rfl⟩
abbrev main_v29 : Ref sig .tc := ⟨.hbm, 143, rfl⟩
abbrev main_v30 : Ref sig .tc := ⟨.hbm, 144, rfl⟩
abbrev main_v31 : Ref sig .tc := ⟨.hbm, 145, rfl⟩
abbrev main_v32 : Ref sig .tc := ⟨.hbm, 146, rfl⟩
abbrev main_v33 : Ref sig .tc := ⟨.hbm, 147, rfl⟩
abbrev main_v34 : Ref sig .tc := ⟨.hbm, 148, rfl⟩
abbrev main_v35 : Ref sig .tc := ⟨.hbm, 149, rfl⟩
abbrev main_v36 : Ref sig .tc := ⟨.hbm, 150, rfl⟩
abbrev main_v37 : Ref sig .tc := ⟨.hbm, 151, rfl⟩
abbrev main_v38 : Ref sig .tc := ⟨.hbm, 152, rfl⟩
abbrev main_v39 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c256_i32 : BitVec 32 := 256#32
  let v114 : BitVec 32 := Scalar.addi c0_i32 c256_i32
  let c1_i32 : BitVec 32 := 1#32
  ⟨c0_i32, v114, c1_i32⟩
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let v2995 : Index := Scalar.indexCast arg5
  let c0_468 : Index := 0#32
  ![v2995.toNat, 0]
@[reducible] def k0_t2_loop : Scf.Loop 32 :=
  let c0_i32_39 : BitVec 32 := 0#32
  let c256_i32_40 : BitVec 32 := 256#32
  let v252 : BitVec 32 := Scalar.addi c0_i32_39 c256_i32_40
  let c1_i32_41 : BitVec 32 := 1#32
  ⟨c0_i32_39, v252, c1_i32_41⟩
def k0_off2 (k0_t2 : Fin k0_t2_loop.trips) : Fin 2 → Nat :=
  let c0_i32_39 : BitVec 32 := 0#32
  let c1_i32_41 : BitVec 32 := 1#32
  let arg5 : BitVec 32 := Scf.iv c0_i32_39 c1_i32_41 k0_t2
  let v2995 : Index := Scalar.indexCast arg5
  let c0_468 : Index := 0#32
  ![v2995.toNat, 0]
@[reducible] def k0_t3_loop : Scf.Loop 32 :=
  let c0_i32_67 : BitVec 32 := 0#32
  let c256_i32_68 : BitVec 32 := 256#32
  let v454 : BitVec 32 := Scalar.addi c0_i32_67 c256_i32_68
  let c1_i32_69 : BitVec 32 := 1#32
  ⟨c0_i32_67, v454, c1_i32_69⟩
def k0_off3 (k0_t3 : Fin k0_t3_loop.trips) : Fin 2 → Nat :=
  let c0_i32_67 : BitVec 32 := 0#32
  let c1_i32_69 : BitVec 32 := 1#32
  let arg5 : BitVec 32 := Scf.iv c0_i32_67 c1_i32_69 k0_t3
  let v2995 : Index := Scalar.indexCast arg5
  let c0_468 : Index := 0#32
  ![v2995.toNat, 0]
@[reducible] def k0_t4_loop : Scf.Loop 32 :=
  let c0_i32_102 : BitVec 32 := 0#32
  let c256_i32_103 : BitVec 32 := 256#32
  let v720 : BitVec 32 := Scalar.addi c0_i32_102 c256_i32_103
  let c1_i32_104 : BitVec 32 := 1#32
  ⟨c0_i32_102, v720, c1_i32_104⟩
def k0_off4 (k0_t4 : Fin k0_t4_loop.trips) : Fin 2 → Nat :=
  let c0_i32_102 : BitVec 32 := 0#32
  let c1_i32_104 : BitVec 32 := 1#32
  let arg5 : BitVec 32 := Scf.iv c0_i32_102 c1_i32_104 k0_t4
  let v2995 : Index := Scalar.indexCast arg5
  let c0_468 : Index := 0#32
  ![v2995.toNat, 0]
@[reducible] def k0_t5_loop : Scf.Loop 32 :=
  let c0_i32_144 : BitVec 32 := 0#32
  let c256_i32_145 : BitVec 32 := 256#32
  let v1050 : BitVec 32 := Scalar.addi c0_i32_144 c256_i32_145
  let c1_i32_146 : BitVec 32 := 1#32
  ⟨c0_i32_144, v1050, c1_i32_146⟩
def k0_off5 (k0_t5 : Fin k0_t5_loop.trips) : Fin 2 → Nat :=
  let c0_i32_144 : BitVec 32 := 0#32
  let c1_i32_146 : BitVec 32 := 1#32
  let arg5 : BitVec 32 := Scf.iv c0_i32_144 c1_i32_146 k0_t5
  let v2995 : Index := Scalar.indexCast arg5
  let c0_468 : Index := 0#32
  ![v2995.toNat, 0]
@[reducible] def k0_t6_loop : Scf.Loop 32 :=
  let c0_i32_193 : BitVec 32 := 0#32
  let c256_i32_194 : BitVec 32 := 256#32
  let v1444 : BitVec 32 := Scalar.addi c0_i32_193 c256_i32_194
  let c1_i32_195 : BitVec 32 := 1#32
  ⟨c0_i32_193, v1444, c1_i32_195⟩
def k0_off6 (k0_t6 : Fin k0_t6_loop.trips) : Fin 2 → Nat :=
  let c0_i32_193 : BitVec 32 := 0#32
  let c1_i32_195 : BitVec 32 := 1#32
  let arg5 : BitVec 32 := Scf.iv c0_i32_193 c1_i32_195 k0_t6
  let v2995 : Index := Scalar.indexCast arg5
  let c0_468 : Index := 0#32
  ![v2995.toNat, 0]
@[reducible] def k0_t7_loop : Scf.Loop 32 :=
  let c0_i32_249 : BitVec 32 := 0#32
  let c256_i32_250 : BitVec 32 := 256#32
  let v1902 : BitVec 32 := Scalar.addi c0_i32_249 c256_i32_250
  let c1_i32_251 : BitVec 32 := 1#32
  ⟨c0_i32_249, v1902, c1_i32_251⟩
def k0_off7 (k0_t7 : Fin k0_t7_loop.trips) : Fin 2 → Nat :=
  let c0_i32_249 : BitVec 32 := 0#32
  let c1_i32_251 : BitVec 32 := 1#32
  let arg5 : BitVec 32 := Scf.iv c0_i32_249 c1_i32_251 k0_t7
  let v2995 : Index := Scalar.indexCast arg5
  let c0_468 : Index := 0#32
  ![v2995.toNat, 0]
@[reducible] def k0_t8_loop : Scf.Loop 32 :=
  let c0_i32_312 : BitVec 32 := 0#32
  let c256_i32_313 : BitVec 32 := 256#32
  let v2424 : BitVec 32 := Scalar.addi c0_i32_312 c256_i32_313
  let c1_i32_314 : BitVec 32 := 1#32
  ⟨c0_i32_312, v2424, c1_i32_314⟩
def k0_off8 (k0_t8 : Fin k0_t8_loop.trips) : Fin 2 → Nat :=
  let c0_i32_312 : BitVec 32 := 0#32
  let c1_i32_314 : BitVec 32 := 1#32
  let arg5 : BitVec 32 := Scf.iv c0_i32_312 c1_i32_314 k0_t8
  let v2995 : Index := Scalar.indexCast arg5
  let c0_468 : Index := 0#32
  ![v2995.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4x20000x19 : Shape := ⟨3, ![4, 20000, 19]⟩
abbrev S4x20000x18x6 : Shape := ⟨4, ![4, 20000, 18, 6]⟩
abbrev S4x20000x6 : Shape := ⟨3, ![4, 20000, 6]⟩
abbrev S4x20000x3 : Shape := ⟨3, ![4, 20000, 3]⟩
abbrev S_ : Shape := ⟨0, ![]⟩
abbrev S4x20000 : Shape := ⟨2, ![4, 20000]⟩
abbrev S4x20000x1 : Shape := ⟨3, ![4, 20000, 1]⟩
abbrev S4x20000x18 : Shape := ⟨3, ![4, 20000, 18]⟩
abbrev S4x20000x1x6 : Shape := ⟨4, ![4, 20000, 1, 6]⟩
abbrev S4x20000x1x3 : Shape := ⟨4, ![4, 20000, 1, 3]⟩
abbrev S4x20000x18x3 : Shape := ⟨4, ![4, 20000, 18, 3]⟩
abbrev S20000x18 : Shape := ⟨2, ![20000, 18]⟩
abbrev S4x360000 : Shape := ⟨2, ![4, 360000]⟩
abbrev S4x2048 : Shape := ⟨2, ![4, 2048]⟩
abbrev S4x360000x6 : Shape := ⟨3, ![4, 360000, 6]⟩
abbrev S4x2048x1 : Shape := ⟨3, ![4, 2048, 1]⟩
abbrev S4x2048x6 : Shape := ⟨3, ![4, 2048, 6]⟩
abbrev S4 : Shape := ⟨1, ![4]⟩
abbrev S4x1 : Shape := ⟨2, ![4, 1]⟩
abbrev S4x2048x3 : Shape := ⟨3, ![4, 2048, 3]⟩
abbrev S4x2048x1x3 : Shape := ⟨4, ![4, 2048, 1, 3]⟩
abbrev S4x1x2048x3 : Shape := ⟨4, ![4, 1, 2048, 3]⟩
abbrev S4x2048x2048x3 : Shape := ⟨4, ![4, 2048, 2048, 3]⟩
abbrev S4x2048x2048x1 : Shape := ⟨4, ![4, 2048, 2048, 1]⟩
abbrev S4x2048x2048 : Shape := ⟨3, ![4, 2048, 2048]⟩
abbrev S4x1x2048 : Shape := ⟨3, ![4, 1, 2048]⟩
abbrev S2048 : Shape := ⟨1, ![2048]⟩
abbrev S1x2048 : Shape := ⟨2, ![1, 2048]⟩
abbrev S4x256 : Shape := ⟨2, ![4, 256]⟩
abbrev S4x256x1 : Shape := ⟨3, ![4, 256, 1]⟩
abbrev S4x256x6 : Shape := ⟨3, ![4, 256, 6]⟩
abbrev S4x256x7 : Shape := ⟨3, ![4, 256, 7]⟩

abbrev nBuf : Space → Nat
  | .hbm => 239
  | .vmem => 0
  | .smem => 0
  | _ => 0

abbrev hbmTy0_0 (i : Nat) : BufTy := match i % 128 with
  | 0 => ⟨S4x20000x19, .f32⟩
  | 1 => ⟨S4x20000x18x6, .f32⟩
  | 2 => ⟨S4x20000x6, .f32⟩
  | 3 => ⟨S4x20000x3, .f32⟩
  | 4 => ⟨S_, .f32⟩
  | 5 => ⟨S4x20000, .f32⟩
  | 6 => ⟨S_, .f32⟩
  | 7 => ⟨S4x20000, .f32⟩
  | 8 => ⟨S4x20000, .f32⟩
  | 9 => ⟨S4x20000x1, .f32⟩
  | 10 => ⟨S4x20000x19, .f32⟩
  | 11 => ⟨S4x20000x19, .f32⟩
  | 12 => ⟨S4x20000x19, .f32⟩
  | 13 => ⟨S_, .f32⟩
  | 14 => ⟨S4x20000, .f32⟩
  | 15 => ⟨S4x20000x1, .f32⟩
  | 16 => ⟨S4x20000x19, .f32⟩
  | 17 => ⟨S4x20000x19, .f32⟩
  | 18 => ⟨S4x20000x18, .f32⟩
  | 19 => ⟨S4x20000x1x6, .f32⟩
  | 20 => ⟨S4x20000x18x6, .f32⟩
  | 21 => ⟨S4x20000x18x6, .f32⟩
  | 22 => ⟨S4x20000x1x3, .f32⟩
  | 23 => ⟨S4x20000x18x3, .f32⟩
  | 24 => ⟨S4x20000x18x3, .f32⟩
  | 25 => ⟨S4x20000x18x3, .f32⟩
  | 26 => ⟨S4x20000x18x3, .f32⟩
  | 27 => ⟨S4x20000x18x3, .f32⟩
  | 28 => ⟨S4x20000x18x3, .f32⟩
  | 29 => ⟨S4x20000x18x6, .f32⟩
  | 30 => ⟨S_, .f32⟩
  | 31 => ⟨S4x20000x18, .f32⟩
  | 32 => ⟨S4x20000x18, .i1⟩
  | 33 => ⟨S_, .f32⟩
  | 34 => ⟨S_, .f32⟩
  | 35 => ⟨S20000x18, .f32⟩
  | 36 => ⟨S4x20000x18, .f32⟩
  | 37 => ⟨S4x20000x18, .f32⟩
  | 38 => ⟨S4x360000, .f32⟩
  | 39 => ⟨S4x2048, .f32⟩
  | 40 => ⟨S4x2048, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S4x2048, .i32⟩
  | 48 => ⟨S4x2048, .i32⟩
  | 49 => ⟨S_, .i32⟩
  | 50 => ⟨S4x2048, .i32⟩
  | 51 => ⟨S4x2048, .i1⟩
  | 52 => ⟨S_, .i32⟩
  | 53 => ⟨S4x2048, .i32⟩
  | 54 => ⟨S4x2048, .i1⟩
  | 55 => ⟨S_, .i32⟩
  | 56 => ⟨S_, .i1⟩
  | 57 => ⟨S4x2048, .i1⟩
  | 58 => ⟨S4x2048, .i1⟩
  | 59 => ⟨S4x2048, .i1⟩
  | 60 => ⟨S4x2048, .i32⟩
  | 61 => ⟨S4x2048, .i32⟩
  | 62 => ⟨S4x2048, .i32⟩
  | 63 => ⟨S4x360000x6, .f32⟩
  | 64 => ⟨S_, .i32⟩
  | 65 => ⟨S4x2048, .i32⟩
  | 66 => ⟨S4x2048, .i1⟩
  | 67 => ⟨S_, .i32⟩
  | 68 => ⟨S4x2048, .i32⟩
  | 69 => ⟨S4x2048, .i32⟩
  | 70 => ⟨S4x2048, .i32⟩
  | 71 => ⟨S4x2048x1, .i32⟩
  | 72 => ⟨S4x2048x6, .f32⟩
  | 73 => ⟨S4x2048x6, .f32⟩
  | 74 => ⟨S_, .f32⟩
  | 75 => ⟨S4, .f32⟩
  | 76 => ⟨S_, .f32⟩
  | 77 => ⟨S4, .f32⟩
  | 78 => ⟨S4, .f32⟩
  | 79 => ⟨S4x2048, .f32⟩
  | 80 => ⟨S_, .f32⟩
  | 81 => ⟨S4x2048, .f32⟩
  | 82 => ⟨S4x2048, .f32⟩
  | 83 => ⟨S4x1, .f32⟩
  | 84 => ⟨S4x2048, .f32⟩
  | 85 => ⟨S4x2048, .f32⟩
  | 86 => ⟨S4x2048x1, .f32⟩
  | 87 => ⟨S4x2048x6, .f32⟩
  | 88 => ⟨S4x2048x6, .f32⟩
  | 89 => ⟨S4x2048x3, .f32⟩
  | 90 => ⟨S4x2048x1x3, .f32⟩
  | 91 => ⟨S4x2048x3, .f32⟩
  | 92 => ⟨S4x1x2048x3, .f32⟩
  | 93 => ⟨S4x2048x2048x3, .f32⟩
  | 94 => ⟨S4x2048x2048x3, .f32⟩
  | 95 => ⟨S4x2048x2048x3, .f32⟩
  | 96 => ⟨S4x2048x3, .f32⟩
  | 97 => ⟨S4x2048x1x3, .f32⟩
  | 98 => ⟨S4x2048x3, .f32⟩
  | 99 => ⟨S4x1x2048x3, .f32⟩
  | 100 => ⟨S4x2048x2048x3, .f32⟩
  | 101 => ⟨S4x2048x2048x3, .f32⟩
  | 102 => ⟨S4x2048x2048x3, .f32⟩
  | 103 => ⟨S4x2048x2048x3, .f32⟩
  | 104 => ⟨S_, .f32⟩
  | 105 => ⟨S_, .f32⟩
  | 106 => ⟨S4x2048x2048x3, .f32⟩
  | 107 => ⟨S4x2048x2048x3, .f32⟩
  | 108 => ⟨S4x2048x2048x1, .f32⟩
  | 109 => ⟨S4x2048x2048, .f32⟩
  | 110 => ⟨S4x2048x2048x1, .f32⟩
  | 111 => ⟨S4x2048x2048, .f32⟩
  | 112 => ⟨S4x2048x2048, .f32⟩
  | 113 => ⟨S4x2048x2048x1, .f32⟩
  | 114 => ⟨S4x2048x2048, .f32⟩
  | 115 => ⟨S4x2048x2048, .f32⟩
  | 116 => ⟨S4x2048x3, .f32⟩
  | 117 => ⟨S4x2048x3, .f32⟩
  | 118 => ⟨S4x2048x3, .f32⟩
  | 119 => ⟨S_, .f32⟩
  | 120 => ⟨S_, .f32⟩
  | 121 => ⟨S4x2048x3, .f32⟩
  | 122 => ⟨S4x2048x3, .f32⟩
  | 123 => ⟨S4x2048x1, .f32⟩
  | 124 => ⟨S4x2048, .f32⟩
  | 125 => ⟨S4x2048x1, .f32⟩
  | 126 => ⟨S4x2048, .f32⟩
  | 127 => ⟨S4x2048, .f32⟩
  | _ => ⟨S4x20000x19, .f32⟩

abbrev hbmTy0_1 (i : Nat) : BufTy := match i % 128 with
  | 0 => ⟨S4x2048x1, .f32⟩
  | 1 => ⟨S4x2048, .f32⟩
  | 2 => ⟨S4x2048, .f32⟩
  | 3 => ⟨S4x2048x1, .f32⟩
  | 4 => ⟨S4x1x2048, .f32⟩
  | 5 => ⟨S4x2048x2048, .f32⟩
  | 6 => ⟨S4x2048x2048, .f32⟩
  | 7 => ⟨S4x2048x2048, .f32⟩
  | 8 => ⟨S4x2048x2048, .f32⟩
  | 9 => ⟨S_, .f32⟩
  | 10 => ⟨S4x2048x2048, .f32⟩
  | 11 => ⟨S4x2048x2048, .f32⟩
  | 12 => ⟨S4x2048x2048, .f32⟩
  | 13 => ⟨S_, .f32⟩
  | 14 => ⟨S4x2048, .f32⟩
  | 15 => ⟨S4x2048, .i1⟩
  | 16 => ⟨S2048, .i32⟩
  | 17 => ⟨S_, .i32⟩
  | 18 => ⟨S_, .i32⟩
  | 19 => ⟨S4x2048x2048, .f32⟩
  | 20 => ⟨S2048, .i32⟩
  | 21 => ⟨S_, .i32⟩
  | 22 => ⟨S_, .i32⟩
  | 23 => ⟨S4x2048, .i1⟩
  | 24 => ⟨S_, .i32⟩
  | 25 => ⟨S_, .i1⟩
  | 26 => ⟨S_, .i32⟩
  | 27 => ⟨S_, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S_, .i32⟩
  | 42 => ⟨S4x1, .i1⟩
  | 43 => ⟨S4, .i1⟩
  | 44 => ⟨S4x1, .i1⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S_, .i32⟩
  | 67 => ⟨S4x1x2048, .f32⟩
  | 68 => ⟨S4x2048, .f32⟩
  | 69 => ⟨S_, .f32⟩
  | 70 => ⟨S4x2048, .f32⟩
  | 71 => ⟨S4x2048, .i1⟩
  | 72 => ⟨S4x2048, .i1⟩
  | 73 => ⟨S4x2048, .i1⟩
  | 74 => ⟨S_, .i32⟩
  | 75 => ⟨S2048, .i32⟩
  | 76 => ⟨S2048, .i1⟩
  | 77 => ⟨S1x2048, .i1⟩
  | 78 => ⟨S4x2048, .i1⟩
  | 79 => ⟨S4x2048, .i1⟩
  | 80 => ⟨S4x2048, .i1⟩
  | 81 => ⟨S4x2048, .i1⟩
  | 82 => ⟨S_, .i32⟩
  | 83 => ⟨S_, .i32⟩
  | 84 => ⟨S_, .f32⟩
  | 85 => ⟨S_, .f32⟩
  | 86 => ⟨S2048, .f32⟩
  | 87 => ⟨S4x2048, .f32⟩
  | 88 => ⟨S4x2048, .f32⟩
  | 89 => ⟨S4x256, .f32⟩
  | 90 => ⟨S4x256, .i32⟩
  | 91 => ⟨S_, .i32⟩
  | 92 => ⟨S4x256, .i32⟩
  | 93 => ⟨S4x256, .i1⟩
  | 94 => ⟨S_, .i32⟩
  | 95 => ⟨S4x256, .i32⟩
  | 96 => ⟨S4x256, .i32⟩
  | 97 => ⟨S4x256, .i32⟩
  | 98 => ⟨S4x256x1, .i32⟩
  | 99 => ⟨S4x256x6, .f32⟩
  | 100 => ⟨S_, .i32⟩
  | 101 => ⟨S4x256, .i32⟩
  | 102 => ⟨S4x256, .i1⟩
  | 103 => ⟨S_, .i32⟩
  | 104 => ⟨S4x256, .i32⟩
  | 105 => ⟨S4x256, .i32⟩
  | 106 => ⟨S4x256, .i32⟩
  | 107 => ⟨S4x256x1, .i32⟩
  | 108 => ⟨S4x256, .i32⟩
  | 109 => ⟨S4x256x1, .f32⟩
  | 110 => ⟨S4x256x7, .f32⟩
  | _ => ⟨S4x20000x19, .f32⟩

abbrev hbmTy (i : Nat) : BufTy := match i / 128 with
  | 0 => hbmTy0_0 i
  | 1 => hbmTy0_1 i
  | _ => ⟨S4x20000x19, .f32⟩

abbrev bufTy : (tb : Table) → Fin (tcTables nBuf tb) → BufTy
  | .hbm, ⟨i, _⟩ => hbmTy i
  | _, _ => ⟨S4x20000x19, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v25 : Ref sig .tc := ⟨.hbm, 37, rfl⟩
abbrev main_v26 : Ref sig .tc := ⟨.hbm, 38, rfl⟩
abbrev main_values : Ref sig .tc := ⟨.hbm, 39, rfl⟩
abbrev main_indices : Ref sig .tc := ⟨.hbm, 40, rfl⟩
abbrev main_c : Ref sig .tc := ⟨.hbm, 41, rfl⟩
abbrev main_call1_v0 : Ref sig .tc := ⟨.hbm, 42, rfl⟩
abbrev main_call1_c : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_c_1 : Ref sig .tc := ⟨.hbm, 49, rfl⟩
abbrev main_call1_v5 : Ref sig .tc := ⟨.hbm, 50, rfl⟩
abbrev main_call1_v6 : Ref sig .tc := ⟨.hbm, 51, rfl⟩
abbrev main_call1_c_2 : Ref sig .tc := ⟨.hbm, 52, rfl⟩
abbrev main_call1_v7 : Ref sig .tc := ⟨.hbm, 53, rfl⟩
abbrev main_call1_v8 : Ref sig .tc := ⟨.hbm, 54, rfl⟩
abbrev main_call1_c_3 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_v27 : Ref sig .tc := ⟨.hbm, 62, rfl⟩
abbrev main_v28 : Ref sig .tc := ⟨.hbm, 63, rfl⟩
abbrev main_c_4 : Ref sig .tc := ⟨.hbm, 64, rfl⟩
abbrev main_v29 : Ref sig .tc := ⟨.hbm, 65, rfl⟩
abbrev main_v30 : Ref sig .tc := ⟨.hbm, 66, rfl⟩
abbrev main_c_5 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_6 : Ref sig .tc := ⟨.hbm, 74, rfl⟩
abbrev main_v37 : Ref sig .tc := ⟨.hbm, 75, rfl⟩
abbrev main_cst_7 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_cst_8 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_9 : Ref sig .tc := ⟨.hbm, 104, rfl⟩
abbrev main_call2_v0 : Ref sig .tc := ⟨.hbm, 105, rfl⟩
abbrev main_call2_v1 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_cst_10 : Ref sig .tc := ⟨.hbm, 119, rfl⟩
abbrev main_call3_v0 : Ref sig .tc := ⟨.hbm, 120, rfl⟩
abbrev main_call3_v1 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_cst_11 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_cst_12 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_c_13 : Ref sig .tc := ⟨.hbm, 145, rfl⟩
abbrev main_c_14 : Ref sig .tc := ⟨.hbm, 146, rfl⟩
abbrev main_v97_0 : Ref sig .tc := ⟨.hbm, 147, rfl⟩
abbrev main_v97_1 : Ref sig .tc := ⟨.hbm, 148, rfl⟩
abbrev main_v97_2 : Ref sig .tc := ⟨.hbm, 149, rfl⟩
abbrev main_v97_3 : Ref sig .tc := ⟨.hbm, 150, rfl⟩
abbrev main_v97_4 : Ref sig .tc := ⟨.hbm, 151, rfl⟩
abbrev main_while0c_c_26 : Ref sig .tc := ⟨.hbm, 152, rfl⟩
abbrev main_while0c_v115 : Ref sig .tc := ⟨.hbm, 153, rfl⟩
abbrev main_while0b_c_26 : Ref sig .tc := ⟨.hbm, 154, rfl⟩
abbrev main_while0b_v115 : Ref sig .tc := ⟨.hbm, 155, rfl⟩
abbrev main_while0b_v116 : Ref sig .tc := ⟨.hbm, 156, rfl⟩
abbrev main_while0b_c_27 : Ref sig .tc := ⟨.hbm, 157, rfl⟩
abbrev main_while0b_c_28 : Ref sig .tc := ⟨.hbm, 158, rfl⟩
abbrev main_while0b_v117 : Ref sig .tc := ⟨.hbm, 159, rfl⟩
abbrev main_while0b_c_29 : Ref sig .tc := ⟨.hbm, 160, rfl⟩
abbrev main_while0b_c_30 : Ref sig .tc := ⟨.hbm, 161, rfl⟩
abbrev main_while0b_v118 : Ref sig .tc := ⟨.hbm, 162, rfl⟩
abbrev main_while0b_c_31 : Ref sig .tc := ⟨.hbm, 163, rfl⟩
abbrev main_while0b_v119 : Ref sig .tc := ⟨.hbm, 164, rfl⟩
abbrev main_while0b_c_32 : Ref sig .tc := ⟨.hbm, 165, rfl⟩
abbrev main_while0b_v120 : Ref sig .tc := ⟨.hbm, 166, rfl⟩
abbrev main_while0b_c_33 : Ref sig .tc := ⟨.hbm, 167, rfl⟩
abbrev main_while0b_v121 : Ref sig .tc := ⟨.hbm, 168, rfl⟩
abbrev main_while0b_v122 : Ref sig .tc := ⟨.hbm, 169, rfl⟩
abbrev main_while0b_v123 : Ref sig .tc := ⟨.hbm, 170, rfl⟩
abbrev main_while0b_v124 : Ref sig .tc := ⟨.hbm, 171, rfl⟩
abbrev main_while0b_v125 : Ref sig .tc := ⟨.hbm, 172, rfl⟩
abbrev main_while0b_v126 : Ref sig .tc := ⟨.hbm, 173, rfl⟩
abbrev main_while0b_c_34 : Ref sig .tc := ⟨.hbm, 174, rfl⟩
abbrev main_while0b_c_35 : Ref sig .tc := ⟨.hbm, 175, rfl⟩
abbrev main_while0b_v127 : Ref sig .tc := ⟨.hbm, 176, rfl⟩
abbrev main_while0b_c_36 : Ref sig .tc := ⟨.hbm, 177, rfl⟩
abbrev main_while0b_c_37 : Ref sig .tc := ⟨.hbm, 178, rfl⟩
abbrev main_while0b_v128 : Ref sig .tc := ⟨.hbm, 179, rfl⟩
abbrev main_while0b_c_38 : Ref sig .tc := ⟨.hbm, 180, rfl⟩
abbrev main_while0b_v129 : Ref sig .tc := ⟨.hbm, 181, rfl⟩
abbrev main_while0b_c_39 : Ref sig .tc := ⟨.hbm, 182, rfl⟩
abbrev main_while0b_v130 : Ref sig .tc := ⟨.hbm, 183, rfl⟩
abbrev main_while0b_c_40 : Ref sig .tc := ⟨.hbm, 184, rfl⟩
abbrev main_while0b_v131 : Ref sig .tc := ⟨.hbm, 185, rfl⟩
abbrev main_while0b_v132 : Ref sig .tc := ⟨.hbm, 186, rfl⟩
abbrev main_while0b_c_41 : Ref sig .tc := ⟨.hbm, 187, rfl⟩
abbrev main_while0b_c_42 : Ref sig .tc := ⟨.hbm, 188, rfl⟩
abbrev main_while0b_v133 : Ref sig .tc := ⟨.hbm, 189, rfl⟩
abbrev main_while0b_c_43 : Ref sig .tc := ⟨.hbm, 190, rfl⟩
abbrev main_while0b_c_44 : Ref sig .tc := ⟨.hbm, 191, rfl⟩
abbrev main_while0b_v134 : Ref sig .tc := ⟨.hbm, 192, rfl⟩
abbrev main_while0b_c_45 : Ref sig .tc := ⟨.hbm, 193, rfl⟩
abbrev main_while0b_v135 : Ref sig .tc := ⟨.hbm, 194, rfl⟩
abbrev main_while0b_v136 : Ref sig .tc := ⟨.hbm, 195, rfl⟩
abbrev main_while0b_v137 : Ref sig .tc := ⟨.hbm, 196, rfl⟩
abbrev main_while0b_cst_46 : Ref sig .tc := ⟨.hbm, 197, rfl⟩
abbrev main_while0b_v138 : Ref sig .tc := ⟨.hbm, 198, rfl⟩
abbrev main_while0b_v139 : Ref sig .tc := ⟨.hbm, 199, rfl⟩
abbrev main_while0b_v140 : Ref sig .tc := ⟨.hbm, 200, rfl⟩
abbrev main_while0b_v141 : Ref sig .tc := ⟨.hbm, 201, rfl⟩
abbrev main_while0b_v142 : Ref sig .tc := ⟨.hbm, 202, rfl⟩
abbrev main_while0b_v143 : Ref sig .tc := ⟨.hbm, 203, rfl⟩
abbrev main_while0b_v144 : Ref sig .tc := ⟨.hbm, 204, rfl⟩
abbrev main_while0b_v145 : Ref sig .tc := ⟨.hbm, 205, rfl⟩
abbrev main_while0b_v146 : Ref sig .tc := ⟨.hbm, 206, rfl⟩
abbrev main_while0b_v147 : Ref sig .tc := ⟨.hbm, 207, rfl⟩
abbrev main_while0b_v148 : Ref sig .tc := ⟨.hbm, 208, rfl⟩
abbrev main_while0b_v149 : Ref sig .tc := ⟨.hbm, 209, rfl⟩
abbrev main_while0b_c_47 : Ref sig .tc := ⟨.hbm, 210, rfl⟩
abbrev main_while0b_v150 : Ref sig .tc := ⟨.hbm, 211, rfl⟩
abbrev main_cst_15 : Ref sig .tc := ⟨.hbm, 212, rfl⟩
abbrev main_call4_v0 : Ref sig .tc := ⟨.hbm, 213, rfl⟩
abbrev main_call4_v1 : Ref sig .tc := ⟨.hbm, 214, rfl⟩
abbrev main_call4_v2 : Ref sig .tc := ⟨.hbm, 215, rfl⟩
abbrev main_v98 : Ref sig .tc := ⟨.hbm, 216, rfl⟩
abbrev main_values_16 : Ref sig .tc := ⟨.hbm, 217, rfl⟩
abbrev main_indices_17 : Ref sig .tc := ⟨.hbm, 218, rfl⟩
abbrev main_c_18 : Ref sig .tc := ⟨.hbm, 219, rfl⟩
abbrev main_v99 : Ref sig .tc := ⟨.hbm, 220, rfl⟩
abbrev main_v100 : Ref sig .tc := ⟨.hbm, 221, rfl⟩
abbrev main_c_19 : Ref sig .tc := ⟨.hbm, 222, rfl⟩
abbrev main_v101 : Ref sig .tc := ⟨.hbm, 223, rfl⟩
abbrev main_v102 : Ref sig .tc := ⟨.hbm, 224, rfl⟩
abbrev main_v103 : Ref sig .tc := ⟨.hbm, 225, rfl⟩
abbrev main_v104 : Ref sig .tc := ⟨.hbm, 226, rfl⟩
abbrev main_v105 : Ref sig .tc := ⟨.hbm, 227, rfl⟩
abbrev main_c_20 : Ref sig .tc := ⟨.hbm, 228, rfl⟩
abbrev main_v106 : Ref sig .tc := ⟨.hbm, 229, rfl⟩
abbrev main_v107 : Ref sig .tc := ⟨.hbm, 230, rfl⟩
abbrev main_c_21 : Ref sig .tc := ⟨.hbm, 231, rfl⟩
abbrev main_v108 : Ref sig .tc := ⟨.hbm, 232, rfl⟩
abbrev main_v109 : Ref sig .tc := ⟨.hbm, 233, rfl⟩
abbrev main_v110 : Ref sig .tc := ⟨.hbm, 234, rfl⟩
abbrev main_v111 : Ref sig .tc := ⟨.hbm, 235, rfl⟩
abbrev main_v112 : Ref sig .tc := ⟨.hbm, 236, rfl⟩
abbrev main_v113 : Ref sig .tc := ⟨.hbm, 237, rfl⟩
abbrev main_v114 : Ref sig .tc := ⟨.hbm, 238, rfl⟩

abbrev nD : Nat := 1
abbrev τ : Topo := Topo.v7x

variable {F : FTy → Type} [FloatOps F]

abbrev main_while0_count : Scf.Loop 32 := ⟨0#32, 2048#32, 1#32⟩
-- ==== Proof.RefFrame.lean ====
/- The reference program's frame: no stretch of @main, and no operation of its loop, writes an argument, so each
   argument ends as it began; the program declares no semaphore. -/
module

public import proofs.«01_k».proof.Defs
public import proofs.«01_k».proof.Proof.Gen.ReferenceIdeal.Run
public import Idealize.ShloMosaic.Lib.Quiescent

@[expose] public section

set_option maxRecDepth 16384

noncomputable section

namespace Cert.ReferenceIdeal.Value

open Cert.ReferenceIdeal Cert.ReferenceIdeal.Gen
open Idealize.ShloMosaic Idealize.ShloMosaic.TcCoe
open Idealize.SL.Sem
open Idealize.ShloMosaic.StableHlo

variable {F : FTy → Type} [FloatOps F]

/-- A reference the condition and the body leave alone holds, at the loop's end, what it held before the loop. -/
theorem loop_keep (m : (ℓ : Loc nD τ sig) → Buf (Elt F) ℓ) (c : Dev nD) (r : Ref sig .tc) (h1 : r ∉ condOps_W) (h2 : r ∉ while0Ops0_W) :
    ∀ k, atK m k c (Proc.devRef .tc r) = entryContents preI m c (Proc.devRef .tc r)
  | 0 => rfl
  | k + 1 => by
    rw [← loop_keep m c r h1 h2 k, show atK m (k + 1) c = after while0Ops0 (after condOps (atK m k c)) from rfl]
    rw [after_of_writes_sub while0Ops0 _ while0Ops0_writes h2, after_of_writes_sub condOps _ condOps_writes h1]

/-- A reference the stretches before the loop leave alone holds, at the loop, what it held at the launch. -/
theorem pre_keep (m : (ℓ : Loc nD τ sig) → Buf (Elt F) ℓ) (c : Dev nD) (r : Ref sig .tc)
    (h : r ∉ hostOps0_W ∧ r ∉ hostOps0_1_W ∧ r ∉ hostOps0_2_W ∧ r ∉ hostOps0_3_W ∧ r ∉ hostOps0_4_W ∧ r ∉ hostOps0_5_W
      ∧ r ∉ hostOps0_6_W ∧ r ∉ hostOps0_7_W ∧ r ∉ hostOps0_8_W) :
    entryContents (F := F) preI m c (Proc.devRef .tc r) = m ((c.tc : Thread nD τ).loc r) := by
  obtain ⟨h0, h1, h2, h3, h4, h5, h6, h7, h8⟩ := h
  simp only [entryContents, preI, afterL_cons, afterL_nil]
  rw [after_of_writes_sub hostOps0_8 _ hostOps0_8_writes h8, after_of_writes_sub hostOps0_7 _ hostOps0_7_writes h7,
    after_of_writes_sub hostOps0_6 _ hostOps0_6_writes h6, after_of_writes_sub hostOps0_5 _ hostOps0_5_writes h5,
    after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

/-- The references the stretches after the loop write. -/
abbrev post_W : List (Ref sig .tc) :=
  [main_cst_15, main_call4_v0, main_call4_v1, main_call4_v2, main_v98, main_values_16, main_indices_17,
   main_c_18, main_v99, main_v100, main_c_19, main_v101, main_v102, main_v103, main_v104, main_v105, main_c_20,
   main_v106, main_v107, main_c_21, main_v108, main_v109, main_v110, main_v111, main_v112, main_v113, main_v114]

theorem post_writes : (postI (F := F)).flatten.Forall fun op => op.writes ⊆ (post_W.map (Proc.devRef (τ := τ) .tc)).toFinset :=
  StableHlo.forall_writes_sub_of_map rfl

theorem post_keep (V : Valuation τ sig (Elt F)) (r : Ref sig .tc) (h : r ∉ post_W) :
    afterL postI V (Proc.devRef .tc r) = V (Proc.devRef .tc r) := by
  rw [afterL_eq_after_flatten]
  exact after_of_writes_sub _ _ post_writes h

/-- An argument ends as it began. -/
theorem final_arg (m : (ℓ : Loc nD τ sig) → Buf (Elt F) ℓ) (c : Dev nD) (r : Ref sig .tc) (h1 : r ∉ condOps_W) (h2 : r ∉ while0Ops0_W)
    (h3 : r ∉ post_W)
    (h : r ∉ hostOps0_W ∧ r ∉ hostOps0_1_W ∧ r ∉ hostOps0_2_W ∧ r ∉ hostOps0_3_W ∧ r ∉ hostOps0_4_W ∧ r ∉ hostOps0_5_W
      ∧ r ∉ hostOps0_6_W ∧ r ∉ hostOps0_7_W ∧ r ∉ hostOps0_8_W) :
    finalContents condOps preI bodyI postI 2048 m c (Proc.devRef .tc r) = m ((c.tc : Thread nD τ).loc r) := by
  exact (post_keep _ r h3).trans ((after_of_writes_sub condOps _ condOps_writes h1).trans ((loop_keep m c r h1 h2 2048).trans (pre_keep m c r h)))

theorem final_args (m : (ℓ : Loc nD τ sig) → Buf (Elt F) ℓ) (c : Dev nD) :
    finalContents condOps preI bodyI postI 2048 m c (Proc.devRef .tc main_arg0) = m ((c.tc : Thread nD τ).loc main_arg0)
    ∧ finalContents condOps preI bodyI postI 2048 m c (Proc.devRef .tc main_arg1) = m ((c.tc : Thread nD τ).loc main_arg1)
    ∧ finalContents condOps preI bodyI postI 2048 m c (Proc.devRef .tc main_arg2) = m ((c.tc : Thread nD τ).loc main_arg2)
    ∧ finalContents condOps preI bodyI postI 2048 m c (Proc.devRef .tc main_arg3) = m ((c.tc : Thread nD τ).loc main_arg3) :=
  ⟨final_arg m c main_arg0 (by decide +kernel) (by decide +kernel) (by decide +kernel) (by decide +kernel),
   final_arg m c main_arg1 (by decide +kernel) (by decide +kernel) (by decide +kernel) (by decide +kernel),
   final_arg m c main_arg2 (by decide +kernel) (by decide +kernel) (by decide +kernel) (by decide +kernel),
   final_arg m c main_arg3 (by decide +kernel) (by decide +kernel) (by decide +kernel) (by decide +kernel)⟩

/-- The reference's run: its arguments unchanged, its results at the fold. -/
theorem run_args (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v114) = finalContents condOps preI bodyI postI 2048 m c (Proc.devRef .tc main_v114)
      ∧ r.2.mem ((c.tc : Thread nD τ).loc main_v112) = finalContents condOps preI bodyI postI 2048 m c (Proc.devRef .tc main_v112)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := F)) _ _).mono (fun r h c => by
    obtain ⟨a0, a1, a2, a3⟩ := final_args (F := F) m c
    exact ⟨h c main_v114 rfl, h c main_v112 rfl, (h c main_arg0 rfl).trans a0, (h c main_arg1 rfl).trans a1,
      (h c main_arg2 rfl).trans a2, (h c main_arg3 rfl).trans a3⟩) (run_fold m ρ)

end Cert.ReferenceIdeal.Value

namespace Cert.Proof

open Idealize.ShloMosaic Idealize.ShloMosaic.TcCoe Idealize.SL.Sem

theorem quiescent_reference : Cert.quiescent_ReferenceIdeal := fun m g _ =>
  (θ_run (Cert.ReferenceIdeal.defs (F := Ideal)) _ _).mono (fun r h =>
    ⟨fun c => (h c).2.2, sem_eq_zero_of_no_sems rfl r.2⟩) (Cert.ReferenceIdeal.Value.run_args m g)

end Cert.Proof

end
-- ==== Proof.PreFacts.lean ====
/- The shape relations the precondition's printed function states. -/
module

public import proofs.«01_k».proof.Pre_finite_boxes
public import Idealize.ShloMosaic.Lib.Decide

@[expose] public section

namespace Cert.Proof

open Idealize.ShloMosaic Cert.Pre_finite_boxes

theorem preFacts : Cert.Pre_finite_boxes.Facts where
  bcast_S_S4x20000x18x6 := by decide
  reducesTo_S4x20000x18x6_S_d0_1_2_3 := by decide
  h_S_ := by decide
  bcast_S_S4x20000x6 := by decide
  reducesTo_S4x20000x6_S_d0_1_2 := by decide
  bcast_S_S4x20000x3 := by decide
  reducesTo_S4x20000x3_S_d0_1_2 := by decide

instance : Cert.Pre_finite_boxes.Facts := preFacts

end Cert.Proof

end
-- ==== Proof.Greedy.lean ====
/- Greedy suppression over the positions 0, 1, 2, …: the set a first-come scan keeps, and that a scan run position by
   position, on all the positions or on one tile after the tiles before it, arrives at that set. -/
module

public import Mathlib.Data.Nat.Count
public import Mathlib.Order.Fin.Basic
public import Mathlib.Order.WellFounded
public import Mathlib.Data.Fintype.Order

@[expose] public section

namespace Cert.Nms

/-- Position `j` is kept: it is valid, and no kept position before it overlaps it. -/
def Keep (valid : ℕ → Prop) (ov : ℕ → ℕ → Prop) (j : ℕ) : Prop :=
  valid j ∧ ∀ i, (_ : i < j) → Keep valid ov i → ¬ ov i j
termination_by j

theorem keep_iff (valid : ℕ → Prop) (ov : ℕ → ℕ → Prop) (j : ℕ) :
    Keep valid ov j ↔ valid j ∧ ∀ i, i < j → Keep valid ov i → ¬ ov i j := by
  rw [Keep]

/-- Two descriptions of validity and overlap which agree below `n` keep the same positions below `n`. -/
theorem keep_congr {valid valid' : ℕ → Prop} {ov ov' : ℕ → ℕ → Prop} (n : ℕ) (hv : ∀ j, j < n → (valid j ↔ valid' j))
    (ho : ∀ i j, i < j → j < n → (ov i j ↔ ov' i j)) (j : ℕ) (hj : j < n) : Keep valid ov j ↔ Keep valid' ov' j := by
  induction j using Nat.strong_induction_on with
  | _ j ih =>
    rw [keep_iff, keep_iff, hv j hj]
    refine and_congr_right fun _ => forall_congr' fun i => ?_
    refine forall_congr' fun hi => ?_
    rw [ih i hi (hi.trans hj), ho i j hi hj]

/-- The scan: at trip `k` position `k`, if still alive, strikes out every later position it overlaps. Before trip
    `k` the positions alive are the valid ones which no kept position below `k` strikes. -/
theorem scan_iff (valid : ℕ → Prop) (ov : ℕ → ℕ → Prop) (n : ℕ) (P : ℕ → ℕ → Prop) (h0 : ∀ j, j < n → (P 0 j ↔ valid j))
    (hs : ∀ k j, k < n → j < n → (P (k + 1) j ↔ P k j ∧ ¬ (P k k ∧ ov k j ∧ k < j))) :
    ∀ k, k ≤ n → ∀ j, j < n → (P k j ↔ valid j ∧ ∀ i, i < j → i < k → Keep valid ov i → ¬ ov i j)
  | 0, _, j, hj => by rw [h0 j hj]; simp
  | k + 1, hk, j, hj => by
    have ih := scan_iff valid ov n P h0 hs k (by omega)
    rw [hs k j (by omega) hj, ih j hj]
    have hkk : P k k ↔ Keep valid ov k := by
      rw [ih k (by omega), keep_iff]
      exact and_congr_right fun _ => forall_congr' fun i => ⟨fun h hi => h hi hi, fun h hi _ => h hi⟩
    rw [hkk]
    constructor
    · rintro ⟨⟨hv, h⟩, hn⟩
      refine ⟨hv, fun i hij hik hK ho => ?_⟩
      rcases Nat.lt_succ_iff_lt_or_eq.mp hik with h' | rfl
      · exact h i hij h' hK ho
      · exact hn ⟨hK, ho, hij⟩
    · rintro ⟨hv, h⟩
      exact ⟨⟨hv, fun i hij hik => h i hij (by omega)⟩, fun ⟨hK, ho, hkj⟩ => h k hkj (by omega) hK ho⟩

/-- After every trip the positions alive are the kept ones. -/
theorem scan_keep (valid : ℕ → Prop) (ov : ℕ → ℕ → Prop) (n : ℕ) (P : ℕ → ℕ → Prop) (h0 : ∀ j, j < n → (P 0 j ↔ valid j))
    (hs : ∀ k j, k < n → j < n → (P (k + 1) j ↔ P k j ∧ ¬ (P k k ∧ ov k j ∧ k < j))) (j : ℕ) (hj : j < n) :
    P n j ↔ Keep valid ov j := by
  rw [scan_iff valid ov n P h0 hs n le_rfl j hj, keep_iff]
  exact and_congr_right fun _ => forall_congr' fun i => ⟨fun h hi => h hi (by omega), fun h hi _ => h hi⟩

/-- A tile's own greedy set, over the positions no earlier kept position strikes, is the whole greedy set there. -/
theorem keep_tile (valid : ℕ → Prop) (ov : ℕ → ℕ → Prop) (o j : ℕ) :
    Keep (fun j => valid (o + j) ∧ ∀ i, i < o → Keep valid ov i → ¬ ov i (o + j)) (fun i j => ov (o + i) (o + j)) j
      ↔ Keep valid ov (o + j) := by
  induction j using Nat.strong_induction_on with
  | _ j ih =>
    rw [keep_iff, keep_iff valid ov (o + j)]
    constructor
    · rintro ⟨⟨hv, h1⟩, h2⟩
      refine ⟨hv, fun i hi hK => ?_⟩
      rcases Nat.lt_or_ge i o with h | h
      · exact h1 i h hK
      · obtain ⟨d, rfl⟩ := Nat.exists_eq_add_of_le h
        exact h2 d (by omega) ((ih d (by omega)).mpr hK)
    · rintro ⟨hv, h⟩
      exact ⟨⟨hv, fun i hi => h i (by omega)⟩, fun i hi hK => h (o + i) (by omega) ((ih i hi).mp hK)⟩

/-! ## Where each position goes: the kept ones first, each class in its own order -/

section place
variable (K : ℕ → Prop) [DecidablePred K]

/-- The place of position `j` among `n`: a kept position after the kept ones before it, any other after all the kept
    ones and the others before it. -/
def place (n j : ℕ) : ℕ := if K j then Nat.count K j else Nat.count K n + Nat.count (fun i => ¬ K i) j

theorem count_add_count_not (j : ℕ) : Nat.count K j + Nat.count (fun i => ¬ K i) j = j := by
  induction j with
  | zero => simp
  | succ j ih => rw [Nat.count_succ, Nat.count_succ]; split_ifs <;> simp_all <;> omega

theorem place_lt (n j : ℕ) (hj : j < n) : place K n j < n := by
  unfold place
  have h1 := count_add_count_not K n
  have h2 := count_add_count_not K j
  split_ifs with h
  · have : Nat.count K j < Nat.count K n := Nat.count_strict_mono h hj
    omega
  · have : Nat.count (fun i => ¬ K i) j < Nat.count (fun i => ¬ K i) n := Nat.count_strict_mono (p := fun i => ¬ K i) h hj
    omega

theorem place_lt_total_iff (n j : ℕ) (hj : j < n) : place K n j < Nat.count K n ↔ K j := by
  unfold place
  split_ifs with h
  · simp only [h, iff_true]; exact Nat.count_strict_mono h hj
  · simp only [h, iff_false]; omega

/-- Kept before not kept, and within a class the lower position first. -/
theorem place_strict (n : ℕ) (i j : ℕ) (hi : i < n) (h : (K i ∧ ¬ K j) ∨ ((K i ↔ K j) ∧ i < j)) :
    place K n i < place K n j := by
  unfold place
  rcases h with ⟨h1, h2⟩ | ⟨h, hij⟩
  · rw [if_pos h1, if_neg h2]
    have := Nat.count_strict_mono h1 hi
    omega
  · by_cases hK : K i
    · rw [if_pos hK, if_pos (h.mp hK)]; exact Nat.count_strict_mono hK hij
    · rw [if_neg hK, if_neg (fun x => hK (h.mpr x))]
      have := Nat.count_strict_mono (p := fun i => ¬ K i) hK hij
      omega

end place

/-- A strictly monotone map of `Fin n` to itself is the identity. -/
theorem strictMono_fin_id {n : ℕ} (f : Fin n → Fin n) (h : StrictMono f) (r : Fin n) : f r = r := by
  exact le_antisymm h.apply_le h.le_apply

end Cert.Nms

end
-- ==== Proof.StableTop.lean ====
/- The stable sort by a linearly ordered key, greatest first: equal keys keep the order of their positions; and what
   `Host.topK` along the last axis of a matrix reads at a place of its result. -/
module

public import Idealize.ShloMosaic.Lib.SortFacts
public import Idealize.ShloMosaic.Lib.ValueIdx
public import Idealize.ShloMosaic.PureOps.Ideal
public import proofs.«01_k».proof.Proof.Greedy

@[expose] public section

namespace Cert.Nms

open Idealize.ShloMosaic

/-- `a` stands before `b`: the greater key, or an equal key and the lower position. -/
def Lex {α : Type} [LinearOrder α] {n : ℕ} (x : Fin n → α) (a b : Fin n) : Prop := x b < x a ∨ (x a = x b ∧ a < b)

theorem lex_insert {α : Type} [LinearOrder α] {n : ℕ} (x : Fin n → α) (a : Fin n) (l : List (Fin n)) (hl : l.Pairwise (Lex x))
    (ha : ∀ c ∈ l, a < c) : (insertBefore (fun a b => decide (x b < x a)) a l).Pairwise (Lex x) := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem _ hc)⟩
      rcases List.mem_cons.mp ((perm_insertBefore _ a l).mem_iff.mp hc) with rfl | hc'
      · exact Or.inl (of_decide_eq_true h)
      · exact hl.1 c hc'
    · rename_i h
      have hba : x b ≤ x a := not_lt.mp fun hlt => h (decide_eq_true hlt)
      have hab : Lex x a b := by
        rcases lt_or_eq_of_le hba with h' | h'
        · exact Or.inl h'
        · exact Or.inr ⟨h'.symm, ha b List.mem_cons_self⟩
      refine List.pairwise_cons.mpr ⟨fun c hc => ?_, List.pairwise_cons.mpr hl⟩
      rcases List.mem_cons.mp hc with rfl | hc'
      · exact hab
      · rcases hl.1 c hc' with h1 | ⟨h1, _⟩
        · exact Or.inl (lt_of_lt_of_le h1 hba)
        · rcases lt_or_eq_of_le hba with h2 | h2
          · exact Or.inl (by rw [← h1]; exact h2)
          · exact Or.inr ⟨by rw [← h1, h2], ha c hc⟩

theorem lex_sort {α : Type} [LinearOrder α] {n : ℕ} (x : Fin n → α) (l : List (Fin n)) (hl : l.Pairwise (· < ·)) :
    (stableSort (fun a b => decide (x b < x a)) l).Pairwise (Lex x) := by
  induction l with
  | nil => exact List.Pairwise.nil
  | cons a l ih =>
    rw [List.pairwise_cons] at hl
    unfold stableSort
    exact lex_insert x a _ (ih hl.2) fun c hc => hl.1 c ((perm_stableSort _ l).mem_iff.mp hc)

/-- The position whose element a stable sort by `x`, greatest first, puts at place `r`. -/
def top {α : Type} [LinearOrder α] {n : ℕ} (x : Fin n → α) (r : Fin n) : Fin n := sortedFrom (fun a b => decide (x b < x a)) r

theorem lex_top {α : Type} [LinearOrder α] {n : ℕ} (x : Fin n → α) (i j : Fin n) (h : i < j) : Lex x (top x i) (top x j) := by
  have hp := List.pairwise_iff_get.mp (lex_sort x (List.finRange n) (List.pairwise_lt_finRange n))
  exact hp (i.cast (length_sortPositions n _).symm) (j.cast (length_sortPositions n _).symm) h

theorem top_antitone {α : Type} [LinearOrder α] {n : ℕ} (x : Fin n → α) (i j : Fin n) (h : i ≤ j) : x (top x j) ≤ x (top x i) := by
  rcases lt_or_eq_of_le h with h | rfl
  · rcases lex_top x i j h with h | ⟨h, _⟩
    · exact h.le
    · exact h.ge
  · exact le_rfl

theorem top_injective {α : Type} [LinearOrder α] {n : ℕ} (x : Fin n → α) : Function.Injective (top x) := sortedFrom_injective _
theorem top_surjective {α : Type} [LinearOrder α] {n : ℕ} (x : Fin n → α) : Function.Surjective (top x) := sortedFrom_surjective _

/-- A numbering of the positions below `n` that ascends along the sort is the place in the sort. -/
theorem place_top {α : Type} [LinearOrder α] {n : ℕ} (x : Fin n → α) (p : Fin n → ℕ) (hp : ∀ j, p j < n)
    (h : ∀ i j, Lex x i j → p i < p j) (r : Fin n) : p (top x r) = r.val := by
  have := strictMono_fin_id (fun r => (⟨p (top x r), hp _⟩ : Fin n)) (fun i j hij => h _ _ (lex_top x i j hij)) r
  exact congrArg Fin.val this

/-- A score that is the sorted score where the position is kept and −1 elsewhere, the kept ones' scores positive and
    descending: its stable sort lists the kept positions first, each class in its own order. -/
theorem place_of_kept {n : ℕ} (s : Fin n → EReal) (K : ℕ → Prop) [DecidablePred K] (hs : ∀ i j, i ≤ j → s j ≤ s i)
    (hpos : ∀ i : Fin n, K i.val → 0 < s i) (neg : EReal) (hneg : neg < 0) (r : Fin n) :
    place K n (top (fun j : Fin n => if K j.val then s j else neg) r).val = r.val := by
  refine place_top (fun j : Fin n => if K j.val then s j else neg) (fun j => place K n j.val) (fun j => place_lt K n j.val j.isLt) ?_ r
  intro i j h
  refine place_strict K n i.val j.val i.isLt ?_
  unfold Lex at h
  by_cases hi : K i.val <;> by_cases hj : K j.val <;> simp only [hi, hj, if_true, if_false] at h
  · refine Or.inr ⟨by simp [hi, hj], ?_⟩
    rcases h with h | ⟨_, h⟩
    · by_contra hc
      exact absurd (hs j i (not_lt.mp hc)) (not_le.mpr h)
    · exact h
  · exact Or.inl ⟨hi, hj⟩
  · exfalso
    rcases h with h | ⟨h, _⟩
    · exact absurd (h.trans hneg) (not_lt.mpr (hpos j hj).le)
    · exact absurd (h ▸ hneg) (not_lt.mpr (hpos j hj).le)
  · refine Or.inr ⟨by simp [hi, hj], ?_⟩
    rcases h with h | ⟨_, h⟩
    · exact absurd h (lt_irrefl _)
    · exact h

end Cert.Nms

end
-- ==== Proof.Ind.lean ====
module

public import proofs.«01_k».proof.Proof.Greedy
public import Idealize.ShloMosaic.Lib.ValueIdx
public import Idealize.ShloMosaic.Lib.IdealHost

/-!
Indicators among the extended reals: how a printed mask becomes one, their products, their sums as counts.
-/

@[expose] public section

noncomputable section

namespace Cert.Nms

open Idealize.ShloMosaic
open scoped Classical

/-- `1` where the proposition holds, `0` elsewhere. -/
def ind (p : Prop) : EReal := if p then 1 else 0

/-- A natural number as an extended real. -/
def nat (n : ℕ) : EReal := ((n : ℝ) : EReal)

theorem ind_true {p : Prop} (h : p) : ind p = 1 := if_pos h
theorem ind_false {p : Prop} (h : ¬ p) : ind p = 0 := if_neg h
theorem ind_congr {p q : Prop} (h : p ↔ q) : ind p = ind q := by rw [propext h]

theorem ind_mul (p q : Prop) : ind p * ind q = ind (p ∧ q) := by
  by_cases hp : p <;> by_cases hq : q <;> simp [ind, hp, hq]

theorem one_sub_ind (p : Prop) : 1 - ind p = ind (¬ p) := by
  by_cases hp : p
  · rw [ind_true hp, ind_false (not_not.mpr hp)]; exact EReal.sub_self (by decide) (by decide)
  · rw [ind_false hp, ind_true hp]; exact sub_zero 1

theorem ind_pos (p : Prop) : 0 < ind p ↔ p := by by_cases hp : p <;> simp [ind, hp]

theorem nat_zero : nat 0 = 0 := by simp [nat]
theorem nat_add (a b : ℕ) : nat a + nat b = nat (a + b) := by simp [nat, EReal.coe_add]
theorem nat_inj {a b : ℕ} : nat a = nat b ↔ a = b := by simp [nat]
theorem nat_lt {a b : ℕ} : nat a < nat b ↔ a < b := by simp [nat]
theorem nat_nonpos {a : ℕ} : nat a ≤ 0 ↔ a = 0 := by
  rw [← nat_zero]; simp [nat]
theorem nat_sub_one (a : ℕ) : nat (a + 1) - 1 = nat a := by
  unfold nat
  rw [show (1 : EReal) = ((1 : ℝ) : EReal) from rfl, ← EReal.coe_sub]; exact congrArg _ (by push_cast; ring)
theorem ind_eq_nat (p : Prop) : ind p = nat (if p then 1 else 0) := by by_cases h : p <;> simp [ind, nat, h]

/-- How many of the first `n` positions have a property. -/
def cnt (p : ℕ → Prop) (n : ℕ) : ℕ := Nat.count p n

theorem cnt_zero (p : ℕ → Prop) : cnt p 0 = 0 := Nat.count_zero p
theorem cnt_add (p : ℕ → Prop) (a b : ℕ) : cnt p (a + b) = cnt p a + cnt (fun k => p (a + k)) b := Nat.count_add p a b
theorem cnt_succ (p : ℕ → Prop) (n : ℕ) : cnt p (n + 1) = cnt p n + if p n then 1 else 0 := Nat.count_succ p n

/-- A sum of indicators is a count. -/
theorem sum_ind (n : ℕ) (p : ℕ → Prop) : ∑ k : Fin n, ind (p k.val) = nat (cnt p n) := by
  induction n with
  | zero => simp [nat, cnt]
  | succ n ih => rw [Fin.sum_univ_castSucc, cnt_succ, ← nat_add, ← ind_eq_nat]; exact congrArg (· + _) ih

theorem cnt_congr (n : ℕ) (p q : ℕ → Prop) (h : ∀ k, k < n → (p k ↔ q k)) : cnt p n = cnt q n := by
  unfold cnt
  rw [Nat.count_eq_card_filter_range, Nat.count_eq_card_filter_range]
  exact congrArg _ (Finset.filter_congr fun k hk => h k (Finset.mem_range.mp hk))

theorem cnt_eq_zero (n : ℕ) (p : ℕ → Prop) : cnt p n = 0 ↔ ∀ k, k < n → ¬ p k := by
  unfold cnt
  rw [Nat.count_eq_card_filter_range, Finset.card_eq_zero, Finset.filter_eq_empty_iff]
  exact ⟨fun h k hk => h (Finset.mem_range.mpr hk), fun h k hk => h k (Finset.mem_range.mp hk)⟩

/-- The count of the positions up to `j`. -/
theorem cnt_upto (n : ℕ) (p : ℕ → Prop) (j : ℕ) (hj : j < n) : cnt (fun k => p k ∧ k ≤ j) n = cnt p (j + 1) := by
  obtain ⟨m, rfl⟩ : ∃ m, n = (j + 1) + m := ⟨n - (j + 1), by omega⟩
  rw [cnt_add, (cnt_eq_zero m _).mpr (fun k _ h => by omega), Nat.add_zero]
  exact cnt_congr _ _ _ fun k hk => ⟨fun h => h.1, fun h => ⟨h, by omega⟩⟩

/-- A sum against the indicator of one place is the term there. -/
theorem sum_single {n : ℕ} (f : Fin n → EReal) (p : Fin n → Prop) (k : Fin n) (hk : p k) (hu : ∀ j, p j → j = k) :
    ∑ j : Fin n, ind (p j) * f j = f k := by
  rw [Finset.sum_eq_single k]
  · rw [ind_true hk, one_mul]
  · intro j _ hj; rw [ind_false (fun h => hj (hu j h)), zero_mul]
  · intro h; exact absurd (Finset.mem_univ k) h

theorem sum_none {n : ℕ} (f : Fin n → EReal) (p : Fin n → Prop) (hp : ∀ j, ¬ p j) :
    ∑ j : Fin n, ind (p j) * f j = 0 := by
  refine Finset.sum_eq_zero fun j _ => ?_
  rw [ind_false (hp j), zero_mul]

/-! ## Printed masks -/

theorem sel_apply {s : Shape} {α : Type} (c : IVec s 1) (a b : s.Idx → α) (i : s.Idx) :
    select c a b i = if c i = 1#1 then a i else b i := by
  show Scalar.select (c i) (a i) (b i) = _
  unfold Scalar.select
  exact if_congr (iff_of_eq (congrArg (c i = ·) (by decide))) rfl rfl

/-- A mask widened and converted is its indicator. -/
theorem mask_apply {s : Shape} (b : IVec s 1) (h : 1 < 32) (i : s.Idx) :
    (sitofp .f32 (extui 32 b h) : FVec Ideal s .f32) i = ind (b i = 1#1) := by
  show (((BitVec.setWidth 32 (b i)).toInt : ℝ) : EReal) = _
  rcases (by decide +revert : ∀ x : BitVec 1, x = 0#1 ∨ x = 1#1) (b i) with h | h <;> rw [h] <;> simp [ind]

theorem ofBool_one (p : Prop) [Decidable p] : BitVec.ofBool (decide p) = 1#1 ↔ p := by
  by_cases h : p <;> simp [h]

theorem ofBool_one' (b : Bool) : BitVec.ofBool b = 1#1 ↔ b = true := by cases b <;> simp

theorem toInt_small (n : ℕ) (h : n < 2 ^ 31) : (BitVec.ofNat 32 n).toInt = n := by
  rw [BitVec.toInt_eq_toNat_of_lt (by rw [BitVec.toNat_ofNat]; omega), BitVec.toNat_ofNat, Nat.mod_eq_of_lt (by omega)]

theorem gt_one {s : Shape} (a b : FVec Ideal s .f32) (i : s.Idx) : cmpf .ogt a b i = 1#1 ↔ b i < a i := ofBool_one _
theorem lt_one {s : Shape} (a b : FVec Ideal s .f32) (i : s.Idx) : cmpf .olt a b i = 1#1 ↔ a i < b i := ofBool_one _
theorem eq_one {s : Shape} (a b : FVec Ideal s .f32) (i : s.Idx) : cmpf .oeq a b i = 1#1 ↔ a i = b i := ofBool_one _
theorem le_one {s : Shape} (a b : FVec Ideal s .f32) (i : s.Idx) : cmpf .ole a b i = 1#1 ↔ a i ≤ b i := ofBool_one _

theorem sel_gt {s : Shape} (a b x y : FVec Ideal s .f32) (i : s.Idx) : select (cmpf .ogt a b) x y i = if b i < a i then x i else y i :=
  (sel_apply _ _ _ _).trans (if_congr (gt_one a b i) rfl rfl)
theorem sel_lt {s : Shape} (a b x y : FVec Ideal s .f32) (i : s.Idx) : select (cmpf .olt a b) x y i = if a i < b i then x i else y i :=
  (sel_apply _ _ _ _).trans (if_congr (lt_one a b i) rfl rfl)

theorem and_one (x y : BitVec 1) : x &&& y = 1#1 ↔ x = 1#1 ∧ y = 1#1 := by decide +revert
theorem not_one (x : BitVec 1) : ~~~x = 1#1 ↔ ¬ x = 1#1 := by decide +revert

theorem neg_inf : Ideal.ofBits .f32 0xFF800000#32 = ⊥ := by simp [Ideal.ofBits, Ideal.ieee]

/-- The greatest of a family that has one value among the indices of interest and `0` elsewhere. -/
theorem fold_max_ind {ι : Type} [Fintype ι] (f : ι → EReal) (p : Prop) (hle : ∀ i, f i ≤ ind p) (hex : ∃ i, ind p ≤ f i) :
    (Finset.univ : Finset ι).fold max ⊥ f = ind p := by
  refine le_antisymm ((Finset.fold_max_le _).mpr ⟨bot_le, fun i _ => hle i⟩) ?_
  obtain ⟨i, hi⟩ := hex
  exact (Finset.le_fold_max _).mpr (Or.inr ⟨i, Finset.mem_univ i, hi⟩)

end Cert.Nms

end
-- ==== Proof.HostOps.lean ====
module

public import proofs.«01_k».proof.Proof.StableTop
public import proofs.«01_k».proof.Proof.Ind
public import Idealize.ShloMosaic.Lib.ReduceAll
public import Idealize.ShloMosaic.Lib.Affine
public import Idealize.ShloMosaic.Lib.ValueLayout
public import Idealize.ShloMosaic.Lib.IdealHost
public import Idealize.ShloMosaic.Lib.StableHlo.Predicate
public import Idealize.ShloMosaic.Lib.Pipeline.Value

/-!
What the host operations around a selection read at an index: a top-k, a gather along the second axis, a floor
division and a remainder by 18, and the test that an index lies in range.
-/

@[expose] public section

set_option maxRecDepth 16384

noncomputable section

namespace Cert.Nms

open Idealize.ShloMosaic Idealize.ShloMosaic.ValueIdx

/-- The rank-0 shape. -/
abbrev S0 : Shape := ⟨0, ![]⟩

/-- A top-k of the rows of a matrix: values and positions. -/
theorem topK_apply {a n k : ℕ} (hk : k ≤ n) (X : FVec Ideal ⟨2, ![a, n]⟩ .f32) (h : (⟨2, ![a, n]⟩ : Shape).Slices (fun _ => 0) ⟨2, ![a, k]⟩)
    (b : Fin a) (r : Fin k) :
    (Host.topK ⟨2, ![a, k]⟩ 1 (FloatOps.cmpfTotal (F := Ideal) (φ := .f32) .gt) X h).1 (ValueIdx.ix2 b r) = X (ValueIdx.ix2 b (top (fun j => X (ValueIdx.ix2 b j)) (r.castLE hk)))
    ∧ (Host.topK ⟨2, ![a, k]⟩ 1 (FloatOps.cmpfTotal (F := Ideal) (φ := .f32) .gt) X h).2 (ValueIdx.ix2 b r)
      = BitVec.ofNat 32 (top (fun j => X (ValueIdx.ix2 b j)) (r.castLE hk)).val := by
  have hj : ∀ p : Fin n, (ValueIdx.ix2 b (r.castLE hk) : (⟨2, ![a, n]⟩ : Shape).Idx).along 1 p = ValueIdx.ix2 b p := by
    intro p
    funext c
    match c with
    | ⟨0, _⟩ => rfl
    | ⟨1, _⟩ => rfl
  have hs : ∀ y : (⟨2, ![a, n]⟩ : Shape).Idx → EReal, extractStridedSlice ⟨2, ![a, k]⟩ (fun _ => 0) y h (ValueIdx.ix2 b r) = y (ValueIdx.ix2 b (r.castLE hk)) := by
    intro y
    refine congrArg y (funext fun c => ?_)
    match c with
    | ⟨0, _⟩ => exact Fin.ext (Nat.zero_add _)
    | ⟨1, _⟩ => exact Fin.ext (Nat.zero_add _)
  have hs' : ∀ y : (⟨2, ![a, n]⟩ : Shape).Idx → BitVec 32, extractStridedSlice ⟨2, ![a, k]⟩ (fun _ => 0) y h (ValueIdx.ix2 b r) = y (ValueIdx.ix2 b (r.castLE hk)) := by
    intro y
    refine congrArg y (funext fun c => ?_)
    match c with
    | ⟨0, _⟩ => exact Fin.ext (Nat.zero_add _)
    | ⟨1, _⟩ => exact Fin.ext (Nat.zero_add _)
  have ht : ∀ p p' : Fin n, (FloatOps.cmpfTotal (F := Ideal) (φ := .f32) .gt (X (ValueIdx.ix2 b p)) (X (ValueIdx.ix2 b p')) == 1#1) = decide (X (ValueIdx.ix2 b p') < X (ValueIdx.ix2 b p)) := by
    intro p p'
    show (BitVec.ofBool (decide (X (ValueIdx.ix2 b p') < X (ValueIdx.ix2 b p))) == 1#1) = _
    cases decide (X (ValueIdx.ix2 b p') < X (ValueIdx.ix2 b p)) <;> rfl
  have hp : (sortedFrom (fun p p' : Fin n => FloatOps.cmpfTotal (F := Ideal) (φ := .f32) .gt (X ((ValueIdx.ix2 b (r.castLE hk) : (⟨2, ![a, n]⟩ : Shape).Idx).along 1 p))
      (X ((ValueIdx.ix2 b (r.castLE hk) : (⟨2, ![a, n]⟩ : Shape).Idx).along 1 p')) == 1#1) (r.castLE hk)) = top (fun j => X (ValueIdx.ix2 b j)) (r.castLE hk) := by
    unfold top
    refine congrFun (congrArg sortedFrom (funext fun p => funext fun p' => ?_)) _
    rw [hj, hj]
    exact ht p p'
  unfold Host.topK
  dsimp only
  rw [hs, hs']
  unfold Host.sort2
  rw [dif_pos (by decide : 1 < 2)]
  have e1 := (congrArg (fun p : Fin n => X ((ValueIdx.ix2 b (r.castLE hk) : (⟨2, ![a, n]⟩ : Shape).Idx).along 1 p)) hp).trans (congrArg X (hj _))
  have e2 := (congrArg (fun p : Fin n => BitVec.ofNat 32 ((ValueIdx.ix2 b (r.castLE hk) : (⟨2, ![a, n]⟩ : Shape).Idx).along 1 p 1).val) hp).trans
    (congrArg (fun q : (⟨2, ![a, n]⟩ : Shape).Idx => BitVec.ofNat 32 (q 1).val) (hj _))
  exact ⟨e1, e2⟩

theorem rem_word (u : ArithUnit) (k : ℕ) (hk : k < 2 ^ 31) : IntOp.remsi u (BitVec.ofNat 32 k) 18#32 = BitVec.ofNat 32 (k % 18) := by
  refine BitVec.eq_of_toNat_eq ?_
  have := IntOp.toNat_remsi u (x := BitVec.ofNat 32 k) (by rw [BitVec.toNat_ofNat]; omega) 18 (by norm_num) (by norm_num)
  rw [this, BitVec.toNat_ofNat, BitVec.toNat_ofNat]
  omega

theorem div_word (u : ArithUnit) (k : ℕ) (hk : k < 2 ^ 31) : IntOp.divsi u (BitVec.ofNat 32 k) 18#32 = BitVec.ofNat 32 (k / 18) := by
  have hcorner : ¬ IntOp.SDivCorner (BitVec.ofNat 32 k) 18#32 := by
    intro hc; rcases hc with hc | ⟨_, hc⟩ <;> exact absurd hc (by decide)
  have hm : (BitVec.ofNat 32 k).msb = false := BitVec.msb_eq_false_iff_two_mul_lt.mpr (by rw [BitVec.toNat_ofNat]; omega)
  refine BitVec.eq_of_toNat_eq ?_
  simp only [IntOp.divsi, if_neg hcorner, BitVec.sdiv_eq, hm, show (18#32 : BitVec 32).msb = false from by decide, BitVec.udiv_eq,
    BitVec.toNat_udiv, BitVec.toNat_ofNat]
  rw [Nat.mod_eq_of_lt (by omega : k < 2 ^ 32), Nat.mod_eq_of_lt (by norm_num : 18 < 2 ^ 32), Nat.mod_eq_of_lt (by omega)]

theorem slt_zero (k : ℕ) (hk : k < 2 ^ 31) : IntOp.cmpi .slt (BitVec.ofNat 32 k) 0#32 = 0#1 := by
  refine ValueIdx.eq_zero_of_ne_one fun h => ?_
  have := (StableHlo.Predicate.slt_iff_toNat (a := BitVec.ofNat 32 k) (b := 0#32) (by rw [BitVec.toNat_ofNat]; omega) (by decide)).mp h
  simp at this

section

variable {s : Shape} (hb : S0.BroadcastsInDim s ![])

theorem scalar_apply {α : Type} (x : S0.Idx → α) (i : s.Idx) (j : S0.Idx) : broadcastInDim s ![] hb x i = x j :=
  congrArg x (funext fun a => a.elim0)

theorem sel_zero {α : Type} (c : IVec s 1) (x y : s.Idx → α) (i : s.Idx) (h : c i = 0#1) : select c x y i = y i :=
  (congrArg (fun b => Scalar.select b (x i) (y i)) h).trans (ValueIdx.select_zero _ _)

theorem sel_one {α : Type} (c : IVec s 1) (x y : s.Idx → α) (i : s.Idx) (h : c i = 1#1) : select c x y i = x i :=
  (congrArg (fun b => Scalar.select b (x i) (y i)) h).trans (ValueIdx.select_one _ _)

theorem and_zero_left (x y : IVec s 1) (i : s.Idx) (h : x i = 0#1) : andi x y i = 0#1 :=
  (congrArg (fun b => IntOp.andi b (y i)) h).trans BitVec.zero_and

theorem and_zero_right (x y : IVec s 1) (i : s.Idx) (h : y i = 0#1) : andi x y i = 0#1 :=
  (congrArg (fun b => IntOp.andi (x i) b) h).trans BitVec.and_zero

theorem ne_zero {w : ℕ} (x y : IVec s w) (i : s.Idx) (h : x i = y i) : cmpi .ne x y i = 0#1 := by
  refine (congrArg (fun b => IntOp.cmpi .ne b (y i)) h).trans ?_
  simp [IntOp.cmpi]

theorem slt_nonneg (x : IVec s 32) (i : s.Idx) (k : ℕ) (hk : k < 2 ^ 31) (hx : x i = BitVec.ofNat 32 k) :
    cmpi .slt x (broadcastInDim s ![] hb (constantI S0 32 0#32)) i = 0#1 :=
  (congrArg₂ (IntOp.cmpi .slt) hx (scalar_apply hb _ i ValueIdx.ix0)).trans (slt_zero k hk)

theorem rem18 (x : IVec s 32) (c : IVec S0 32) (i : s.Idx) (k : ℕ) (hk : k < 2 ^ 31) (hx : x i = BitVec.ofNat 32 k) (hc : c ValueIdx.ix0 = 18#32) :
    Host.remsi x (broadcastInDim s ![] hb c) i = BitVec.ofNat 32 (k % 18) :=
  (congrArg₂ (IntOp.remsi .host) hx ((scalar_apply hb _ i ValueIdx.ix0).trans hc)).trans (rem_word _ k hk)

/-- The remainder with the sign of the divisor. -/
def remOf (x : IVec s 32) (c : IVec S0 32) : IVec s 32 :=
  let d := select (cmpi .eq c (constantI S0 32 0#32)) (constantI S0 32 1#32) c
  let r := Host.remsi x (broadcastInDim s ![] hb d)
  select (andi (cmpi .ne (cmpi .slt r (broadcastInDim s ![] hb (constantI S0 32 0#32)))
    (broadcastInDim s ![] hb (cmpi .slt d (constantI S0 32 0#32)))) (cmpi .ne r (broadcastInDim s ![] hb (constantI S0 32 0#32))))
    (addi r (broadcastInDim s ![] hb d)) r

theorem remOf_apply (x : IVec s 32) (i : s.Idx) (k : ℕ) (hk : k < 2 ^ 31) (hx : x i = BitVec.ofNat 32 k) :
    remOf hb x (constantI S0 32 18#32) i = BitVec.ofNat 32 (k % 18) := by
  unfold remOf
  have hr := rem18 hb x (select (cmpi .eq (constantI S0 32 18#32) (constantI S0 32 0#32)) (constantI S0 32 1#32) (constantI S0 32 18#32)) i k hk hx rfl
  refine (sel_zero _ _ _ i (and_zero_left _ _ i (ne_zero _ _ i ?_))).trans hr
  refine (slt_nonneg hb _ i _ (by omega) hr).trans ?_
  rw [scalar_apply hb _ i ValueIdx.ix0]
  rfl

/-- The quotient rounded down. -/
def floorOf (x : IVec s 32) (c : IVec S0 32) : IVec s 32 :=
  select (andi (cmpi .ne (signi x) (broadcastInDim s ![] hb (signi c)))
    (cmpi .ne (Host.remsi x (broadcastInDim s ![] hb c)) (broadcastInDim s ![] hb (constantI S0 32 0#32))))
    (subi (Host.divsi x (broadcastInDim s ![] hb c)) (broadcastInDim s ![] hb (constantI S0 32 1#32)))
    (Host.divsi x (broadcastInDim s ![] hb c))

theorem floorOf_apply (x : IVec s 32) (i : s.Idx) (k : ℕ) (hk : k < 2 ^ 31) (hx : x i = BitVec.ofNat 32 k) :
    floorOf hb x (constantI S0 32 18#32) i = BitVec.ofNat 32 (k / 18) := by
  unfold floorOf
  have hr := rem18 hb x (constantI S0 32 18#32) i k hk hx rfl
  refine (sel_zero _ _ _ i ?_).trans ?_
  · by_cases h0 : k = 0
    · refine and_zero_right _ _ i (ne_zero _ _ i (hr.trans ?_))
      rw [scalar_apply hb _ i ValueIdx.ix0, h0]
      rfl
    · refine and_zero_left _ _ i (ne_zero _ _ i ?_)
      rw [scalar_apply hb _ i ValueIdx.ix0]
      unfold signi
      rw [hx, if_neg, if_neg]
      · rfl
      · rw [Bool.not_eq_true]
        exact BitVec.msb_eq_false_iff_two_mul_lt.mpr (by rw [BitVec.toNat_ofNat]; omega)
      · intro h
        have := congrArg BitVec.toNat h
        rw [BitVec.toNat_ofNat, Nat.mod_eq_of_lt (by omega)] at this
        exact h0 this
  · refine (congrArg₂ (IntOp.divsi .host) hx (scalar_apply hb _ i ValueIdx.ix0)).trans ?_
    exact div_word _ k hk

/-- A negative index counts from the end. -/
def wrapOf (n : BitVec 32) (x : IVec s 32) : IVec s 32 :=
  select (cmpi .slt x (broadcastInDim s ![] hb (constantI S0 32 0#32))) (addi x (broadcastInDim s ![] hb (constantI S0 32 n))) x

theorem wrapOf_apply (n : BitVec 32) (x : IVec s 32) (i : s.Idx) (k : ℕ) (hk : k < 2 ^ 31) (hx : x i = BitVec.ofNat 32 k) :
    wrapOf hb n x i = BitVec.ofNat 32 k :=
  (sel_zero _ _ _ i (slt_nonneg hb x i k hk hx)).trans hx

end

section

variable {α : Type} {A N B C : ℕ}

/-- The rows of a batch of tables at one index each. -/
abbrev rowDims (A N B C : ℕ) (wf : GatherDims.WF ⟨3, ![A, N, C]⟩ ⟨3, ![A, B, 1]⟩ ⟨3, ![A, B, C]⟩ [2] [1] [0] [1] [0] 2 ![1, 1, C]) :
    GatherDims ⟨3, ![A, N, C]⟩ ⟨3, ![A, B, 1]⟩ ⟨3, ![A, B, C]⟩ where
  offsetDims := [2]
  collapsedSliceDims := [1]
  operandBatchingDims := [0]
  startIndicesBatchingDims := [0]
  startIndexMap := [1]
  indexVectorDim := 2
  sliceSizes := ![1, 1, C]
  wf := wf

theorem rows_gather (wf : GatherDims.WF ⟨3, ![A, N, C]⟩ ⟨3, ![A, B, 1]⟩ ⟨3, ![A, B, C]⟩ [2] [1] [0] [1] [0] 2 ![1, 1, C])
    (x : (⟨3, ![A, N, C]⟩ : Shape).Idx → α) (idx : IVec ⟨3, ![A, B, 1]⟩ 32) (b : Fin A) (r : Fin B) (d : Fin C) (k : Fin N) (hk : k.val < 2 ^ 31)
    (hi : idx (ValueIdx.ix3 b r 0) = BitVec.ofNat 32 k.val) :
    Host.gather (rowDims A N B C wf) x idx (ValueIdx.ix3 b r d) = x (ValueIdx.ix3 b k d) := by
  unfold Host.gather
  congr 1
  funext a
  refine Fin.ext ?_
  show (rowDims A N B C wf).start (ValueIdx.ix3 b r d) idx a + (rowDims A N B C wf).batchCoord (ValueIdx.ix3 b r d) a
      + (rowDims A N B C wf).offCoord (ValueIdx.ix3 b r d) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowDims A N B C wf).startIndexMap from List.mem_singleton.mpr rfl)]
    have hsi : (rowDims A N B C wf).siIdx (ValueIdx.ix3 b r d) ⟨List.idxOf (1 : Fin 3) (rowDims A N B C wf).startIndexMap,
        List.idxOf_lt_length_iff.2 (List.mem_singleton.mpr rfl)⟩ = ValueIdx.ix3 b r 0 := by
      funext c; refine Fin.ext ?_
      match c with
      | ⟨0, _⟩ => rfl
      | ⟨1, _⟩ => rfl
      | ⟨2, _⟩ => rfl
    rw [hsi, hi, StableHlo.Predicate.toInt_ofNat_small _ hk]
    show min k.val (N - 1) = k.val
    have := k.isLt
    omega
  · rw [GatherDims.batchCoord_eq_zero _ _ _ (fun h => by simp at h)]
    unfold GatherDims.start
    rw [dif_neg (fun h => by simp at h)]
    simp only [Nat.zero_add, Nat.add_zero]
    unfold GatherDims.offCoord
    rfl

/-- The entries of a batch of vectors at one index each. -/
abbrev entryDims (A N B : ℕ) (wf : GatherDims.WF ⟨2, ![A, N]⟩ ⟨3, ![A, B, 1]⟩ ⟨2, ![A, B]⟩ [] [1] [0] [1] [0] 2 ![1, 1]) :
    GatherDims ⟨2, ![A, N]⟩ ⟨3, ![A, B, 1]⟩ ⟨2, ![A, B]⟩ where
  offsetDims := []
  collapsedSliceDims := [1]
  operandBatchingDims := [0]
  startIndicesBatchingDims := [0]
  startIndexMap := [1]
  indexVectorDim := 2
  sliceSizes := ![1, 1]
  wf := wf

theorem entries_gather (wf : GatherDims.WF ⟨2, ![A, N]⟩ ⟨3, ![A, B, 1]⟩ ⟨2, ![A, B]⟩ [] [1] [0] [1] [0] 2 ![1, 1])
    (x : (⟨2, ![A, N]⟩ : Shape).Idx → α) (idx : IVec ⟨3, ![A, B, 1]⟩ 32) (b : Fin A) (r : Fin B) (k : Fin N) (hk : k.val < 2 ^ 31)
    (hi : idx (ValueIdx.ix3 b r 0) = BitVec.ofNat 32 k.val) :
    Host.gather (entryDims A N B wf) x idx (ValueIdx.ix2 b r) = x (ValueIdx.ix2 b k) := by
  unfold Host.gather
  congr 1
  funext a
  refine Fin.ext ?_
  show (entryDims A N B wf).start (ValueIdx.ix2 b r) idx a + (entryDims A N B wf).batchCoord (ValueIdx.ix2 b r) a
      + (entryDims A N B wf).offCoord (ValueIdx.ix2 b r) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (entryDims A N B wf).startIndexMap from List.mem_singleton.mpr rfl)]
    have hsi : (entryDims A N B wf).siIdx (ValueIdx.ix2 b r) ⟨List.idxOf (1 : Fin 2) (entryDims A N B wf).startIndexMap,
        List.idxOf_lt_length_iff.2 (List.mem_singleton.mpr rfl)⟩ = ValueIdx.ix3 b r 0 := by
      funext c; refine Fin.ext ?_
      match c with
      | ⟨0, _⟩ => rfl
      | ⟨1, _⟩ => rfl
      | ⟨2, _⟩ => rfl
    rw [hsi, hi, StableHlo.Predicate.toInt_ofNat_small _ hk]
    show min k.val (N - 1) = k.val
    have := k.isLt
    omega

end

/-- Row `r` of table `b`, an index out of range reading `z`. -/
def takeOf {α : Type} {A N B C : ℕ} (hA : S0.BroadcastsInDim ⟨3, ![A, B, 1]⟩ ![]) (h1 : (⟨1, ![1]⟩ : Shape).BroadcastsInDim ⟨3, ![1, 1, 1]⟩ ![2])
    (h2 : (⟨3, ![1, 1, 1]⟩ : Shape).BroadcastsInDim ⟨3, ![A, B, 1]⟩ ![0, 1, 2]) (hr : (⟨3, ![A, B, 1]⟩ : Shape).ReducesTo [2] ⟨2, ![A, B]⟩)
    (h0 : 0 < S0.numel) (h3 : (⟨2, ![A, B]⟩ : Shape).BroadcastsInDim ⟨3, ![A, B, C]⟩ ![0, 1])
    (g : GatherDims ⟨3, ![A, N, C]⟩ ⟨3, ![A, B, 1]⟩ ⟨3, ![A, B, C]⟩) (n hi : BitVec 32)
    (x : (⟨3, ![A, N, C]⟩ : Shape).Idx → α) (i : IVec ⟨3, ![A, B, 1]⟩ 32) (z : (⟨3, ![A, B, C]⟩ : Shape).Idx → α) : (⟨3, ![A, B, C]⟩ : Shape).Idx → α :=
  select (broadcastInDim ⟨3, ![A, B, C]⟩ ![0, 1] h3 (Host.reduce IntOp.andi
    (andi (cmpi .sge (wrapOf hA n i) (broadcastInDim ⟨3, ![A, B, 1]⟩ ![] hA (constantI S0 32 0#32)))
      (cmpi .sle (wrapOf hA n i) (broadcastInDim ⟨3, ![A, B, 1]⟩ ![0, 1, 2] h2 (broadcastInDim ⟨3, ![1, 1, 1]⟩ ![2] h1 (constantI ⟨1, ![1]⟩ 32 hi)))))
    (constantI S0 1 1#1) hr h0)) (Host.gather g x (wrapOf hA n i)) z

theorem takeOf_apply {α : Type} {A N B C : ℕ} (hA : S0.BroadcastsInDim ⟨3, ![A, B, 1]⟩ ![]) (h1 : (⟨1, ![1]⟩ : Shape).BroadcastsInDim ⟨3, ![1, 1, 1]⟩ ![2])
    (h2 : (⟨3, ![1, 1, 1]⟩ : Shape).BroadcastsInDim ⟨3, ![A, B, 1]⟩ ![0, 1, 2]) (hr : (⟨3, ![A, B, 1]⟩ : Shape).ReducesTo [2] ⟨2, ![A, B]⟩)
    (h0 : 0 < S0.numel) (h3 : (⟨2, ![A, B]⟩ : Shape).BroadcastsInDim ⟨3, ![A, B, C]⟩ ![0, 1])
    (wf : GatherDims.WF ⟨3, ![A, N, C]⟩ ⟨3, ![A, B, 1]⟩ ⟨3, ![A, B, C]⟩ [2] [1] [0] [1] [0] 2 ![1, 1, C]) (n : BitVec 32) (hi : ℕ) (hhi : hi + 1 = N) (hN : N < 2 ^ 31)
    (x : (⟨3, ![A, N, C]⟩ : Shape).Idx → α) (i : IVec ⟨3, ![A, B, 1]⟩ 32) (z : (⟨3, ![A, B, C]⟩ : Shape).Idx → α)
    (k : Fin A → Fin B → Fin N) (hk : ∀ b r, i (ValueIdx.ix3 b r 0) = BitVec.ofNat 32 (k b r).val) (b : Fin A) (r : Fin B) (d : Fin C) :
    takeOf hA h1 h2 hr h0 h3 (rowDims A N B C wf) n (BitVec.ofNat 32 hi) x i z (ValueIdx.ix3 b r d) = x (ValueIdx.ix3 b (k b r) d) := by
  have hw : ∀ b r, wrapOf hA n i (ValueIdx.ix3 b r 0) = BitVec.ofNat 32 (k b r).val := fun b r =>
    wrapOf_apply hA n i _ _ (lt_trans (k b r).isLt hN) (hk b r)
  unfold takeOf
  refine (sel_one _ _ _ _ ?_).trans (rows_gather wf x _ b r d (k b r) (lt_trans (k b r).isLt hN) (hw b r))
  refine Host.reduce_andi_one _ _ hr h0 _ rfl fun j => ?_
  obtain ⟨b', r', rfl⟩ : ∃ (b' : Fin A) (r' : Fin B), j = ValueIdx.ix3 b' r' (0 : Fin 1) :=
    ⟨j 0, j 1, (ValueIdx.eq_ix3 j).trans (congrArg (ValueIdx.ix3 (j 0) (j 1)) (Fin.eq_zero (j 2)))⟩
  have hlt := (k b' r').isLt
  have e1 : (BitVec.ofNat 32 (k b' r').val).toNat = (k b' r').val := by rw [BitVec.toNat_ofNat]; omega
  have e2 : (BitVec.ofNat 32 hi).toNat = hi := by rw [BitVec.toNat_ofNat]; omega
  refine (and_one _ _).mpr ⟨?_, ?_⟩
  · refine (congrArg₂ (IntOp.cmpi .sge) (hw b' r') (scalar_apply hA _ _ ValueIdx.ix0)).trans ?_
    exact (StableHlo.Predicate.sge_iff_toNat (by omega) (by decide)).mpr (Nat.zero_le _)
  · refine (congrArg₂ (IntOp.cmpi .sle) (hw b' r') (show _ = BitVec.ofNat 32 hi from rfl)).trans ?_
    exact (StableHlo.Predicate.sle_iff_toNat (by omega) (by omega)).mpr (by omega)

end Cert.Nms

end
-- ==== Proof.Finite.lean ====
module

public import proofs.«01_k».proof.Proof.PreFacts
public import proofs.«01_k».proof.Proof.HostOps
public import Idealize.ShloMosaic.Lib.ReduceAll

/-!
Under the precondition the deltas, the proposals and the origins are real numbers.
-/

@[expose] public section

set_option maxRecDepth 16384

noncomputable section

namespace Cert.Proof

open Idealize.ShloMosaic Idealize.ShloMosaic.StableHlo Cert.Nms Cert.Pre_finite_boxes

/-- A number whose absolute value is below infinity is real. -/
theorem real_of_abs (x : EReal) (h : max x (-x) < ⊤) : ∃ r : ℝ, x = (r : EReal) := by
  induction x using EReal.rec with
  | bot => simp at h
  | coe r => exact ⟨r, rfl⟩
  | top => simp at h

theorem top_word : Ideal.ofBits .f32 0x7F800000#32 = (⊤ : EReal) := by simp [Ideal.ofBits, Ideal.ieee]

instance : Subsingleton S_.Idx := ⟨fun i j => funext fun a => a.elim0⟩

/-- Every entry is real when the absolute values are all below infinity. -/
theorem all_real {s : Shape} (x : FVec Ideal s .f32) {dims : List (Fin s.rank)} (hb : S_.BroadcastsInDim s ![]) (h : s.ReducesTo dims S_) (hu : 0 < S_.numel)
    (e : Host.reduce IntOp.andi (cmpf .olt (Host.absf x) (broadcastInDim s ![] hb (constant S_ .f32 0x7F800000#32))) (constantI S_ 1 1#1) h hu ValueIdx.ix0 = 1#1) (i : s.Idx) :
    ∃ r : ℝ, x i = (r : EReal) := by
  have hi := Host.reduce_andi_all _ _ h hu ValueIdx.ix0 e i
  rw [lt_one, scalar_apply _ _ _ ValueIdx.ix0] at hi
  exact real_of_abs (x i) (lt_of_lt_of_eq hi top_word)

theorem finite_args (X : FVec Ideal S4x20000x19 .f32) (D : FVec Ideal S4x20000x18x6 .f32) (P : FVec Ideal S4x20000x6 .f32) (O : FVec Ideal S4x20000x3 .f32)
    (h : fn X D P O = fun _ => 1#1) :
    (∀ i, ∃ r : ℝ, D i = (r : EReal)) ∧ (∀ i, ∃ r : ℝ, P i = (r : EReal)) ∧ (∀ i, ∃ r : ℝ, O i = (r : EReal)) := by
  have e := congrFun h ValueIdx.ix0
  unfold fn at e
  have e' := (and_one _ _).mp e
  have e'' := (and_one _ _).mp e'.1
  exact ⟨all_real D _ _ _ e''.1, all_real P _ _ _ e''.2, all_real O _ _ _ e'.2⟩

end Cert.Proof

end
-- ==== Proof.RefSegs.lean ====
module

public import proofs.«01_k».proof.Proof.RefFrame
public import proofs.«01_k».proof.Proof.HostOps

/-!
What the reference's stretches of host operations leave at the references its results come from.
-/

@[expose] public section

set_option maxRecDepth 16384
set_option maxHeartbeats 2000000

noncomputable section

namespace Cert.ReferenceIdeal.Value

open Cert.ReferenceIdeal Cert.ReferenceIdeal.Gen Cert.Nms
open Idealize.ShloMosaic Idealize.ShloMosaic.TcCoe Idealize.ShloMosaic.Tactic Idealize.ShloMosaic.StableHlo

/-! The functions the stretches compute. -/

/-- The class probabilities without the last class. -/
def softOf (x : FVec Ideal S4x20000x19 .f32) : FVec Ideal S4x20000x18 .f32 :=
  let top := broadcastInDim S4x20000x1 ![0, 1] Facts₀.bcast_S4x20000_S4x20000x1_0_1 (maximumf (broadcastInDim S4x20000 ![] Facts₀.bcast_S_S4x20000 (constant S_ .f32 0xFF800000#32))
    (Host.reduce FloatOps.maximumf x (constant S_ .f32 0xFF800000#32) Facts₀.reducesTo_S4x20000x19_S4x20000_d2 Facts₀.h_S_))
  let e := Host.exp (subf x (broadcastInDim S4x20000x19 ![0, 1, 2] Facts₀.bcast_S4x20000x1_S4x20000x19_0_1_2 top))
  extractStridedSlice S4x20000x18 ![0, 0, 0] (Host.divf e (broadcastInDim S4x20000x19 ![0, 1, 2] Facts₀.bcast_S4x20000x1_S4x20000x19_0_1_2
    (broadcastInDim S4x20000x1 ![0, 1] Facts₀.bcast_S4x20000_S4x20000x1_0_1 (Host.reduceAdd e (constant S_ .f32 0x00000000#32) Facts₀.reducesTo_S4x20000x19_S4x20000_d2 Facts₀.h_S_))))
    Facts₀.slices_S4x20000x19_S4x20000x18_0_0_0

/-- The sides: proposal plus delta. -/
def sidesOf (D : FVec Ideal S4x20000x18x6 .f32) (P : FVec Ideal S4x20000x6 .f32) : FVec Ideal S4x20000x18x6 .f32 :=
  addf (broadcastInDim S4x20000x18x6 ![0, 1, 2, 3] Facts₀.bcast_S4x20000x1x6_S4x20000x18x6_0_1_2_3 (broadcastInDim S4x20000x1x6 ![0, 1, 3] Facts₀.bcast_S4x20000x6_S4x20000x1x6_0_1_3 P)) D

/-- The origins for every class. -/
def originsOf (O : FVec Ideal S4x20000x3 .f32) : FVec Ideal S4x20000x18x3 .f32 :=
  broadcastInDim S4x20000x18x3 ![0, 1, 2, 3] Facts₀.bcast_S4x20000x1x3_S4x20000x18x3_0_1_2_3 (broadcastInDim S4x20000x1x3 ![0, 1, 3] Facts₀.bcast_S4x20000x3_S4x20000x1x3_0_1_3 O)

/-- The two halves of the faces. -/
def halves (D : FVec Ideal S4x20000x18x6 .f32) (P : FVec Ideal S4x20000x6 .f32) (O : FVec Ideal S4x20000x3 .f32) : List ((s : Shape) × (s.Idx → Ideal .f32)) :=
  [⟨S4x20000x18x3, subf (originsOf O) (extractStridedSlice S4x20000x18x3 ![0, 0, 0, 0] (sidesOf D P) Facts₀.slices_S4x20000x18x6_S4x20000x18x3_0_0_0_0)⟩,
   ⟨S4x20000x18x3, addf (originsOf O) (extractStridedSlice S4x20000x18x3 ![0, 0, 0, 3] (sidesOf D P) Facts₀.slices_S4x20000x18x6_S4x20000x18x3_0_0_0_3)⟩]

theorem halves_join (D : FVec Ideal S4x20000x18x6 .f32) (P : FVec Ideal S4x20000x6 .f32) (O : FVec Ideal S4x20000x3 .f32) :
    Shape.Concatenates ((halves D P O).map (·.1)) S4x20000x18x6 3 := Facts₀.concatenates_S4x20000x18x3_S4x20000x18x3_S4x20000x18x6_d3

/-- The candidates' faces. -/
def candOf (f : FVec Ideal S4x20000x18x6 .f32) (i : IVec S4x2048 32) : FVec Ideal S4x2048x6 .f32 :=
  Host.gather gather_S4x360000x6_S4x2048x1_S4x2048x6_2_1_0_0_1_2_116 (shapeCast S4x360000x6 f Facts₀.shapeCasts_S4x20000x18x6_S4x360000x6)
    (broadcastInDim S4x2048x1 ![0, 1] Facts₀.bcast_S4x2048_S4x2048x1_0_1 (wrapOf Facts₀.bcast_S_S4x2048 360000#32 i))

/-- One more than the largest coordinate. -/
def limitOf (x : FVec Ideal S4x2048x6 .f32) : FVec Ideal S4 .f32 :=
  addf (Host.reduce FloatOps.maximumf (Host.absf x) (constant S_ .f32 0xFF800000#32) Facts₀.reducesTo_S4x2048x6_S4_d1_2 Facts₀.h_S_)
    (broadcastInDim S4 ![] Facts₀.bcast_S_S4 (constant S_ .f32 0x3F800000#32))

/-- The candidates' faces moved by their classes. -/
def movedOf (x : FVec Ideal S4x2048x6 .f32) (k : IVec S4x2048 32) : FVec Ideal S4x2048x6 .f32 :=
  addf x (broadcastInDim S4x2048x6 ![0, 1, 2] Facts₀.bcast_S4x2048x1_S4x2048x6_0_1_2 (broadcastInDim S4x2048x1 ![0, 1] Facts₀.bcast_S4x2048_S4x2048x1_0_1
    (mulf (mulf (sitofp .f32 k) (broadcastInDim S4x2048 ![] Facts₀.bcast_S_S4x2048 (constant S_ .f32 0x40000000#32)))
      (broadcastInDim S4x2048 ![0, 1] Facts₀.bcast_S4x1_S4x2048_0_1 (broadcastInDim S4x1 ![0] Facts₀.bcast_S4_S4x1_0 (limitOf x))))))

/-- The extents of the overlaps. -/
def gapsOf (x : FVec Ideal S4x2048x6 .f32) : FVec Ideal S4x2048x2048x3 .f32 :=
  let lo := extractStridedSlice S4x2048x3 ![0, 0, 0] x Facts₀.slices_S4x2048x6_S4x2048x3_0_0_0
  let hi := extractStridedSlice S4x2048x3 ![0, 0, 3] x Facts₀.slices_S4x2048x6_S4x2048x3_0_0_3
  subf
    (minimumf (broadcastInDim S4x2048x2048x3 ![0, 1, 2, 3] Facts₀.bcast_S4x2048x1x3_S4x2048x2048x3_0_1_2_3 (broadcastInDim S4x2048x1x3 ![0, 1, 3] Facts₀.bcast_S4x2048x3_S4x2048x1x3_0_1_3 hi))
      (broadcastInDim S4x2048x2048x3 ![0, 1, 2, 3] Facts₀.bcast_S4x1x2048x3_S4x2048x2048x3_0_1_2_3 (broadcastInDim S4x1x2048x3 ![0, 2, 3] Facts₀.bcast_S4x2048x3_S4x1x2048x3_0_2_3 hi)))
    (maximumf (broadcastInDim S4x2048x2048x3 ![0, 1, 2, 3] Facts₀.bcast_S4x2048x1x3_S4x2048x2048x3_0_1_2_3 (broadcastInDim S4x2048x1x3 ![0, 1, 3] Facts₀.bcast_S4x2048x3_S4x2048x1x3_0_1_3 lo))
      (broadcastInDim S4x2048x2048x3 ![0, 1, 2, 3] Facts₀.bcast_S4x1x2048x3_S4x2048x2048x3_0_1_2_3 (broadcastInDim S4x1x2048x3 ![0, 2, 3] Facts₀.bcast_S4x2048x3_S4x1x2048x3_0_2_3 lo)))

/-- The product of a pair's three extents. -/
def crossOf (x : FVec Ideal S4x2048x2048x3 .f32) : FVec Ideal S4x2048x2048 .f32 :=
  mulf (mulf (shapeCast S4x2048x2048 (extractStridedSlice S4x2048x2048x1 ![0, 0, 0, 0] x Facts₀.slices_S4x2048x2048x3_S4x2048x2048x1_0_0_0_0) Facts₀.shapeCasts_S4x2048x2048x1_S4x2048x2048)
    (shapeCast S4x2048x2048 (extractStridedSlice S4x2048x2048x1 ![0, 0, 0, 1] x Facts₀.slices_S4x2048x2048x3_S4x2048x2048x1_0_0_0_1) Facts₀.shapeCasts_S4x2048x2048x1_S4x2048x2048))
    (shapeCast S4x2048x2048 (extractStridedSlice S4x2048x2048x1 ![0, 0, 0, 2] x Facts₀.slices_S4x2048x2048x3_S4x2048x2048x1_0_0_0_2) Facts₀.shapeCasts_S4x2048x2048x1_S4x2048x2048)

/-- The boxes' sides. -/
def spansOf (x : FVec Ideal S4x2048x6 .f32) : FVec Ideal S4x2048x3 .f32 :=
  subf (extractStridedSlice S4x2048x3 ![0, 0, 3] x Facts₀.slices_S4x2048x6_S4x2048x3_0_0_3) (extractStridedSlice S4x2048x3 ![0, 0, 0] x Facts₀.slices_S4x2048x6_S4x2048x3_0_0_0)

/-- The product of a box's three sides. -/
def bulkOf (x : FVec Ideal S4x2048x3 .f32) : FVec Ideal S4x2048 .f32 :=
  mulf (mulf (shapeCast S4x2048 (extractStridedSlice S4x2048x1 ![0, 0, 0] x Facts₀.slices_S4x2048x3_S4x2048x1_0_0_0) Facts₀.shapeCasts_S4x2048x1_S4x2048)
    (shapeCast S4x2048 (extractStridedSlice S4x2048x1 ![0, 0, 1] x Facts₀.slices_S4x2048x3_S4x2048x1_0_0_1) Facts₀.shapeCasts_S4x2048x1_S4x2048))
    (shapeCast S4x2048 (extractStridedSlice S4x2048x1 ![0, 0, 2] x Facts₀.slices_S4x2048x3_S4x2048x1_0_0_2) Facts₀.shapeCasts_S4x2048x1_S4x2048)

/-- The ratios of the overlaps. -/
def ratioOf (c : FVec Ideal S4x2048x2048 .f32) (v : FVec Ideal S4x2048 .f32) : FVec Ideal S4x2048x2048 .f32 :=
  Host.divf c (maximumf (subf (addf
    (broadcastInDim S4x2048x2048 ![0, 1, 2] Facts₀.bcast_S4x2048x1_S4x2048x2048_0_1_2 (broadcastInDim S4x2048x1 ![0, 1] Facts₀.bcast_S4x2048_S4x2048x1_0_1 v))
    (broadcastInDim S4x2048x2048 ![0, 1, 2] Facts₀.bcast_S4x1x2048_S4x2048x2048_0_1_2 (broadcastInDim S4x1x2048 ![0, 2] Facts₀.bcast_S4x2048_S4x1x2048_0_2 v))) c)
    (broadcastInDim S4x2048x2048 ![] Facts₀.bcast_S_S4x2048x2048 (constant S_ .f32 0x3089705F#32)))

section

variable (W : Valuation τ sig (Elt Ideal))

theorem r0_v11 : after (hostOps0 (F := Ideal)) W (Proc.devRef .tc main_v11) = softOf (W (Proc.devRef .tc main_arg0)) := by
  simp only [hostOps0]; after_results; rfl
theorem r0_v24 : after (hostOps0 (F := Ideal)) W (Proc.devRef .tc main_v24) = cmpf .ogt (softOf (W (Proc.devRef .tc main_arg0))) (broadcastInDim S4x20000x18 ![] Facts₀.bcast_S_S4x20000x18 (constant S_ .f32 0x3D4CCCCD#32)) := by
  simp only [hostOps0]; after_results; rfl
theorem r0_cst : after (hostOps0 (F := Ideal)) W (Proc.devRef .tc main_cst_3) = constant (F := Ideal) S_ .f32 0xBF800000#32 := by
  simp only [hostOps0]; after_results
theorem r0_v22 : after (hostOps0 (F := Ideal)) W (Proc.devRef .tc main_v22)
    = concatenate S4x20000x18x6 3 (halves (W (Proc.devRef .tc main_arg1)) (W (Proc.devRef .tc main_arg2)) (W (Proc.devRef .tc main_arg3)))
        (halves_join (W (Proc.devRef .tc main_arg1)) (W (Proc.devRef .tc main_arg2)) (W (Proc.devRef .tc main_arg3))) := by
  simp only [hostOps0]; after_results; rfl
theorem r1_v25 : after (hostOps0_1 (F := Ideal)) W (Proc.devRef .tc main_v25)
    = select (W (Proc.devRef .tc main_v24)) (W (Proc.devRef .tc main_v11)) (broadcastInDim S4x20000x18 ![1, 2] Facts₀.bcast_S20000x18_S4x20000x18_1_2
        (broadcastInDim S20000x18 ![] Facts₀.bcast_S_S20000x18 (W (Proc.devRef .tc main_cst_3)))) := by
  simp only [hostOps0_1]; after_results; rfl
theorem r2_v26 : after (hostOps0_2 (F := Ideal)) W (Proc.devRef .tc main_v26) = shapeCast S4x360000 (W (Proc.devRef .tc main_v25)) Facts₀.shapeCasts_S4x20000x18_S4x360000 := by
  simp only [hostOps0_2]; after_results; rfl
theorem r2_values : after (hostOps0_2 (F := Ideal)) W (Proc.devRef .tc main_values)
    = (Host.topK S4x2048 1 (FloatOps.cmpfTotal (F := Ideal) (φ := .f32) .gt) (after (hostOps0_2 (F := Ideal)) W (Proc.devRef .tc main_v26)) Facts₀.sliceFits_S4x360000_S4x2048).1 := by
  rw [r2_v26]; simp only [hostOps0_2]; after_results; rfl
theorem r2_indices : after (hostOps0_2 (F := Ideal)) W (Proc.devRef .tc main_indices)
    = (Host.topK S4x2048 1 (FloatOps.cmpfTotal (F := Ideal) (φ := .f32) .gt) (after (hostOps0_2 (F := Ideal)) W (Proc.devRef .tc main_v26)) Facts₀.sliceFits_S4x360000_S4x2048).2 := by
  rw [r2_v26]; simp only [hostOps0_2]; after_results; rfl
theorem r2_c : after (hostOps0_2 (F := Ideal)) W (Proc.devRef .tc main_c) = constantI S_ 32 18#32 := by
  simp only [hostOps0_2]; after_results
theorem r3_v27 : after (hostOps0_3 (F := Ideal)) W (Proc.devRef .tc main_v27) = remOf Facts₀.bcast_S_S4x2048 (W (Proc.devRef .tc main_indices)) (W (Proc.devRef .tc main_c)) := by
  simp only [hostOps0_3]; after_results; rfl
theorem r4_v35 : after (hostOps0_4 (F := Ideal)) W (Proc.devRef .tc main_v35) = candOf (W (Proc.devRef .tc main_v22)) (W (Proc.devRef .tc main_indices)) := by
  simp only [hostOps0_4]; after_results; rfl
theorem r4_v48 : after (hostOps0_4 (F := Ideal)) W (Proc.devRef .tc main_v48)
    = movedOf (candOf (W (Proc.devRef .tc main_v22)) (W (Proc.devRef .tc main_indices))) (W (Proc.devRef .tc main_v27)) := by
  simp only [hostOps0_4]; after_results; rfl
theorem r4_v63 : after (hostOps0_4 (F := Ideal)) W (Proc.devRef .tc main_v63)
    = gapsOf (movedOf (candOf (W (Proc.devRef .tc main_v22)) (W (Proc.devRef .tc main_indices))) (W (Proc.devRef .tc main_v27))) := by
  simp only [hostOps0_4]; after_results; rfl
theorem r4_cst : after (hostOps0_4 (F := Ideal)) W (Proc.devRef .tc main_cst_9) = constant (F := Ideal) S_ .f32 0x00000000#32 := by
  simp only [hostOps0_4]; after_results
theorem r5_v64 : after (hostOps0_5 (F := Ideal)) W (Proc.devRef .tc main_v64)
    = maximumf (broadcastInDim S4x2048x2048x3 ![] Facts₀.bcast_S_S4x2048x2048x3 (show FVec Ideal S_ .f32 from W (Proc.devRef .tc main_cst_9))) (show FVec Ideal S4x2048x2048x3 .f32 from W (Proc.devRef .tc main_v63)) := by
  simp only [hostOps0_5]; after_results; rfl
theorem r6_v72 : after (hostOps0_6 (F := Ideal)) W (Proc.devRef .tc main_v72) = crossOf (W (Proc.devRef .tc main_v64)) := by
  simp only [hostOps0_6]; after_results; rfl
theorem r6_v75 : after (hostOps0_6 (F := Ideal)) W (Proc.devRef .tc main_v75) = spansOf (W (Proc.devRef .tc main_v48)) := by
  simp only [hostOps0_6]; after_results; rfl
theorem r6_cst : after (hostOps0_6 (F := Ideal)) W (Proc.devRef .tc main_cst_10) = constant (F := Ideal) S_ .f32 0x00000000#32 := by
  simp only [hostOps0_6]; after_results
theorem r7_v76 : after (hostOps0_7 (F := Ideal)) W (Proc.devRef .tc main_v76)
    = maximumf (broadcastInDim S4x2048x3 ![] Facts₀.bcast_S_S4x2048x3 (show FVec Ideal S_ .f32 from W (Proc.devRef .tc main_cst_10))) (show FVec Ideal S4x2048x3 .f32 from W (Proc.devRef .tc main_v75)) := by
  simp only [hostOps0_7]; after_results; rfl
theorem r8_ratio : after (hostOps0_8 (F := Ideal)) W (Proc.devRef .tc main_v97_0) = ratioOf (W (Proc.devRef .tc main_v72)) (bulkOf (W (Proc.devRef .tc main_v76))) := by
  simp only [hostOps0_8]; after_results; rfl
theorem r8_ranks : after (hostOps0_8 (F := Ideal)) W (Proc.devRef .tc main_v97_1) = iotaInDim S2048 32 0 := by
  simp only [hostOps0_8]; after_results; rfl
theorem r8_start : after (hostOps0_8 (F := Ideal)) W (Proc.devRef .tc main_v97_3) = constantI S_ 32 0#32 := by
  simp only [hostOps0_8]; after_results; rfl
theorem r8_valid : after (hostOps0_8 (F := Ideal)) W (Proc.devRef .tc main_v97_4)
    = cmpf .ogt (show FVec Ideal S4x2048 .f32 from W (Proc.devRef .tc main_values)) (broadcastInDim S4x2048 ![] Facts₀.bcast_S_S4x2048 (constant S_ .f32 0x00000000#32)) := by
  simp only [hostOps0_8]; after_results; rfl
theorem r9_cst : after (hostOps0_9 (F := Ideal)) W (Proc.devRef .tc main_cst_15) = constant (F := Ideal) S_ .f32 0xBF800000#32 := by
  simp only [hostOps0_9]; after_results
theorem r10_v98 : after (hostOps0_10 (F := Ideal)) W (Proc.devRef .tc main_v98)
    = select (W (Proc.devRef .tc main_v97_4)) (W (Proc.devRef .tc main_values)) (broadcastInDim S4x2048 ![1] Facts₀.bcast_S2048_S4x2048_1
        (broadcastInDim S2048 ![] Facts₀.bcast_S_S2048 (W (Proc.devRef .tc main_cst_15)))) := by
  simp only [hostOps0_10]; after_results; rfl

/-- The chosen candidates' places in a results' gather. -/
def placesOf (i : IVec S4x256 32) : IVec S4x256x1 32 := broadcastInDim S4x256x1 ![0, 1] Facts₀.bcast_S4x256_S4x256x1_0_1 (wrapOf Facts₀.bcast_S_S4x256 2048#32 i)

/-- The best of the kept scores. -/
def bestOf (x : FVec Ideal S4x2048 .f32) : FVec Ideal S4x256 .f32 × IVec S4x256 32 :=
  Host.topK S4x256 1 (FloatOps.cmpfTotal (F := Ideal) (φ := .f32) .gt) x Facts₀.sliceFits_S4x2048_S4x256

/-- The faces beside the scores. -/
def columns (f : FVec Ideal S4x256x6 .f32) (v : FVec Ideal S4x256 .f32) : List ((s : Shape) × (s.Idx → Ideal .f32)) :=
  [⟨S4x256x6, f⟩, ⟨S4x256x1, broadcastInDim S4x256x1 ![0, 1] Facts₀.bcast_S4x256_S4x256x1_0_1 v⟩]

theorem columns_join (f : FVec Ideal S4x256x6 .f32) (v : FVec Ideal S4x256 .f32) : Shape.Concatenates ((columns f v).map (·.1)) S4x256x7 2 :=
  Facts₀.concatenates_S4x256x6_S4x256x1_S4x256x7_d2

theorem r11_v112 : after (hostOps0_11 (F := Ideal)) W (Proc.devRef .tc main_v112)
    = Host.gather gather_S4x2048_S4x256x1_S4x256_n_1_0_0_1_2_11 (W (Proc.devRef .tc main_v27)) (placesOf (bestOf (W (Proc.devRef .tc main_v98))).2) := by
  simp only [hostOps0_11]; after_results; rfl
theorem r11_v114 : after (hostOps0_11 (F := Ideal)) W (Proc.devRef .tc main_v114)
    = concatenate S4x256x7 2 (columns (Host.gather gather_S4x2048x6_S4x256x1_S4x256x6_2_1_0_0_1_2_116 (W (Proc.devRef .tc main_v35)) (placesOf (bestOf (W (Proc.devRef .tc main_v98))).2))
        (bestOf (W (Proc.devRef .tc main_v98))).1) (columns_join _ _) := by
  simp only [hostOps0_11]; after_results; rfl

end

end Cert.ReferenceIdeal.Value

end
-- ==== Proof.Tiles.lean ====
module

public import proofs.«01_k».proof.KernelIdeal
public import Idealize.ShloMosaic.Lib.ValueIdx

/-!
The kernel's tile arithmetic in a small vocabulary of its own: one block of the overlap matrix, one tile's
suppression by an earlier tile, one trip of the loop inside a tile, and one chunk of the selection. Each is stated
for any tile number, so that the eight tiles and the sixteen chunks of the printed kernel are instances.
-/

@[expose] public section

set_option maxRecDepth 16384

noncomputable section

namespace Cert.KernelIdeal.Tiles

open Idealize.ShloMosaic Idealize.ShloMosaic.TcCoe
open Facts₀ Facts

variable {F : FTy → Type} [FloatOps F] [Facts₀]

/-- The boxes as rows, the boxes as columns, a column and a row of 256 numbers. -/
abbrev Rows (F : FTy → Type) := FVec F S2048x8 .f32
abbrev Cols (F : FTy → Type) := FVec F S8x2048 .f32

/-- The constant `0`, `1` and the smallest union, as printed. -/
abbrev zero : F .f32 := Scalar.ofBits .f32 0x00000000#32
abbrev one : F .f32 := Scalar.ofBits .f32 0x3F800000#32

/-- Column `d` of the `p`-th run of 256 rows, spread over a 256 × 256 block. -/
def rowOf (p d : ℕ) (hp : p < 8) (hd : d < 8) (br : Rows F) : FVec F S256x256 .f32 :=
  broadcastTo S256x256 (extractStridedSlice S256x1 ![256 * p, d] br
    ⟨rfl, fun a => by match a with | ⟨0, _⟩ => exact (by show 256 * p + 256 ≤ 2048; omega) | ⟨1, _⟩ => exact (by show d + 1 ≤ 8; omega)⟩)
    broadcasts_S256x1_S256x256

/-- Row `d` of the `t`-th run of 256 columns, spread over a 256 × 256 block. -/
def colOf (t d : ℕ) (ht : t < 8) (hd : d < 8) (bc : Cols F) : FVec F S256x256 .f32 :=
  broadcastTo S256x256 (extractStridedSlice S1x256 ![d, 256 * t] bc
    ⟨rfl, fun a => by match a with | ⟨0, _⟩ => exact (by show d + 1 ≤ 8; omega) | ⟨1, _⟩ => exact (by show 256 * t + 256 ≤ 2048; omega)⟩)
    broadcasts_S1x256_S256x256

/-- The extent of the common part along axis `d`, at least zero. -/
def extOf (p t d : ℕ) (hp : p < 8) (ht : t < 8) (hd : d < 3) (br : Rows F) (bc : Cols F) : FVec F S256x256 .f32 :=
  maximumf (subf (minimumf (rowOf p (3 + d) hp (by omega) br) (colOf t (3 + d) ht (by omega) bc))
    (maximumf (rowOf p d hp (by omega) br) (colOf t d ht (by omega) bc))) (broadcast S256x256 zero)

/-- The common volume of the boxes of run `p` with the boxes of run `t`. -/
def interOf (p t : ℕ) (hp : p < 8) (ht : t < 8) (br : Rows F) (bc : Cols F) : FVec F S256x256 .f32 :=
  mulf (mulf (mulf (broadcast S256x256 one) (extOf p t 0 hp ht (by omega) br bc)) (extOf p t 1 hp ht (by omega) br bc))
    (extOf p t 2 hp ht (by omega) br bc)

/-- The two volumes added. -/
def volsOf (p t : ℕ) (hp : p < 8) (ht : t < 8) (vr : FVec F S2048x1 .f32) (vc : FVec F S1x2048 .f32) : FVec F S256x256 .f32 :=
  addf (broadcastTo S256x256 (extractStridedSlice S256x1 ![256 * p, 0] vr
      ⟨rfl, fun a => by match a with | ⟨0, _⟩ => exact (by show 256 * p + 256 ≤ 2048; omega) | ⟨1, _⟩ => exact (by show 0 + 1 ≤ 1; omega)⟩)
      broadcasts_S256x1_S256x256)
    (broadcastTo S256x256 (extractStridedSlice S1x256 ![0, 256 * t] vc
      ⟨rfl, fun a => by match a with | ⟨0, _⟩ => exact (by show 0 + 1 ≤ 1; omega) | ⟨1, _⟩ => exact (by show 256 * t + 256 ≤ 2048; omega)⟩)
      broadcasts_S1x256_S256x256)

/-- One block of the overlap matrix: `1` where the boxes are of one class and overlap by more than the threshold. -/
def ovOf (p t : ℕ) (hp : p < 8) (ht : t < 8) (br : Rows F) (bc : Cols F) (vr : FVec F S2048x1 .f32) (vc : FVec F S1x2048 .f32) :
    FVec F S256x256 .f32 :=
  sitofp .f32 (extui 32 (andi
    (cmpf .ogt (interOf p t hp ht br bc)
      (mulf (broadcast S256x256 (Scalar.ofBits .f32 0x3E800000#32))
        (maximumf (subf (volsOf p t hp ht vr vc) (interOf p t hp ht br bc)) (broadcast S256x256 (Scalar.ofBits .f32 0x3089705F#32)))))
    (cmpf .oeq (rowOf p 7 hp (by omega) br) (colOf t 7 ht (by omega) bc))) natLt_1_32)

/-- The suppression of tile `t` with the share of the kept boxes of tile `p` added. -/
def supOf (p t : ℕ) (hp : p < 8) (ht : t < 8) (br : Rows F) (bc : Cols F) (vr : FVec F S2048x1 .f32) (vc : FVec F S1x2048 .f32)
    (k s : FVec F S1x256 .f32) : FVec F S1x256 .f32 :=
  addf s (matmul dot_S1x256_S256x256_S1x256_1_0_0_1_n_n none k (ovOf p t hp ht br bc vr vc) (constant S1x256 .f32 0x00000000#32))

/-- The validity of the boxes of tile `t`. -/
def validOf (t : ℕ) (ht : t < 8) (v : FVec F S1x2048 .f32) : FVec F S1x256 .f32 :=
  extractStridedSlice S1x256 ![0, 256 * t] v
    ⟨rfl, fun a => by match a with | ⟨0, _⟩ => exact (by show 0 + 1 ≤ 1; omega) | ⟨1, _⟩ => exact (by show 256 * t + 256 ≤ 2048; omega)⟩

/-- The boxes of tile `t` that are valid and that nothing kept earlier suppresses. -/
def aliveOf (t : ℕ) (ht : t < 8) (v : FVec F S1x2048 .f32) (s : FVec F S1x256 .f32) : FVec F S1x256 .f32 :=
  mulf (validOf t ht v) (sitofp .f32 (extui 32 (cmpf .ole s (broadcast S1x256 zero)) natLt_1_32))

/-- One trip of the loop inside a tile at counter `i`, `row` being row `i` of the tile's own block. -/
def tripOf (i : BitVec 32) (row a : FVec F S1x256 .f32) : FVec F S1x256 .f32 :=
  mulf a (subf (broadcast S1x256 one)
    (mulf (mulf (broadcast S1x256 (extractAt ![0, 0, 0] (shapeCast S1x1x1
        (multiReduction .maximumf [1, 2] S1 (shapeCast S1x1x256
          (select (cmpi .eq (iota .tc S1x256 32 [1] iota_S1x256_d1_w32) (broadcast S1x256 i)) a (broadcast S1x256 zero))
          shapeCasts_S1x256_S1x1x256) 0xFF800000#32 reduces_S1x1x256_S1 (.inl rfl) rfl) shapeCasts_S1_S1x1x1) inpos_S1x1x1_p0_0_0)) row)
      (sitofp .f32 (extui 32 (cmpi .sgt (iota .tc S1x256 32 [1] iota_S1x256_d1_w32) (broadcast S1x256 i)) natLt_1_32))))

/-- Row `i` of a block. -/
def rowAt (blk : FVec F S256x256 .f32) (i : ℕ) (hi : i < 256) : FVec F S1x256 .f32 :=
  fun j => blk (ValueIdx.ix2 ⟨i, hi⟩ (j 1))

/-- The carried value before trip `n` of a tile's loop. -/
def loopOf (blk : FVec F S256x256 .f32) (a : FVec F S1x256 .f32) : ℕ → FVec F S1x256 .f32
  | 0 => a
  | n + 1 => if h : n < 256 then tripOf (BitVec.ofNat 32 n) (rowAt blk n h) (loopOf blk a n) else loopOf blk a n

/-! ## The selection -/

/-- The `n`-th run of 128 of the 2048 keep flags. -/
def chunkOf (n : ℕ) (hn : n < 16) (kf : FVec F S1x2048 .f32) : FVec F S1x128 .f32 :=
  extractStridedSlice S1x128 ![0, 128 * n] kf
    ⟨rfl, fun a => by match a with | ⟨0, _⟩ => exact (by show 0 + 1 ≤ 1; omega) | ⟨1, _⟩ => exact (by show 128 * n + 128 ≤ 2048; omega)⟩

/-- The `n`-th run of 128 of the 2048 boxes. -/
def boxesOf (n : ℕ) (hn : n < 16) (br : Rows F) : FVec F S128x8 .f32 :=
  extractStridedSlice S128x8 ![128 * n, 0] br
    ⟨rfl, fun a => by match a with | ⟨0, _⟩ => exact (by show 128 * n + 128 ≤ 2048; omega) | ⟨1, _⟩ => exact (by show 0 + 8 ≤ 8; omega)⟩

/-- The flags turned round. -/
def flipOf (k : FVec F S1x128 .f32) : FVec F S1x128 .f32 := subf (broadcast S1x128 one) k

/-- The matrix that is `1` on and above the diagonal. -/
def upper : FVec F S128x128 .f32 :=
  sitofp .f32 (extui 32 (cmpi .sle (iota .tc S128x128 32 [0] iota_S128x128_d0_w32) (iota .tc S128x128 32 [1] iota_S128x128_d1_w32)) natLt_1_32)

/-- The running sums of a run of flags. -/
def preOf (k : FVec F S1x128 .f32) : FVec F S1x128 .f32 :=
  matmul dot_S1x128_S128x128_S1x128_1_0_0_1_n_n none k upper (constant S1x128 .f32 0x00000000#32)

/-- The output positions as a column of numbers. -/
def ranks : FVec F S256x1 .f32 := sitofp .f32 (iota .tc S256x1 32 [0] iota_S256x1_d0_w32)

/-- The positions a run of boxes goes to, the kept ones counted from `ko` and the others from `no`. -/
def posOf (k : FVec F S1x128 .f32) (ko no : F .f32) : FVec F S1x128 .f32 :=
  select (cmpf .ogt k (broadcast S1x128 zero))
    (subf (addf (broadcast S1x128 ko) (preOf k)) (broadcast S1x128 one))
    (subf (addf (broadcast S1x128 no) (preOf (flipOf k))) (broadcast S1x128 one))

/-- `1` where an output position is the position a box goes to. -/
def permOf (pos : FVec F S1x128 .f32) : FVec F S256x128 .f32 :=
  sitofp .f32 (extui 32 (cmpf .oeq (broadcastTo S256x128 ranks broadcasts_S256x1_S256x128)
    (broadcastTo S256x128 pos broadcasts_S1x128_S256x128)) natLt_1_32)

/-- The rows gathered so far with those of a run added. -/
def accOf (n : ℕ) (hn : n < 16) (br : Rows F) (pos : FVec F S1x128 .f32) (acc : FVec F S256x8 .f32) : FVec F S256x8 .f32 :=
  addf acc (matmul dot_S256x128_S128x8_S256x8_1_0_0_1_n_n none (permOf pos) (boxesOf n hn br) (constant S256x8 .f32 0x00000000#32))

/-- The number of flags set in a run. -/
def countOf (k : FVec F S1x128 .f32) : F .f32 :=
  extractAt ![0, 0, 0] (shapeCast S1x1x1 (multiReduction .add [1, 2] S1 (shapeCast S1x1x128 k shapeCasts_S1x128_S1x1x128)
    0x00000000#32 reduces_S1x1x128_S1 (.inl rfl) rfl) shapeCasts_S1_S1x1x1) inpos_S1x1x1_p0_0_0

/-- The number of flags set in all. -/
def totalOf (kf : FVec F S1x2048 .f32) : F .f32 :=
  extractAt ![0, 0, 0] (shapeCast S1x1x1 (multiReduction .add [1, 2] S1 (shapeCast S1x1x2048 kf shapeCasts_S1x2048_S1x1x2048)
    0x00000000#32 reduces_S1x1x2048_S1 (.inl rfl) rfl) shapeCasts_S1_S1x1x1) inpos_S1x1x1_p0_0_0

/-- The number of kept boxes before run `n`. -/
def keptAt (kf : FVec F S1x2048 .f32) : ℕ → F .f32
  | 0 => zero
  | n + 1 => if h : n < 16 then Scalar.addf (keptAt kf n) (countOf (chunkOf n h kf)) else keptAt kf n

/-- The number of kept boxes in all and of the others before run `n`. -/
def restAt (kf : FVec F S1x2048 .f32) (tot : F .f32) : ℕ → F .f32
  | 0 => tot
  | n + 1 => if h : n < 16 then Scalar.addf (restAt kf tot n) (countOf (flipOf (chunkOf n h kf))) else restAt kf tot n

/-- The rows gathered before run `n`. -/
def accAt (br : Rows F) (kf : FVec F S1x2048 .f32) (tot : F .f32) : ℕ → FVec F S256x8 .f32
  | 0 => broadcast S256x8 zero
  | n + 1 => if h : n < 16 then accOf n h br (posOf (chunkOf n h kf) (keptAt kf n) (restAt kf tot n)) (accAt br kf tot n)
      else accAt br kf tot n

/-- The kernel's block of output from all the rows gathered: past the number of kept boxes the score is `-1`. -/
def outOf (tot : F .f32) (acc : FVec F S256x8 .f32) : FVec F S1x256x8 .f32 :=
  shapeCast S1x256x8 (select (cmpi .eq (iota .tc S256x8 32 [1] iota_S256x8_d1_w32) (broadcast S256x8 6#32))
    (broadcastTo S256x8 (shapeCast S256x1 (select (cmpf .olt ranks (broadcast S256x1 tot))
      (extractStridedSlice S256x1 ![0, 6] acc slices_S256x8_o0_6_S256x1)
      (broadcast S256x1 (Scalar.ofBits .f32 0xBF800000#32))) shapeCasts_S256x1_S256x1) broadcasts_S256x1_S256x8) acc)
    shapeCasts_S256x8_S1x256x8

end Cert.KernelIdeal.Tiles

end
-- ==== Proof.TileSem.lean ====
module

public import proofs.«01_k».proof.Proof.Tiles
public import proofs.«01_k».proof.Proof.Ind
public import Idealize.ShloMosaic.Lib.ValueLayout
public import Idealize.ShloMosaic.Lib.MatmulPlain
public import Idealize.ShloMosaic.Lib.Pipeline.Value

/-!
What the tile arithmetic computes over the extended reals: the overlap block is the indicator of the overlap
relation, a tile's suppression counts the kept boxes that overlap, and a tile's loop leaves the greedily kept boxes.
-/

@[expose] public section

set_option maxRecDepth 16384

noncomputable section

namespace Cert.KernelIdeal.Tiles

open Idealize.ShloMosaic Idealize.ShloMosaic.TcCoe Idealize.ShloMosaic.ValueIdx
open Facts₀ Facts Cert.Nms
open scoped Classical

variable [Facts₀]

/-! ## The overlap relation -/

/-- The threshold and the smallest union. -/
def quarter : EReal := Ideal.ofBits .f32 0x3E800000#32
def tiny : EReal := Ideal.ofBits .f32 0x3089705F#32

/-- The extent of the common part of two boxes along axis `d`, at least zero. -/
def extB (B : ℕ → ℕ → EReal) (i j d : ℕ) : EReal := max (min (B i (3 + d)) (B j (3 + d)) - max (B i d) (B j d)) 0
/-- The common volume. -/
def interB (B : ℕ → ℕ → EReal) (i j : ℕ) : EReal := 1 * extB B i j 0 * extB B i j 1 * extB B i j 2
/-- A box's volume. -/
def volB (B : ℕ → ℕ → EReal) (i : ℕ) : EReal :=
  1 * max (B i 3 - B i 0) 0 * max (B i 4 - B i 1) 0 * max (B i 5 - B i 2) 0
/-- Two boxes overlap: the common volume exceeds a quarter of the union, and the classes agree. -/
def OvB (B : ℕ → ℕ → EReal) (i j : ℕ) : Prop :=
  quarter * max (volB B i + volB B j - interB B i j) tiny < interB B i j ∧ B i 7 = B j 7

section

variable {B : ℕ → ℕ → EReal} {br : Rows Ideal} {bc : Cols Ideal} {vr : FVec Ideal S2048x1 .f32} {vc : FVec Ideal S1x2048 .f32}
  (hbr : ∀ (j : Fin 2048) (d : Fin 8), br (ix2 j d) = B j.val d.val) (hbc : ∀ (j : Fin 2048) (d : Fin 8), bc (ix2 d j) = B j.val d.val)
  (hvr : ∀ j : Fin 2048, vr (ix2 j 0) = volB B j.val) (hvc : ∀ j : Fin 2048, vc (ix2 0 j) = volB B j.val)

include hbr in
theorem rowOf_apply (p d : ℕ) (hp : p < 8) (hd : d < 8) (a b : Fin 256) : rowOf p d hp hd br (ix2 a b) = B (256 * p + a.val) d := by
  refine Eq.trans (congrArg br (?_ : _ = ix2 ⟨256 * p + a.val, by omega⟩ ⟨d, hd⟩)) (hbr _ _)
  funext x
  match x with
  | ⟨0, _⟩ => rfl
  | ⟨1, _⟩ => rfl

include hbc in
theorem colOf_apply (t d : ℕ) (ht : t < 8) (hd : d < 8) (a b : Fin 256) : colOf t d ht hd bc (ix2 a b) = B (256 * t + b.val) d := by
  refine Eq.trans (congrArg bc (?_ : _ = ix2 ⟨d, hd⟩ ⟨256 * t + b.val, by omega⟩)) (hbc ⟨256 * t + b.val, by omega⟩ ⟨d, hd⟩)
  funext x
  match x with
  | ⟨0, _⟩ => rfl
  | ⟨1, _⟩ => rfl

include hvr hvc in
theorem volsOf_apply (p t : ℕ) (hp : p < 8) (ht : t < 8) (a b : Fin 256) :
    volsOf p t hp ht vr vc (ix2 a b) = volB B (256 * p + a.val) + volB B (256 * t + b.val) := by
  refine congrArg₂ (· + ·) ?_ ?_
  · refine Eq.trans (congrArg vr (?_ : _ = ix2 ⟨256 * p + a.val, by omega⟩ 0)) (hvr _)
    funext x
    match x with
    | ⟨0, _⟩ => rfl
    | ⟨1, _⟩ => rfl
  · refine Eq.trans (congrArg vc (?_ : _ = ix2 0 ⟨256 * t + b.val, by omega⟩)) (hvc ⟨256 * t + b.val, by omega⟩)
    funext x
    match x with
    | ⟨0, _⟩ => rfl
    | ⟨1, _⟩ => rfl

theorem zero_eq : (zero : Ideal .f32) = 0 := Ideal.ofBits_zero_f32
theorem one_eq : (one : Ideal .f32) = 1 := Ideal.ofBits_one_f32

include hbr hbc in
theorem extOf_apply (p t d : ℕ) (hp : p < 8) (ht : t < 8) (hd : d < 3) (a b : Fin 256) :
    extOf p t d hp ht hd br bc (ix2 a b) = extB B (256 * p + a.val) (256 * t + b.val) d := by
  show max (min (rowOf p (3 + d) hp _ br (ix2 a b)) (colOf t (3 + d) ht _ bc (ix2 a b))
    - max (rowOf p d hp _ br (ix2 a b)) (colOf t d ht _ bc (ix2 a b))) zero = _
  rw [rowOf_apply hbr, rowOf_apply hbr, colOf_apply hbc, colOf_apply hbc, zero_eq]; rfl

include hbr hbc in
theorem interOf_apply (p t : ℕ) (hp : p < 8) (ht : t < 8) (a b : Fin 256) :
    interOf p t hp ht br bc (ix2 a b) = interB B (256 * p + a.val) (256 * t + b.val) := by
  show one * extOf p t 0 hp ht _ br bc (ix2 a b) * extOf p t 1 hp ht _ br bc (ix2 a b) * extOf p t 2 hp ht _ br bc (ix2 a b) = _
  rw [extOf_apply hbr hbc, extOf_apply hbr hbc, extOf_apply hbr hbc, one_eq]; rfl

include hbr hbc hvr hvc in
/-- The overlap block is the indicator of the overlap relation. -/
theorem ovOf_apply (p t : ℕ) (hp : p < 8) (ht : t < 8) (a b : Fin 256) :
    ovOf p t hp ht br bc vr vc (ix2 a b) = ind (OvB B (256 * p + a.val) (256 * t + b.val)) := by
  refine (mask_apply _ _ _).trans (ind_congr ?_)
  refine (and_one _ _).trans ?_
  rw [gt_one, eq_one, rowOf_apply hbr, colOf_apply hbc, interOf_apply hbr hbc]
  show quarter * max (volsOf p t hp ht vr vc (ix2 a b) - interOf p t hp ht br bc (ix2 a b)) tiny < _ ∧ _ ↔ _
  rw [volsOf_apply hvr hvc, interOf_apply hbr hbc]; rfl

/-! ## Suppression and the tile's start -/

/-- A tile's flags are the indicators of the kept boxes of the tile. -/
def IsKeep (K : ℕ → Prop) (t : ℕ) (k : FVec Ideal S1x256 .f32) : Prop := ∀ j : Fin 256, k (ix2 0 j) = ind (K (256 * t + j.val))

/-- A suppression counts the boxes before `n` that are kept and overlap the tile's. -/
def IsSup (K : ℕ → Prop) (ov : ℕ → ℕ → Prop) (n t : ℕ) (s : FVec Ideal S1x256 .f32) : Prop :=
  ∀ j : Fin 256, s (ix2 0 j) = nat (cnt (fun i => K i ∧ ov i (256 * t + j.val)) n)

theorem isSup_zero (K : ℕ → Prop) (ov : ℕ → ℕ → Prop) (t : ℕ) : IsSup K ov (256 * 0) t (broadcast S1x256 zero) := fun j => by
  rw [Nat.mul_zero, cnt_zero, nat_zero]; exact zero_eq

include hbr hbc hvr hvc in
theorem isSup_step {K : ℕ → Prop} {p t : ℕ} (hp : p < 8) (ht : t < 8) {k s : FVec Ideal S1x256 .f32} (hk : IsKeep K p k)
    (hs : IsSup K (OvB B) (256 * p) t s) : IsSup K (OvB B) (256 * (p + 1)) t (supOf p t hp ht br bc vr vc k s) := fun j => by
  show s (ix2 0 j) + FloatOps.matmul (DotDims.plain 1 256 256) none k (ovOf p t hp ht br bc vr vc) (constant S1x256 .f32 0x00000000#32) (ix2 0 j) = _
  rw [Ideal.matmul_plain_apply, constant_apply, Ideal.ofBits_zero_f32, zero_add, hs j, Nat.mul_succ, cnt_add, ← nat_add]
  refine congrArg _ ?_
  rw [← sum_ind]
  refine Finset.sum_congr rfl fun i _ => ?_
  rw [hk i, ovOf_apply hbr hbc hvr hvc, ind_mul]

end

/-- The validity row is the indicator of validity. -/
def IsValid (V : ℕ → Prop) (v : FVec Ideal S1x2048 .f32) : Prop := ∀ j : Fin 2048, v (ix2 0 j) = ind (V j.val)

theorem validOf_apply {V : ℕ → Prop} {v : FVec Ideal S1x2048 .f32} (hv : IsValid V v) (t : ℕ) (ht : t < 8) :
    IsKeep V t (validOf t ht v) := fun j => by
  refine Eq.trans (congrArg v (?_ : _ = ix2 0 ⟨256 * t + j.val, by omega⟩)) (hv ⟨256 * t + j.val, by omega⟩)
  funext x
  match x with
  | ⟨0, _⟩ => rfl
  | ⟨1, _⟩ => rfl

theorem aliveOf_apply {V K : ℕ → Prop} {ov : ℕ → ℕ → Prop} {v : FVec Ideal S1x2048 .f32} (hv : IsValid V v) (t : ℕ) (ht : t < 8)
    {s : FVec Ideal S1x256 .f32} (hs : IsSup K ov (256 * t) t s) (j : Fin 256) :
    aliveOf t ht v s (ix2 0 j) = ind (V (256 * t + j.val) ∧ ∀ i, i < 256 * t → K i → ¬ ov i (256 * t + j.val)) := by
  show validOf t ht v (ix2 0 j) * _ = _
  rw [validOf_apply hv t ht j, mask_apply, ind_mul]
  refine ind_congr (and_congr_right fun _ => ?_)
  rw [le_one, hs j]
  show _ ≤ zero ↔ _
  rw [zero_eq, nat_nonpos, cnt_eq_zero]
  exact forall_congr' fun i => forall_congr' fun _ => ⟨fun h h1 h2 => h ⟨h1, h2⟩, fun h h' => h h'.1 h'.2⟩

/-! ## A tile's loop -/

theorem lane_eq (j : Fin 256) (n : ℕ) (hn : n < 256) :
    cmpi .eq (iota .tc S1x256 32 [1] iota_S1x256_d1_w32) (broadcast S1x256 (BitVec.ofNat 32 n)) (ix2 0 j) = 1#1 ↔ j.val = n := by
  refine (ofBool_one' _).trans ?_
  rw [iota_single_apply]
  show (BitVec.ofNat 32 j.val == BitVec.ofNat 32 n) = true ↔ _
  rw [beq_iff_eq]
  rw [← BitVec.toNat_inj, BitVec.toNat_ofNat, BitVec.toNat_ofNat, Nat.mod_eq_of_lt (by omega), Nat.mod_eq_of_lt (by omega)]

theorem lane_gt (j : Fin 256) (n : ℕ) (hn : n < 256) :
    cmpi .sgt (iota .tc S1x256 32 [1] iota_S1x256_d1_w32) (broadcast S1x256 (BitVec.ofNat 32 n)) (ix2 0 j) = 1#1 ↔ n < j.val := by
  refine (ofBool_one' _).trans ?_
  rw [BitVec.slt_iff_toInt_lt, iota_single_apply]
  show (BitVec.ofNat 32 n).toInt < (BitVec.ofNat 32 j.val).toInt ↔ _
  rw [toInt_small n (by omega), toInt_small j.val (by omega)]
  exact Int.ofNat_lt

/-- The greatest of a whole block. -/
theorem max_total {s t : Shape} {axes : List (Fin s.rank)} (src : FVec Ideal s .f32) (h : s.Reduces axes t) (ht : ∀ b, t.size b = 1)
    (hφ : FKind.Formats .f32) (hacc : (0xFF800000#32 : BitVec 32) = FKind.maximumf.neutral .f32 hφ) (j : t.Idx) :
    multiReduction .maximumf axes t src 0xFF800000#32 h hφ hacc j = (Finset.univ : Finset s.Idx).fold max ⊥ src := by
  rw [multiReduction_maximumf_eq_fold, Finset.filter_true_of_mem fun i _ => funext fun b => Fin.ext (by
    have := (h.drop i b).isLt; have := (j b).isLt; have := ht b; omega), ← neg_inf]
  rfl

/-- The value of one lane of a row of flags, found as a maximum. -/
theorem pick_apply (P : ℕ → Prop) (a : FVec Ideal S1x256 .f32) (ha : ∀ j : Fin 256, a (ix2 0 j) = ind (P j.val)) (n : ℕ) (hn : n < 256) :
    extractAt ![0, 0, 0] (shapeCast S1x1x1
        (multiReduction .maximumf [1, 2] S1 (shapeCast S1x1x256
          (select (cmpi .eq (iota .tc S1x256 32 [1] iota_S1x256_d1_w32) (broadcast S1x256 (BitVec.ofNat 32 n))) a (broadcast S1x256 zero))
          shapeCasts_S1x256_S1x1x256) 0xFF800000#32 reduces_S1x1x256_S1 (.inl rfl) rfl) shapeCasts_S1_S1x1x1) inpos_S1x1x1_p0_0_0
      = ind (P n) := by
  have hsel : ∀ q : S1x256.Idx, select (cmpi .eq (iota .tc S1x256 32 [1] iota_S1x256_d1_w32) (broadcast S1x256 (BitVec.ofNat 32 n))) a
      (broadcast S1x256 (zero : Ideal .f32)) q ≤ ind (P n) := fun q => by
    obtain ⟨j, rfl⟩ : ∃ j : Fin 256, q = ix2 0 j := ⟨q 1, (eq_ix2 q).trans (congrArg (fun x => ix2 x (q 1)) (Fin.eq_zero (q 0)))⟩
    rw [sel_apply]
    split_ifs with h
    · rw [ha, (lane_eq j n hn).mp h]
    · show zero ≤ _
      rw [zero_eq]; unfold ind; split_ifs <;> simp
  refine (max_total _ _ (fun b => by match b with | ⟨0, _⟩ => rfl) (.inl rfl) rfl _).trans (fold_max_ind _ _ (fun q => ?_) ⟨(Shape.reshapeEquiv shapeCasts_S1x256_S1x1x256).symm (ix2 0 ⟨n, hn⟩), ?_⟩)
  · exact hsel (Shape.reshapeEquiv shapeCasts_S1x256_S1x1x256 q)
  · show ind (P n) ≤ select _ a (broadcast S1x256 zero) (Shape.reshapeEquiv shapeCasts_S1x256_S1x1x256 _)
    rw [Equiv.apply_symm_apply, sel_apply, if_pos ((lane_eq _ n hn).mpr rfl), ha]

theorem tripOf_apply (P : ℕ → Prop) (ov : ℕ → ℕ → Prop) (a row : FVec Ideal S1x256 .f32) (ha : ∀ j : Fin 256, a (ix2 0 j) = ind (P j.val))
    (n : ℕ) (hn : n < 256) (hr : ∀ j : Fin 256, row (ix2 0 j) = ind (ov n j.val)) (j : Fin 256) :
    tripOf (BitVec.ofNat 32 n) row a (ix2 0 j) = ind (P j.val ∧ ¬ (P n ∧ ov n j.val ∧ n < j.val)) := by
  refine Eq.trans (b := a (ix2 0 j) * (one - (ind (P n) * row (ix2 0 j)) * ind (n < j.val))) ?_ ?_
  · refine congrArg (fun x => a (ix2 0 j) * (one - x)) (congrArg₂ (fun x y => (x * row (ix2 0 j)) * y) (pick_apply P a ha n hn) ?_)
    exact (mask_apply _ _ _).trans (ind_congr (lane_gt j n hn))
  · rw [ha, hr, one_eq, ind_mul, ind_mul, one_sub_ind, ind_mul]
    exact ind_congr (and_congr_right fun _ => not_congr and_assoc)

/-- A tile's loop leaves the boxes the tile's own greedy pass keeps. -/
theorem loopOf_apply (V : ℕ → Prop) (ov : ℕ → ℕ → Prop) (blk : FVec Ideal S256x256 .f32) (a : FVec Ideal S1x256 .f32)
    (ha : ∀ j : Fin 256, a (ix2 0 j) = ind (V j.val)) (hb : ∀ i j : Fin 256, blk (ix2 i j) = ind (ov i.val j.val)) (j : Fin 256) :
    loopOf blk a 256 (ix2 0 j) = ind (Keep V ov j.val) := by
  let P : ℕ → ℕ → Prop := fun n => Nat.rec V (fun n P j => P j ∧ ¬ (P n ∧ ov n j ∧ n < j)) n
  have hP : ∀ n, n ≤ 256 → ∀ j : Fin 256, loopOf blk a n (ix2 0 j) = ind (P n j.val) := fun n hn => by
    induction n with
    | zero => exact ha
    | succ n ih =>
      intro j
      rw [loopOf, dif_pos (by omega : n < 256)]
      exact tripOf_apply (P n) ov _ _ (ih (by omega)) n (by omega) (fun j => hb ⟨n, by omega⟩ j) j
  rw [hP 256 le_rfl j]
  exact ind_congr (scan_keep V ov 256 P (fun _ _ => Iff.rfl) (fun _ _ _ _ => Iff.rfl) j.val j.isLt)

/-- One tile: from the suppression by the tiles before, the loop leaves the tile's share of the boxes kept in all. -/
theorem tile_keep {B : ℕ → ℕ → EReal} {V : ℕ → Prop} {br : Rows Ideal} {bc : Cols Ideal} {vr : FVec Ideal S2048x1 .f32} {vc : FVec Ideal S1x2048 .f32}
    (hbr : ∀ (j : Fin 2048) (d : Fin 8), br (ix2 j d) = B j.val d.val) (hbc : ∀ (j : Fin 2048) (d : Fin 8), bc (ix2 d j) = B j.val d.val)
    (hvr : ∀ j : Fin 2048, vr (ix2 j 0) = volB B j.val) (hvc : ∀ j : Fin 2048, vc (ix2 0 j) = volB B j.val)
    {t : ℕ} (ht : t < 8) {a : FVec Ideal S1x256 .f32}
    (ha : ∀ j : Fin 256, a (ix2 0 j) = ind (V (256 * t + j.val) ∧ ∀ i, i < 256 * t → Keep V (OvB B) i → ¬ OvB B i (256 * t + j.val))) :
    IsKeep (Keep V (OvB B)) t (loopOf (ovOf t t ht ht br bc vr vc) a 256) := fun j => by
  rw [loopOf_apply (fun j => V (256 * t + j) ∧ ∀ i, i < 256 * t → Keep V (OvB B) i → ¬ OvB B i (256 * t + j)) (fun i j => OvB B (256 * t + i) (256 * t + j)) _ a ha (fun i j => ovOf_apply hbr hbc hvr hvc t t ht ht i j) j]
  exact ind_congr (keep_tile V (OvB B) (256 * t) j.val)

end Cert.KernelIdeal.Tiles

end
-- ==== Proof.RefRatio.lean ====
module

public import proofs.«01_k».proof.Proof.RefSegs
public import proofs.«01_k».proof.Proof.TileSem
public import Idealize.ShloMosaic.Lib.Pointwise.Reshape

/-!
The reference's overlap ratios, entry by entry.
-/

@[expose] public section

set_option maxRecDepth 16384
set_option maxHeartbeats 1000000

noncomputable section

namespace Cert.ReferenceIdeal.Value

open Cert.ReferenceIdeal Cert.ReferenceIdeal.Gen Cert.Nms Cert.KernelIdeal.Tiles
open Idealize.ShloMosaic Idealize.ShloMosaic.TcCoe

/-- Faces over the natural numbers. -/
def facesN (x : FVec Ideal S4x2048x6 .f32) (b : Fin 4) (j d : ℕ) : EReal := if h : j < 2048 ∧ d < 6 then x (ValueIdx.ix3 b ⟨j, h.1⟩ ⟨d, h.2⟩) else 0

theorem facesN_apply (x : FVec Ideal S4x2048x6 .f32) (b : Fin 4) (j : Fin 2048) (d : ℕ) (hd : d < 6) : facesN x b j.val d = x (ValueIdx.ix3 b j ⟨d, hd⟩) := dif_pos ⟨j.isLt, hd⟩

section

variable (x : FVec Ideal S4x2048x6 .f32) (b : Fin 4)

theorem low_apply (i : Fin 2048) (d : Fin 3) : extractStridedSlice S4x2048x3 ![0, 0, 0] x Facts₀.slices_S4x2048x6_S4x2048x3_0_0_0 (ValueIdx.ix3 b i d) = facesN x b i.val d.val := by
  rw [facesN_apply x b i d.val (by omega)]
  refine extractStridedSlice_apply _ _ _ _ (ValueIdx.ix3 b i ⟨d.val, by omega⟩) fun a => ?_
  fin_cases a <;> exact (Nat.zero_add _).symm

theorem high_apply (i : Fin 2048) (d : Fin 3) : extractStridedSlice S4x2048x3 ![0, 0, 3] x Facts₀.slices_S4x2048x6_S4x2048x3_0_0_3 (ValueIdx.ix3 b i d) = facesN x b i.val (3 + d.val) := by
  rw [facesN_apply x b i (3 + d.val) (by omega)]
  refine extractStridedSlice_apply _ _ _ _ (ValueIdx.ix3 b i ⟨3 + d.val, by omega⟩) fun a => ?_
  fin_cases a
  · exact (Nat.zero_add _).symm
  · exact (Nat.zero_add _).symm
  · rfl

variable (y : FVec Ideal S4x2048x3 .f32)

theorem along_rows (i j : Fin 2048) (d : Fin 3) : broadcastInDim S4x2048x2048x3 ![0, 1, 2, 3] Facts₀.bcast_S4x2048x1x3_S4x2048x2048x3_0_1_2_3
    (broadcastInDim S4x2048x1x3 ![0, 1, 3] Facts₀.bcast_S4x2048x3_S4x2048x1x3_0_1_3 y) (ValueIdx.ix4 b i j d) = y (ValueIdx.ix3 b i d) :=
  (broadcastInDim_apply _ _ _ _ (ValueIdx.ix4 b i 0 d) fun c => by fin_cases c <;> rfl).trans
    (broadcastInDim_apply _ _ _ _ (ValueIdx.ix3 b i d) fun c => by fin_cases c <;> rfl)

theorem along_cols (i j : Fin 2048) (d : Fin 3) : broadcastInDim S4x2048x2048x3 ![0, 1, 2, 3] Facts₀.bcast_S4x1x2048x3_S4x2048x2048x3_0_1_2_3
    (broadcastInDim S4x1x2048x3 ![0, 2, 3] Facts₀.bcast_S4x2048x3_S4x1x2048x3_0_2_3 y) (ValueIdx.ix4 b i j d) = y (ValueIdx.ix3 b j d) :=
  (broadcastInDim_apply _ _ _ _ (ValueIdx.ix4 b 0 j d) fun c => by fin_cases c <;> rfl).trans
    (broadcastInDim_apply _ _ _ _ (ValueIdx.ix3 b j d) fun c => by fin_cases c <;> rfl)

/-- The extents cut off at zero. -/
def extentsOf (x : FVec Ideal S4x2048x6 .f32) : FVec Ideal S4x2048x2048x3 .f32 :=
  maximumf (broadcastInDim S4x2048x2048x3 ![] Facts₀.bcast_S_S4x2048x2048x3 (constant S_ .f32 0x00000000#32)) (gapsOf x)
def lengthsOf (x : FVec Ideal S4x2048x6 .f32) : FVec Ideal S4x2048x3 .f32 :=
  maximumf (broadcastInDim S4x2048x3 ![] Facts₀.bcast_S_S4x2048x3 (constant S_ .f32 0x00000000#32)) (spansOf x)

theorem extents_apply (i j : Fin 2048) (d : Fin 3) : extentsOf x (ValueIdx.ix4 b i j d) = extB (facesN x b) i.val j.val d.val := by
  have hz : broadcastInDim S4x2048x2048x3 ![] Facts₀.bcast_S_S4x2048x2048x3 (constant (F := Ideal) S_ .f32 0x00000000#32) (ValueIdx.ix4 b i j d) = (0 : EReal) :=
    (scalar_apply _ _ _ ValueIdx.ix0).trans Ideal.ofBits_zero_f32
  refine (congrArg₂ (fun u v : EReal => max u v) hz (congrArg₂ (fun u v : EReal => u - v)
    (congrArg₂ (fun u v : EReal => min u v) ((along_rows b _ i j d).trans (high_apply x b i d)) ((along_cols b _ i j d).trans (high_apply x b j d)))
    (congrArg₂ (fun u v : EReal => max u v) ((along_rows b _ i j d).trans (low_apply x b i d)) ((along_cols b _ i j d).trans (low_apply x b j d))))).trans ?_
  exact max_comm _ _

theorem lengths_apply (i : Fin 2048) (d : Fin 3) : lengthsOf x (ValueIdx.ix3 b i d) = max (facesN x b i.val (3 + d.val) - facesN x b i.val d.val) 0 := by
  have hz : broadcastInDim S4x2048x3 ![] Facts₀.bcast_S_S4x2048x3 (constant (F := Ideal) S_ .f32 0x00000000#32) (ValueIdx.ix3 b i d) = (0 : EReal) :=
    (scalar_apply _ _ _ ValueIdx.ix0).trans Ideal.ofBits_zero_f32
  refine (congrArg₂ (fun u v : EReal => max u v) hz (congrArg₂ (fun u v : EReal => u - v) (high_apply x b i d) (low_apply x b i d))).trans ?_
  exact max_comm _ _

variable (z : FVec Ideal S4x2048x2048x3 .f32)

theorem flat4 (w : FVec Ideal S4x2048x2048x1 .f32) (i j : Fin 2048) :
    shapeCast S4x2048x2048 w Facts₀.shapeCasts_S4x2048x2048x1_S4x2048x2048 (ValueIdx.ix3 b i j) = w (ValueIdx.ix4 b i j 0) := by
  refine shapeCast_apply _ _ _ _ ?_
  rw [rowMajor_val4 _ 4194304 2048 1 rfl rfl rfl, rowMajor_val3 _ 4194304 2048 rfl rfl]
  show b.val * 4194304 + i.val * 2048 + j.val * 1 + 0 = b.val * 4194304 + i.val * 2048 + j.val
  omega

theorem flat3 (w : FVec Ideal S4x2048x1 .f32) (i : Fin 2048) :
    shapeCast S4x2048 w Facts₀.shapeCasts_S4x2048x1_S4x2048 (ValueIdx.ix2 b i) = w (ValueIdx.ix3 b i 0) := by
  refine shapeCast_apply _ _ _ _ ?_
  rw [rowMajor_val3 _ 2048 1 rfl rfl, rowMajor_val2 _ 2048 rfl]
  show b.val * 2048 + i.val * 1 + 0 = b.val * 2048 + i.val
  omega

theorem cross_apply (i j : Fin 2048) : crossOf z (ValueIdx.ix3 b i j)
    = (z (ValueIdx.ix4 b i j 0) * z (ValueIdx.ix4 b i j 1) * z (ValueIdx.ix4 b i j 2) : EReal) := by
  refine congrArg₂ (fun u v : EReal => u * v) (congrArg₂ (fun u v : EReal => u * v) ((flat4 b _ i j).trans ?_) ((flat4 b _ i j).trans ?_)) ((flat4 b _ i j).trans ?_)
  · refine extractStridedSlice_apply _ _ _ _ _ fun a => ?_
    fin_cases a <;> exact (Nat.zero_add _).symm
  · refine extractStridedSlice_apply _ _ _ _ _ fun a => ?_
    fin_cases a
    · exact (Nat.zero_add _).symm
    · exact (Nat.zero_add _).symm
    · exact (Nat.zero_add _).symm
    · rfl
  · refine extractStridedSlice_apply _ _ _ _ _ fun a => ?_
    fin_cases a
    · exact (Nat.zero_add _).symm
    · exact (Nat.zero_add _).symm
    · exact (Nat.zero_add _).symm
    · rfl

theorem bulk_apply (i : Fin 2048) : bulkOf y (ValueIdx.ix2 b i) = (y (ValueIdx.ix3 b i 0) * y (ValueIdx.ix3 b i 1) * y (ValueIdx.ix3 b i 2) : EReal) := by
  refine congrArg₂ (fun u v : EReal => u * v) (congrArg₂ (fun u v : EReal => u * v) ((flat3 b _ i).trans ?_) ((flat3 b _ i).trans ?_)) ((flat3 b _ i).trans ?_)
  · refine extractStridedSlice_apply _ _ _ _ _ fun a => ?_
    fin_cases a <;> exact (Nat.zero_add _).symm
  · refine extractStridedSlice_apply _ _ _ _ _ fun a => ?_
    fin_cases a
    · exact (Nat.zero_add _).symm
    · exact (Nat.zero_add _).symm
    · rfl
  · refine extractStridedSlice_apply _ _ _ _ _ fun a => ?_
    fin_cases a
    · exact (Nat.zero_add _).symm
    · exact (Nat.zero_add _).symm
    · rfl

theorem inter_apply (i j : Fin 2048) : crossOf (extentsOf x) (ValueIdx.ix3 b i j) = interB (facesN x b) i.val j.val := by
  rw [cross_apply, extents_apply, extents_apply, extents_apply]
  unfold interB
  rw [one_mul]
  rfl

theorem vol_apply (i : Fin 2048) : bulkOf (lengthsOf x) (ValueIdx.ix2 b i) = volB (facesN x b) i.val := by
  rw [bulk_apply, lengths_apply, lengths_apply, lengths_apply]
  unfold volB
  rw [one_mul]
  rfl

theorem ratio_apply (i j : Fin 2048) : ratioOf (crossOf (extentsOf x)) (bulkOf (lengthsOf x)) (ValueIdx.ix3 b i j)
    = Ideal.div (interB (facesN x b) i.val j.val)
        (max (volB (facesN x b) i.val + volB (facesN x b) j.val - interB (facesN x b) i.val j.val) tiny) := by
  have hi := inter_apply x b i j
  have h1 : broadcastInDim S4x2048x2048 ![0, 1, 2] Facts₀.bcast_S4x2048x1_S4x2048x2048_0_1_2 (broadcastInDim S4x2048x1 ![0, 1] Facts₀.bcast_S4x2048_S4x2048x1_0_1 (bulkOf (lengthsOf x)))
      (ValueIdx.ix3 b i j) = volB (facesN x b) i.val :=
    (broadcastInDim_apply _ _ _ _ (ValueIdx.ix3 b i 0) fun c => by fin_cases c <;> rfl).trans
      ((broadcastInDim_apply _ _ _ _ (ValueIdx.ix2 b i) fun c => by fin_cases c <;> rfl).trans (vol_apply x b i))
  have h2 : broadcastInDim S4x2048x2048 ![0, 1, 2] Facts₀.bcast_S4x1x2048_S4x2048x2048_0_1_2 (broadcastInDim S4x1x2048 ![0, 2] Facts₀.bcast_S4x2048_S4x1x2048_0_2 (bulkOf (lengthsOf x)))
      (ValueIdx.ix3 b i j) = volB (facesN x b) j.val :=
    (broadcastInDim_apply _ _ _ _ (ValueIdx.ix3 b 0 j) fun c => by fin_cases c <;> rfl).trans
      ((broadcastInDim_apply _ _ _ _ (ValueIdx.ix2 b j) fun c => by fin_cases c <;> rfl).trans (vol_apply x b j))
  have h3 : broadcastInDim S4x2048x2048 ![] Facts₀.bcast_S_S4x2048x2048 (constant (F := Ideal) S_ .f32 0x3089705F#32) (ValueIdx.ix3 b i j) = tiny :=
    scalar_apply _ _ _ ValueIdx.ix0
  exact congrArg₂ Ideal.div hi (congrArg₂ (fun u v : EReal => max u v) (congrArg₂ (fun u v : EReal => u - v) (congrArg₂ (fun u v : EReal => u + v) h1 h2) hi) h3)

end

end Cert.ReferenceIdeal.Value

end
-- ==== Proof.Boxes.lean ====
module

public import proofs.«01_k».proof.Proof.HostOps
public import proofs.«01_k».proof.Proof.Ind
public import Idealize.ShloMosaic.Lib.Pointwise.Reshape

/-!
The table of the candidate boxes: the candidates are the places of the highest scores, and each has a box from the
proposal, the deltas and the origin, its score and its class.
-/

@[expose] public section

set_option maxRecDepth 16384

noncomputable section

namespace Cert.Nms

open Idealize.ShloMosaic

section

variable (X : FVec Ideal ⟨2, ![4, 360000]⟩ .f32) (D : FVec Ideal ⟨4, ![4, 20000, 18, 6]⟩ .f32) (P : FVec Ideal ⟨3, ![4, 20000, 6]⟩ .f32)
  (O : FVec Ideal ⟨3, ![4, 20000, 3]⟩ .f32)

/-- The proposal and the class of a place among the scores. -/
def anchorAt (t : Fin 360000) : Fin 20000 := ⟨t.val / 18, by have := t.isLt; omega⟩
def classAt (t : Fin 360000) : Fin 18 := ⟨t.val % 18, Nat.mod_lt _ (by decide)⟩

/-- The place of the candidate of rank `r`. -/
def pick (b : Fin 4) (r : Fin 2048) : Fin 360000 := top (fun j => (X (ValueIdx.ix2 b j) : EReal)) (r.castLE (by decide))

/-- A distance from the origin to a face of the box at a place, and the face's coordinate. -/
def sideAt (b : Fin 4) (t : Fin 360000) (d : Fin 6) : EReal := P (ValueIdx.ix3 b (anchorAt t) d) + D (ValueIdx.ix4 b (anchorAt t) (classAt t) d)
def loAt (b : Fin 4) (t : Fin 360000) (d : Fin 3) : EReal := O (ValueIdx.ix3 b (anchorAt t) d) - sideAt D P b t ⟨d.val, by omega⟩
def hiAt (b : Fin 4) (t : Fin 360000) (d : Fin 3) : EReal := O (ValueIdx.ix3 b (anchorAt t) d) + sideAt D P b t ⟨3 + d.val, by omega⟩
def faceAt (b : Fin 4) (t : Fin 360000) (d : Fin 6) : EReal :=
  if h : d.val < 3 then loAt D P O b t ⟨d.val, h⟩ else hiAt D P O b t ⟨d.val - 3, by omega⟩

/-- An entry of the candidates' table. -/
def table (b : Fin 4) (r : Fin 2048) (e : Fin 8) : EReal :=
  if h : e.val < 6 then faceAt D P O b (pick X b r) ⟨e.val, h⟩ else if e.val = 6 then X (ValueIdx.ix2 b (pick X b r)) else (((classAt (pick X b r)).val : ℝ) : EReal)

/-- The same over the natural numbers. -/
def tableN (b : Fin 4) (j d : ℕ) : EReal := if h : j < 2048 ∧ d < 8 then table X D P O b ⟨j, h.1⟩ ⟨d, h.2⟩ else 0

theorem tableN_apply (b : Fin 4) (j : Fin 2048) (d : Fin 8) : tableN X D P O b j.val d.val = table X D P O b j d := dif_pos ⟨j.isLt, d.isLt⟩
theorem table_lo (b : Fin 4) (r : Fin 2048) (d : Fin 3) : table X D P O b r ⟨d.val, by omega⟩ = loAt D P O b (pick X b r) d := by
  unfold table faceAt
  rw [dif_pos (show d.val < 6 by omega), dif_pos (show d.val < 3 from d.isLt)]
theorem table_hi (b : Fin 4) (r : Fin 2048) (d : Fin 3) : table X D P O b r ⟨3 + d.val, by omega⟩ = hiAt D P O b (pick X b r) d := by
  unfold table faceAt
  rw [dif_pos (show 3 + d.val < 6 by omega), dif_neg (show ¬3 + d.val < 3 by omega)]
  exact congrArg _ (Fin.ext (by simp))
theorem table_score (b : Fin 4) (r : Fin 2048) : table X D P O b r 6 = X (ValueIdx.ix2 b (pick X b r)) := rfl
theorem table_class (b : Fin 4) (r : Fin 2048) : table X D P O b r 7 = (((classAt (pick X b r)).val : ℝ) : EReal) := rfl

/-- The scores of the table fall. -/
theorem table_falls (b : Fin 4) (i j : Fin 2048) (h : i ≤ j) : tableN X D P O b j.val 6 ≤ tableN X D P O b i.val 6 := by
  refine (tableN_apply X D P O b j 6).le.trans (le_trans ?_ (tableN_apply X D P O b i 6).ge)
  exact top_antitone (fun j => (X (ValueIdx.ix2 b j) : EReal)) _ _ (by simpa using h)

/-- The faces laid out by place: place `t` belongs to proposal `t / 18` and class `t % 18`. -/
theorem faces_apply {α : Type} (x : (⟨4, ![4, 20000, 18, 6]⟩ : Shape).Idx → α) (h : (⟨4, ![4, 20000, 18, 6]⟩ : Shape).ShapeCasts ⟨3, ![4, 360000, 6]⟩)
    (b : Fin 4) (t : Fin 360000) (d : Fin 6) : shapeCast ⟨3, ![4, 360000, 6]⟩ x h (ValueIdx.ix3 b t d) = x (ValueIdx.ix4 b (anchorAt t) (classAt t) d) := by
  refine shapeCast_apply x h _ _ ?_
  rw [rowMajor_val4 _ 2160000 108 6 rfl rfl rfl, rowMajor_val3 _ 2160000 6 rfl rfl]
  show b.val * 2160000 + (t.val / 18) * 108 + (t.val % 18) * 6 + d.val = b.val * 2160000 + t.val * 6 + d.val
  omega

theorem word_real (k : ℕ) (hk : k < 2 ^ 31) : (FloatOps.sitofp .f32 (BitVec.ofNat 32 k) : Ideal .f32) = (((k : ℝ) : EReal)) := by
  show (((BitVec.ofNat 32 k).toInt : ℝ) : EReal) = _
  rw [toInt_small k hk]
  norm_cast

end

end Cert.Nms

end
-- ==== Proof.Overlap.lean ====
module

public import proofs.«01_k».proof.Proof.TileSem

/-!
Moving every box by a distance of its class leaves the overlaps within a class as they were and makes boxes of different
classes disjoint, so the ratio test on the moved boxes is the overlap relation.
-/

@[expose] public section

noncomputable section

namespace Cert.KernelIdeal.Tiles

open Idealize.ShloMosaic

theorem quarter_real : quarter = (((1 / 4 : ℝ)) : EReal) := by
  unfold quarter; simp [Ideal.ofBits, Ideal.ieee, -EReal.coe_mul]; norm_num

theorem tiny_real : ∃ t : ℝ, 0 < t ∧ tiny = (t : EReal) := by
  refine ⟨_, ?_, show tiny = _ from by unfold tiny; simp [Ideal.ofBits, Ideal.ieee, -EReal.coe_mul]; norm_num; rfl⟩
  norm_num

section

variable (f : ℕ → ℕ → ℝ)

def extR (i j d : ℕ) : ℝ := max (min (f i (3 + d)) (f j (3 + d)) - max (f i d) (f j d)) 0
def interR (i j : ℕ) : ℝ := extR f i j 0 * extR f i j 1 * extR f i j 2
def volR (i : ℕ) : ℝ := max (f i 3 - f i 0) 0 * max (f i 4 - f i 1) 0 * max (f i 5 - f i 2) 0

theorem coe_max (a b : ℝ) : max (a : EReal) (b : EReal) = ((max a b : ℝ) : EReal) := (EReal.coe_strictMono.monotone.map_max).symm
theorem coe_min (a b : ℝ) : min (a : EReal) (b : EReal) = ((min a b : ℝ) : EReal) := (EReal.coe_strictMono.monotone.map_min).symm

variable {f} {B : ℕ → ℕ → EReal}

theorem extB_real {i j : ℕ} (hi : ∀ d, d < 6 → B i d = (f i d : EReal)) (hj : ∀ d, d < 6 → B j d = (f j d : EReal)) (d : ℕ) (hd : d < 3) :
    extB B i j d = (extR f i j d : EReal) := by
  unfold extB extR
  rw [hi d (by omega), hj d (by omega), hi (3 + d) (by omega), hj (3 + d) (by omega), coe_max, coe_min, ← EReal.coe_sub, ← EReal.coe_zero, coe_max]

theorem interB_real {i j : ℕ} (hi : ∀ d, d < 6 → B i d = (f i d : EReal)) (hj : ∀ d, d < 6 → B j d = (f j d : EReal)) :
    interB B i j = (interR f i j : EReal) := by
  unfold interB interR
  rw [extB_real hi hj 0 (by decide), extB_real hi hj 1 (by decide), extB_real hi hj 2 (by decide), one_mul, EReal.coe_mul, EReal.coe_mul]

theorem volB_real {i : ℕ} (hi : ∀ d, d < 6 → B i d = (f i d : EReal)) : volB B i = (volR f i : EReal) := by
  unfold volB volR
  rw [hi 0 (by decide), hi 1 (by decide), hi 2 (by decide), hi 3 (by decide), hi 4 (by decide), hi 5 (by decide)]
  rw [← EReal.coe_sub, ← EReal.coe_sub, ← EReal.coe_sub, ← EReal.coe_zero, coe_max, coe_max, coe_max, one_mul, ← EReal.coe_mul, ← EReal.coe_mul]

/-- The ratio test is the product test. -/
theorem ratio_iff {i j : ℕ} (hi : ∀ d, d < 6 → B i d = (f i d : EReal)) (hj : ∀ d, d < 6 → B j d = (f j d : EReal)) :
    quarter < Ideal.div (interB B i j) (max (volB B i + volB B j - interB B i j) tiny)
      ↔ quarter * max (volB B i + volB B j - interB B i j) tiny < interB B i j := by
  obtain ⟨t, ht, e⟩ := tiny_real
  rw [interB_real hi hj, volB_real hi, volB_real hj, e, quarter_real, ← EReal.coe_add, ← EReal.coe_sub, coe_max]
  have hp : 0 < max (volR f i + volR f j - interR f i j) t := lt_of_lt_of_le ht (le_max_right _ _)
  rw [Ideal.div_coe hp.ne', ← EReal.coe_mul, ← EReal.coe_mul, EReal.coe_lt_coe_iff, EReal.coe_lt_coe_iff, mul_one_div, lt_div_iff₀ hp]

variable {s : ℕ → ℝ}

theorem extR_move {i j : ℕ} (h : s i = s j) (d : ℕ) : extR (fun j d => f j d + s j) i j d = extR f i j d := by
  unfold extR
  beta_reduce
  rw [h, min_add_add_right, max_add_add_right, add_sub_add_right_eq_sub]

theorem volR_move (i : ℕ) : volR (fun j d => f j d + s j) i = volR f i := by
  unfold volR
  beta_reduce
  rw [add_sub_add_right_eq_sub, add_sub_add_right_eq_sub, add_sub_add_right_eq_sub]

theorem extR_apart {i j : ℕ} {d : ℕ} (h : f i (3 + d) ≤ f j d) : extR f i j d = 0 :=
  max_eq_right (sub_nonpos.mpr ((min_le_left _ _).trans (h.trans (le_max_right _ _))))

theorem extR_symm (i j d : ℕ) : extR f i j d = extR f j i d := by
  unfold extR
  rw [min_comm, max_comm (f i d)]

end

section

variable {B B' : ℕ → ℕ → EReal} {f : ℕ → ℕ → ℝ} {k : ℕ → ℕ} {M : ℝ}

theorem far {i j : ℕ} (hM : ∀ x, x = i ∨ x = j → ∀ d, d < 6 → |f x d| + 1 ≤ M) (h : k i < k j) :
    extR (fun j d => f j d + (k j : ℝ) * 2 * M) i j 0 = 0 := by
  refine extR_apart ?_
  have h1 := (abs_le.mp (show |f i 3| ≤ M - 1 by linarith [hM i (.inl rfl) 3 (by decide)])).2
  have h2 := (abs_le.mp (show |f j 0| ≤ M - 1 by linarith [hM j (.inr rfl) 0 (by decide)])).1
  have h3 : (k i : ℝ) + 1 ≤ k j := by exact_mod_cast h
  have h4 : 0 ≤ M := by linarith [hM i (.inl rfl) 3 (by decide), abs_nonneg (f i 3)]
  show f i 3 + (k i : ℝ) * 2 * M ≤ f j 0 + (k j : ℝ) * 2 * M
  nlinarith

/-- The ratio test on the moved boxes. -/
theorem overlap_iff {i j : ℕ} (hi : ∀ d, d < 6 → B i d = (f i d : EReal)) (hj : ∀ d, d < 6 → B j d = (f j d : EReal))
    (hi' : ∀ d, d < 6 → B' i d = ((f i d + (k i : ℝ) * 2 * M : ℝ) : EReal)) (hj' : ∀ d, d < 6 → B' j d = ((f j d + (k j : ℝ) * 2 * M : ℝ) : EReal))
    (ci : B i 7 = ((k i : ℝ) : EReal)) (cj : B j 7 = ((k j : ℝ) : EReal))
    (hM : ∀ x, x = i ∨ x = j → ∀ d, d < 6 → |f x d| + 1 ≤ M) :
    quarter < Ideal.div (interB B' i j) (max (volB B' i + volB B' j - interB B' i j) tiny) ↔ OvB B i j := by
  set g : ℕ → ℕ → ℝ := fun j d => f j d + (k j : ℝ) * 2 * M with hg
  have e : (B i 7 = B j 7) ↔ k i = k j := by rw [ci, cj]; norm_cast
  rw [ratio_iff (f := g) hi' hj']
  unfold OvB
  rw [e]
  by_cases h : k i = k j
  · have hs : (k i : ℝ) * 2 * M = (k j : ℝ) * 2 * M := by rw [h]
    have h1 : interR g i j = interR f i j := by
      unfold interR
      rw [hg, extR_move (s := fun j => (k j : ℝ) * 2 * M) hs, extR_move (s := fun j => (k j : ℝ) * 2 * M) hs, extR_move (s := fun j => (k j : ℝ) * 2 * M) hs]
    have h2 (x : ℕ) : volR g x = volR f x := volR_move (s := fun j => (k j : ℝ) * 2 * M) x
    rw [interB_real (f := g) hi' hj', volB_real (f := g) hi', volB_real (f := g) hj', interB_real (f := f) hi hj, volB_real (f := f) hi, volB_real (f := f) hj, h1, h2, h2]
    exact ⟨fun x => ⟨x, h⟩, fun x => x.1⟩
  · refine ⟨fun x => absurd x (not_lt.mpr ?_), fun x => absurd x.2 h⟩
    have h0 : extR g i j 0 = 0 := by
      rcases lt_or_gt_of_ne h with h | h
      · exact far hM h
      · rw [extR_symm]
        exact far (fun x hx => hM x hx.symm) h
    obtain ⟨t, ht, e⟩ := tiny_real
    rw [interB_real (f := g) hi' hj', volB_real (f := g) hi', volB_real (f := g) hj', e, quarter_real, ← EReal.coe_add, ← EReal.coe_sub, coe_max,
      ← EReal.coe_mul, EReal.coe_le_coe_iff, show interR g i j = 0 from by unfold interR; rw [h0, zero_mul, zero_mul]]
    exact mul_nonneg (by norm_num) (ht.le.trans (le_max_right _ _))

end

end Cert.KernelIdeal.Tiles

end
-- ==== Proof.RefLimit.lean ====
module

public import proofs.«01_k».proof.Proof.RefRatio
public import proofs.«01_k».proof.Proof.Boxes
public import proofs.«01_k».proof.Proof.Overlap

/-!
The distance by which the reference moves a class: one more than every coordinate, when the coordinates are real.
-/

@[expose] public section

set_option maxRecDepth 16384
set_option maxHeartbeats 1000000

noncomputable section

namespace Cert.ReferenceIdeal.Value

open Cert.ReferenceIdeal Cert.ReferenceIdeal.Gen Cert.Nms Cert.KernelIdeal.Tiles
open Idealize.ShloMosaic Idealize.ShloMosaic.TcCoe

/-- A running maximum is one of the values, and none of them exceeds it. -/
theorem foldl_max (L : List EReal) : ∀ a : EReal, a ≤ L.foldl max a ∧ (∀ x ∈ L, x ≤ L.foldl max a) ∧ (L.foldl max a = a ∨ L.foldl max a ∈ L) := by
  induction L with
  | nil => intro a; simp
  | cons y L ih =>
    intro a
    obtain ⟨h1, h2, h3⟩ := ih (max a y)
    refine ⟨(le_max_left a y).trans h1, fun x hx => ?_, ?_⟩
    · rcases List.mem_cons.mp hx with rfl | hx
      · exact (le_max_right a x).trans h1
      · exact h2 x hx
    · rw [List.foldl_cons]
      rcases h3 with h3 | h3
      · rcases max_choice a y with h | h
        · exact .inl (h3.trans h)
        · exact .inr (List.mem_cons.mpr (.inl (h3.trans h)))
      · exact .inr (List.mem_cons.mpr (.inr h3))

theorem abs_real (r : ℝ) : max (r : EReal) (-(r : EReal)) = ((|r| : ℝ) : EReal) := by
  rw [← EReal.coe_neg, coe_max]
  rfl

theorem two_word : Ideal.ofBits .f32 0x40000000#32 = (((2 : ℝ)) : EReal) := by
  simp [Ideal.ofBits, Ideal.ieee, -EReal.coe_mul]; norm_num

section

variable (x : FVec Ideal S4x2048x6 .f32) (b : Fin 4)

theorem largest (f : ℕ → ℕ → ℝ) (hf : ∀ (j : Fin 2048) (d : Fin 6), x (ValueIdx.ix3 b j d) = (f j.val d.val : EReal)) :
    ∃ M : ℝ, limitOf x (ValueIdx.ix1 b) = (M : EReal) ∧ ∀ j d : ℕ, j < 2048 → d < 6 → |f j d| + 1 ≤ M := by
  have hdrop (i : S4x2048x6.Idx) : (Facts₀.reducesTo_S4x2048x6_S4_d1_2 : S4x2048x6.ReducesTo [1, 2] S4).drop i = ValueIdx.ix1 (i 0) := by
    funext a
    refine Fin.ext ?_
    fin_cases a
    exact Shape.ReducesTo.drop_apply_val _ i 0
  have e : Host.reduce FloatOps.maximumf (Host.absf x) (constant (F := Ideal) S_ .f32 0xFF800000#32) Facts₀.reducesTo_S4x2048x6_S4_d1_2 Facts₀.h_S_ (ValueIdx.ix1 b) = _ :=
    Host.reduce_eq_foldl _ _ _ _ _ _
  set L : List S4x2048x6.Idx := ((List.finRange S4x2048x6.numel).map S4x2048x6.rowMajor.symm).filter
    (fun i => decide ((Facts₀.reducesTo_S4x2048x6_S4_d1_2 : S4x2048x6.ReducesTo [1, 2] S4).drop i = ValueIdx.ix1 b)) with hL
  have memL (j : Fin 2048) (d : Fin 6) : ValueIdx.ix3 b j d ∈ L := by
    rw [hL, List.mem_filter]
    exact ⟨List.mem_map.2 ⟨S4x2048x6.rowMajor (ValueIdx.ix3 b j d), List.mem_finRange _, Equiv.symm_apply_apply _ _⟩, decide_eq_true (hdrop _)⟩
  have ofL (i : S4x2048x6.Idx) (hi : i ∈ L) : ∃ (j : Fin 2048) (d : Fin 6), i = ValueIdx.ix3 b j d := by
    rw [hL, List.mem_filter] at hi
    have h0 := congrFun ((hdrop i).symm.trans (of_decide_eq_true hi.2)) 0
    refine ⟨i 1, i 2, (ValueIdx.eq_ix3 i).trans ?_⟩
    rw [show i 0 = b from h0]
    rfl
  have e' : Host.reduce FloatOps.maximumf (Host.absf x) (constant (F := Ideal) S_ .f32 0xFF800000#32) Facts₀.reducesTo_S4x2048x6_S4_d1_2 Facts₀.h_S_ (ValueIdx.ix1 b)
      = (L.map (fun i => (Host.absf x i : EReal))).foldl max (⊥ : EReal) := by
    rw [e, List.foldl_map, show constant (F := Ideal) S_ .f32 0xFF800000#32 (Shape.Idx.first Facts₀.h_S_) = (⊥ : EReal) from neg_inf]
    rfl
  have val (j : Fin 2048) (d : Fin 6) : (Host.absf x (ValueIdx.ix3 b j d) : EReal) = ((|f j.val d.val| : ℝ) : EReal) :=
    (congrArg (fun y : EReal => max y (-y)) (hf j d)).trans (abs_real _)
  obtain ⟨_, h2, h3⟩ := foldl_max (L.map (fun i => (Host.absf x i : EReal))) ⊥
  have h2' (j : Fin 2048) (d : Fin 6) := h2 _ (List.mem_map.mpr ⟨_, memL j d, rfl⟩)
  have h4 : ∃ r : ℝ, (L.map (fun i => (Host.absf x i : EReal))).foldl max (⊥ : EReal) = (r : EReal) := by
    rcases h3 with h3 | h3
    · have := h2' 0 0
      rw [h3, val] at this
      exact absurd this (not_le.mpr (EReal.bot_lt_coe _))
    · obtain ⟨i, hi, hv⟩ := List.mem_map.mp h3
      obtain ⟨j, d, rfl⟩ := ofL i hi
      exact ⟨_, hv.symm.trans (val j d)⟩
  obtain ⟨r, hr⟩ := h4
  refine ⟨r + 1, ?_, fun j d hj hd => ?_⟩
  · refine (congrArg₂ (fun u v : EReal => u + v) (e'.trans hr) ((scalar_apply Facts₀.bcast_S_S4 (constant (F := Ideal) S_ .f32 0x3F800000#32) (ValueIdx.ix1 b) ValueIdx.ix0).trans
      Ideal.ofBits_one_f32)).trans ?_
    rw [EReal.coe_add, EReal.coe_one]
  · have := h2' ⟨j, hj⟩ ⟨d, hd⟩
    rw [val, hr] at this
    have := EReal.coe_le_coe_iff.mp this
    show |f j d| + 1 ≤ r + 1
    linarith

/-- The moved faces. -/
theorem moved_apply (k : IVec S4x2048 32) (j : Fin 2048) (d : Fin 6) (M : ℝ) (hM : limitOf x (ValueIdx.ix1 b) = (M : EReal)) (n : ℕ) (hn : n < 18)
    (hk : k (ValueIdx.ix2 b j) = BitVec.ofNat 32 n) (y : ℝ) (hy : x (ValueIdx.ix3 b j d) = (y : EReal)) :
    movedOf x k (ValueIdx.ix3 b j d) = ((y + (n : ℝ) * 2 * M : ℝ) : EReal) := by
  have h1 : sitofp (F := Ideal) .f32 k (ValueIdx.ix2 b j) = (((n : ℝ)) : EReal) :=
    (congrArg (FloatOps.sitofp .f32) hk).trans (word_real n (lt_trans hn (by decide)))
  have h2 : broadcastInDim S4x2048 ![] Facts₀.bcast_S_S4x2048 (constant (F := Ideal) S_ .f32 0x40000000#32) (ValueIdx.ix2 b j) = ((2 : ℝ) : EReal) :=
    (scalar_apply _ _ _ ValueIdx.ix0).trans two_word
  have h3 : broadcastInDim S4x2048 ![0, 1] Facts₀.bcast_S4x1_S4x2048_0_1 (broadcastInDim S4x1 ![0] Facts₀.bcast_S4_S4x1_0 (limitOf x)) (ValueIdx.ix2 b j) = (M : EReal) :=
    (broadcastInDim_apply _ _ _ _ (ValueIdx.ix2 b 0) fun c => by fin_cases c <;> rfl).trans
      ((broadcastInDim_apply _ _ _ _ (ValueIdx.ix1 b) fun c => by fin_cases c; rfl).trans hM)
  have h4 : broadcastInDim S4x2048x6 ![0, 1, 2] Facts₀.bcast_S4x2048x1_S4x2048x6_0_1_2 (broadcastInDim S4x2048x1 ![0, 1] Facts₀.bcast_S4x2048_S4x2048x1_0_1
      (mulf (mulf (sitofp .f32 k) (broadcastInDim S4x2048 ![] Facts₀.bcast_S_S4x2048 (constant (F := Ideal) S_ .f32 0x40000000#32)))
      (broadcastInDim S4x2048 ![0, 1] Facts₀.bcast_S4x1_S4x2048_0_1 (broadcastInDim S4x1 ![0] Facts₀.bcast_S4_S4x1_0 (limitOf x))))) (ValueIdx.ix3 b j d)
      = ((n : ℝ) : EReal) * ((2 : ℝ) : EReal) * (M : EReal) := by
    refine (broadcastInDim_apply _ _ _ _ (ValueIdx.ix3 b j 0) fun c => by fin_cases c <;> rfl).trans ?_
    refine (broadcastInDim_apply _ _ _ _ (ValueIdx.ix2 b j) fun c => by fin_cases c <;> rfl).trans ?_
    exact congrArg₂ (fun u v : EReal => u * v) (congrArg₂ (fun u v : EReal => u * v) h1 h2) h3
  unfold movedOf
  refine (congrArg₂ (fun u v : EReal => u + v) hy h4).trans ?_
  rw [← EReal.coe_mul, ← EReal.coe_mul, ← EReal.coe_add]

end

end Cert.ReferenceIdeal.Value

end
-- ==== Proof.RefLoop.lean ====
module

public import proofs.«01_k».proof.Proof.RefLimit
public import Idealize.ShloMosaic.Lib.WordCmp

/-!
The reference's loop: a trip strikes out the later boxes that the box of its rank overlaps, if that box is alive, so the
loop leaves the greedily kept boxes.
-/

@[expose] public section

set_option maxRecDepth 16384
set_option maxHeartbeats 1000000

noncomputable section

namespace Cert.ReferenceIdeal.Value

open Cert.ReferenceIdeal Cert.ReferenceIdeal.Gen Cert.Nms Cert.KernelIdeal.Tiles
open Idealize.ShloMosaic Idealize.ShloMosaic.TcCoe

/-- A rank as a start of a slice. -/
def startOf (n : IVec S_ 32) : IVec S_ 32 := select (cmpi .slt n (constantI S_ 32 0#32)) (addi n (constantI S_ 32 2048#32)) n

/-- The flag of a rank's box, for every box. -/
def flagOf (K : IVec S4x2048 1) (n : IVec S_ 32) : IVec S4x2048 1 :=
  broadcastInDim S4x2048 ![0, 1] Facts₀.bcast_S4x1_S4x2048_0_1 (broadcastInDim S4x1 ![0] Facts₀.bcast_S4_S4x1_0 (shapeCast S4 (Host.dynamicSlice S4x1 K
    (fun k => (((![select (cmpi .slt (constantI S_ 32 0#32) (constantI S_ 32 0#32)) (addi (constantI S_ 32 0#32) (constantI S_ 32 4#32)) (constantI S_ 32 0#32),
      startOf n] : Fin 2 → (⟨S_, .i32⟩ : BufTy).Contents (Elt Ideal))) k (Shape.Idx.first Facts₀.h_S_)).toInt) Facts₀.sliceFits_S4x2048_S4x1) Facts₀.shapeCasts_S4x1_S4))

/-- The ratios of a rank's box with every box. -/
def rowOf (Q : FVec Ideal S4x2048x2048 .f32) (n : IVec S_ 32) : FVec Ideal S4x2048 .f32 :=
  shapeCast S4x2048 (Host.dynamicSlice S4x1x2048 Q
    (fun k => (((![select (cmpi .slt (constantI S_ 32 0#32) (constantI S_ 32 0#32)) (addi (constantI S_ 32 0#32) (constantI S_ 32 4#32)) (constantI S_ 32 0#32),
      startOf n,
      select (cmpi .slt (constantI S_ 32 0#32) (constantI S_ 32 0#32)) (addi (constantI S_ 32 0#32) (constantI S_ 32 2048#32)) (constantI S_ 32 0#32)]
        : Fin 3 → (⟨S_, .i32⟩ : BufTy).Contents (Elt Ideal))) k (Shape.Idx.first Facts₀.h_S_)).toInt) Facts₀.sliceFits_S4x2048x2048_S4x1x2048) Facts₀.shapeCasts_S4x1x2048_S4x2048

/-- The ranks after a rank. -/
def laterOf (I : IVec S2048 32) (n : IVec S_ 32) : IVec S4x2048 1 :=
  broadcastInDim S4x2048 ![0, 1] Facts₀.bcast_S1x2048_S4x2048_0_1 (broadcastInDim S1x2048 ![1] Facts₀.bcast_S2048_S1x2048_1 (cmpi .sgt I (broadcastInDim S2048 ![] Facts₀.bcast_S_S2048 n)))

/-- One trip. -/
def tripOf (K : IVec S4x2048 1) (Q : FVec Ideal S4x2048x2048 .f32) (I : IVec S2048 32) (n : IVec S_ 32) : IVec S4x2048 1 :=
  andi K (noti (andi (andi (flagOf K n) (cmpf .ogt (rowOf Q n) (broadcastInDim S4x2048 ![] Facts₀.bcast_S_S4x2048 (constant S_ .f32 0x3E800000#32)))) (laterOf I n)))

theorem trip_eq (V : Valuation τ sig (Elt Ideal)) : step_main_v97_4 V
    = tripOf (V (Proc.devRef .tc main_v97_4)) (V (Proc.devRef .tc main_v97_0)) (V (Proc.devRef .tc main_v97_1)) (V (Proc.devRef .tc main_v97_3)) := rfl

section

variable (K : IVec S4x2048 1) (Q : FVec Ideal S4x2048x2048 .f32) (n : IVec S_ 32) (k : Fin 2048) (hn : n ValueIdx.ix0 = BitVec.ofNat 32 k.val) (b : Fin 4) (j : Fin 2048)
include hn

theorem start_eq (i : S_.Idx) : startOf n i = BitVec.ofNat 32 k.val := by
  have hi : n i = BitVec.ofNat 32 k.val := (congrArg n (funext fun a => a.elim0)).trans hn
  exact (sel_zero _ _ _ i ((congrArg (fun w => IntOp.cmpi .slt w 0#32) hi).trans (slt_zero k.val (lt_trans k.isLt (by decide))))).trans hi

theorem start_int (i : S_.Idx) : (startOf n i).toInt = (k.val : Int) := by
  rw [start_eq n k hn i]
  exact StableHlo.Predicate.toInt_ofNat_small _ (lt_trans k.isLt (by decide))

theorem flag_apply : flagOf K n (ValueIdx.ix2 b j) = K (ValueIdx.ix2 b k) := by
  have hs : S4x2048.Slices ![0, k.val] S4x1 := ⟨rfl, fun a => by
    have := k.isLt
    fin_cases a
    · exact le_refl 4
    · show k.val + 1 ≤ 2048
      omega⟩
  unfold flagOf
  rw [WordCmp.dynamicSlice_eq_extract S4x1 K _ _ ![0, k.val] hs (fun a => by
    fin_cases a
    · rfl
    · exact start_int n k hn _)]
  refine (broadcastInDim_apply _ _ _ _ (ValueIdx.ix2 b 0) fun c => by fin_cases c <;> rfl).trans ?_
  refine (broadcastInDim_apply _ _ _ _ (ValueIdx.ix1 b) fun c => by fin_cases c; rfl).trans ?_
  refine (shapeCast_apply _ _ _ (ValueIdx.ix2 b 0) ?_).trans ?_
  · rw [rowMajor_val2 _ 1 rfl]
    show b.val * 1 + 0 = (S4.rowMajor (ValueIdx.ix1 b)).val
    revert b
    decide
  · refine extractStridedSlice_apply _ _ _ _ (ValueIdx.ix2 b k) fun a => ?_
    fin_cases a
    · exact (Nat.zero_add _).symm
    · rfl

theorem row_apply : rowOf Q n (ValueIdx.ix2 b j) = Q (ValueIdx.ix3 b k j) := by
  have hs : S4x2048x2048.Slices ![0, k.val, 0] S4x1x2048 := ⟨rfl, fun a => by
    have := k.isLt
    fin_cases a
    · exact le_refl 4
    · show k.val + 1 ≤ 2048
      omega
    · exact le_refl 2048⟩
  unfold rowOf
  rw [WordCmp.dynamicSlice_eq_extract S4x1x2048 Q _ _ ![0, k.val, 0] hs (fun a => by
    fin_cases a
    · rfl
    · exact start_int n k hn _
    · rfl)]
  refine (shapeCast_apply _ _ _ (ValueIdx.ix3 b 0 j) ?_).trans ?_
  · rw [rowMajor_val3 _ 2048 2048 rfl rfl, rowMajor_val2 _ 2048 rfl]
    show b.val * 2048 + 0 * 2048 + j.val = b.val * 2048 + j.val
    omega
  · refine extractStridedSlice_apply _ _ _ _ (ValueIdx.ix3 b k j) fun a => ?_
    fin_cases a
    · exact (Nat.zero_add _).symm
    · rfl
    · exact (Nat.zero_add _).symm

theorem later_iff : laterOf (iotaInDim S2048 32 0) n (ValueIdx.ix2 b j) = 1#1 ↔ k.val < j.val := by
  have e : laterOf (iotaInDim S2048 32 0) n (ValueIdx.ix2 b j) = IntOp.cmpi .sgt (BitVec.ofNat 32 j.val) (BitVec.ofNat 32 k.val) := by
    refine (broadcastInDim_apply _ _ _ _ (ValueIdx.ix2 0 j) fun c => by fin_cases c <;> rfl).trans ?_
    refine (broadcastInDim_apply _ _ _ _ (ValueIdx.ix1 j) fun c => by fin_cases c; rfl).trans ?_
    exact congrArg (IntOp.cmpi .sgt (BitVec.ofNat 32 j.val)) ((scalar_apply _ n _ ValueIdx.ix0).trans hn)
  have hk := k.isLt
  have hj := j.isLt
  have e1 : (BitVec.ofNat 32 k.val).toNat = k.val := by rw [BitVec.toNat_ofNat]; omega
  have e2 : (BitVec.ofNat 32 j.val).toNat = j.val := by rw [BitVec.toNat_ofNat]; omega
  rw [e, StableHlo.Predicate.sgt_iff_toNat (by omega) (by omega), e1, e2]

theorem trip_iff : tripOf K Q (iotaInDim S2048 32 0) n (ValueIdx.ix2 b j) = 1#1
    ↔ K (ValueIdx.ix2 b j) = 1#1 ∧ ¬(K (ValueIdx.ix2 b k) = 1#1 ∧ quarter < Q (ValueIdx.ix3 b k j) ∧ k.val < j.val) := by
  have hq : cmpf .ogt (rowOf Q n) (broadcastInDim S4x2048 ![] Facts₀.bcast_S_S4x2048 (constant S_ .f32 0x3E800000#32)) (ValueIdx.ix2 b j) = 1#1 ↔ quarter < Q (ValueIdx.ix3 b k j) := by
    rw [gt_one, row_apply Q n k hn b j, scalar_apply _ _ _ ValueIdx.ix0]
    exact Iff.rfl
  refine (and_one _ _).trans (and_congr_right fun _ => (not_one _).trans (not_congr ((and_one _ _).trans ?_)))
  rw [later_iff n k hn b j, ← and_assoc]
  refine and_congr_left fun _ => (and_one _ _).trans ?_
  rw [hq, flag_apply K n k hn b j]

end

section

variable (V : Valuation τ sig (Elt Ideal))

/-- The rank at trip `k`. -/
theorem rank_at (h0 : V (Proc.devRef .tc main_v97_3) = constantI S_ 32 0#32) (k : ℕ) :
    (STEP^[k] V (Proc.devRef .tc main_v97_3) : IVec S_ 32) ValueIdx.ix0 = BitVec.ofNat 32 k := by
  induction k with
  | zero => exact congrFun h0 _
  | succ k ih =>
    rw [Function.iterate_succ_apply', STEP_main_v97_3]
    refine (congrArg (fun w => IntOp.addi w 1#32) ih).trans ?_
    exact BitVec.ofNat_add k 1 |>.symm

theorem ratios_at (k : ℕ) : STEP^[k] V (Proc.devRef .tc main_v97_0) = V (Proc.devRef .tc main_v97_0) := by
  induction k with
  | zero => rfl
  | succ k ih => rw [Function.iterate_succ_apply', STEP_main_v97_0, ih]

theorem ranks_at (k : ℕ) : STEP^[k] V (Proc.devRef .tc main_v97_1) = V (Proc.devRef .tc main_v97_1) := by
  induction k with
  | zero => rfl
  | succ k ih => rw [Function.iterate_succ_apply', STEP_main_v97_1, ih]

/-- The flags after every trip. -/
theorem loop_keeps (h0 : V (Proc.devRef .tc main_v97_3) = constantI S_ 32 0#32) (h1 : V (Proc.devRef .tc main_v97_1) = iotaInDim S2048 32 0) (b : Fin 4)
    (valid : ℕ → Prop) (ov : ℕ → ℕ → Prop)
    (hv : ∀ j : Fin 2048, (V (Proc.devRef .tc main_v97_4) : IVec S4x2048 1) (ValueIdx.ix2 b j) = 1#1 ↔ valid j.val)
    (ho : ∀ k j : Fin 2048, quarter < (V (Proc.devRef .tc main_v97_0) : FVec Ideal S4x2048x2048 .f32) (ValueIdx.ix3 b k j) ↔ ov k.val j.val) (j : Fin 2048) :
    (STEP^[2048] V (Proc.devRef .tc main_v97_4) : IVec S4x2048 1) (ValueIdx.ix2 b j) = 1#1 ↔ Keep valid ov j.val := by
  have h := scan_keep valid ov 2048 (fun k j => ∀ h : j < 2048, (STEP^[k] V (Proc.devRef .tc main_v97_4) : IVec S4x2048 1) (ValueIdx.ix2 b ⟨j, h⟩) = 1#1)
    (fun j hj => ⟨fun h => (hv ⟨j, hj⟩).mp (h hj), fun h _ => (hv ⟨j, hj⟩).mpr h⟩) (fun k j hk hj => ?_) j.val j.isLt
  · exact ⟨fun e => h.mp fun _ => e, fun e => h.mpr e j.isLt⟩
  · have e : (STEP^[k + 1] V (Proc.devRef .tc main_v97_4) : IVec S4x2048 1)
        = tripOf (STEP^[k] V (Proc.devRef .tc main_v97_4)) (V (Proc.devRef .tc main_v97_0)) (iotaInDim S2048 32 0) (STEP^[k] V (Proc.devRef .tc main_v97_3)) := by
      rw [Function.iterate_succ_apply', STEP_main_v97_4, trip_eq, ratios_at, ranks_at, h1]
    have t := trip_iff (STEP^[k] V (Proc.devRef .tc main_v97_4)) (V (Proc.devRef .tc main_v97_0)) (STEP^[k] V (Proc.devRef .tc main_v97_3)) ⟨k, hk⟩ (rank_at V h0 k) b ⟨j, hj⟩
    rw [← e, ho ⟨k, hk⟩ ⟨j, hj⟩] at t
    exact ⟨fun x => ⟨fun _ => (t.mp (x hj)).1, fun y => (t.mp (x hj)).2 ⟨y.1 hk, y.2⟩⟩,
      fun x _ => t.mpr ⟨x.1 hj, fun y => x.2 ⟨fun _ => y.1, y.2⟩⟩⟩

end

end Cert.ReferenceIdeal.Value

end
-- ==== Proof.KerTiles.lean ====
module

public import proofs.«01_k».proof.Proof.Gen.KernelIdeal.Frame
public import proofs.«01_k».proof.Proof.Tiles
public import Idealize.ShloMosaic.Lib.VecWindow

/-!
The values the kernel's run carries from one tile to the next, read in the vocabulary of `Tiles.lean`: what each
tile starts from and what its loop leaves.
-/

@[expose] public section

set_option maxRecDepth 16384
set_option maxHeartbeats 1000000

noncomputable section

namespace Cert.KernelIdeal.Tiles

open Idealize.ShloMosaic Idealize.ShloMosaic.TcCoe Idealize.ShloMosaic.Tactic
open Cert.KernelIdeal.Gen Cert.KernelIdeal.Gen.kernelRun0_A.sl

variable {F : FTy → Type} [FloatOps F]

/-- A row loaded from the scratch block is that row of the block. -/
theorem row_read {κ : Kind} {sp : Space} (v : View sig κ sp S256x256 .f32) (f : v.ty.Contents (Elt F)) (blk : FVec F S256x256 .f32)
   (h : v.read (Elt F) f = blk) (n : ℕ) (hn : n < 256) (off : Fin 2 → ℕ) (hoff : off = ![n, 0]) (inb : ∀ a, off a + S1x256.size a ≤ S256x256.size a) :
   View.readAt (Elt F) v (Rect.unit (s := S256x256) off S1x256.size inb).toLoadRect f = rowAt blk n hn := by
  subst hoff h
  rw [View.readAt_unit v f inb rfl inb]
  funext j
  obtain ⟨a, b, rfl⟩ : ∃ a b, j = ValueIdx.ix2 a b := ⟨j 0, j 1, ValueIdx.eq_ix2 j⟩
  refine congrArg (v.read (Elt F) f) (funext fun d => Fin.ext ?_)
  match d with
  | ⟨0, _⟩ => show n + 1 * a.val = n; omega
  | ⟨1, _⟩ => show 0 + 1 * b.val = b.val; omega

/-- The loop counter. -/
theorem iv_eq (k : ℕ) : Scf.iv 0#32 1#32 k = BitVec.ofNat 32 k := by simp [Scf.iv]

/-- The loaded row's offset. -/
theorem off_eq (k : ℕ) (hk : k < 256) : (![(Scalar.indexCast (Scf.iv 0#32 1#32 k)).toNat, (0#32 : BitVec 32).toNat] : Fin 2 → ℕ) = ![k, 0] := by
  rw [iv_eq]; show (![(BitVec.ofNat 32 k).toNat, 0] : Fin 2 → ℕ) = _
  rw [BitVec.toNat_ofNat, Nat.mod_eq_of_lt (by omega)]

/-- One trip at the row it loads. -/
theorem trip_row {κ : Kind} {sp : Space} (v : View sig κ sp S256x256 .f32) (f : v.ty.Contents (Elt F)) (blk : FVec F S256x256 .f32)
   (h : v.read (Elt F) f = blk) (n : ℕ) (hn : n < 256) (off : Fin 2 → ℕ)
   (hoff : off = (![(Scalar.indexCast (Scf.iv 0#32 1#32 n)).toNat, 0] : Fin 2 → ℕ)) (inb : ∀ a, off a + S1x256.size a ≤ S256x256.size a) (acc) :
   tripOf (Scf.iv 0#32 1#32 n) (View.readAt (Elt F) v (Rect.unit (s := S256x256) off S1x256.size inb).toLoadRect f) acc
     = tripOf (BitVec.ofNat 32 n) (rowAt blk n hn) acc := by
  rw [row_read v f blk h n hn off (hoff.trans (off_eq n hn)), iv_eq]

/-- A state that follows the trips is the loop's. -/
theorem loop_eq (st : ℕ → FVec F S1x256 .f32) (blk : FVec F S256x256 .f32) (a) (h0 : st 0 = a)
  (hs : ∀ k (hk : k < 256), st (k+1) = tripOf (BitVec.ofNat 32 k) (rowAt blk k hk) (st k)) : ∀ n ≤ 256, st n = loopOf blk a n
  | 0, _ => h0
  | n+1, h => by
    rw [hs n h, loop_eq st blk a h0 hs n (by omega), loopOf, dif_pos (by omega : n < 256)]

/-- A tile's loop over the block stored last. -/
theorem tile_eq {κ : Kind} {sp : Space} (v : View sig κ sp S256x256 .f32) (f : v.ty.Contents (Elt F)) (blk : FVec F S256x256 .f32)
    (a : FVec F S1x256 .f32) (h : v.read (Elt F) f = shapeCast S256x256 blk shapeCasts_S256x256_S256x256)
    (st : ℕ → FVec F S1x256 .f32) (n : ℕ) (hn : n = 256) (off : Fin n → Fin 2 → ℕ)
    (hoff : ∀ k : Fin n, off k = (![(Scalar.indexCast (Scf.iv 0#32 1#32 k.val)).toNat, 0] : Fin 2 → ℕ))
    (inb : ∀ k a, off k a + S1x256.size a ≤ S256x256.size a) (h0 : st 0 = a)
    (hs : ∀ k : Fin n, st (k.val + 1) = tripOf (Scf.iv 0#32 1#32 k.val)
      (View.readAt (Elt F) v (Rect.unit (s := S256x256) (off k) S1x256.size (inb k)).toLoadRect f) (st k.val)) :
    st n = loopOf blk a 256 := by
  subst hn
  have h' : v.read (Elt F) f = blk := h.trans (funext fun i => congrArg blk (Shape.reshapeEquiv_self _ i))
  exact loop_eq st blk a h0 (fun k hk => (hs ⟨k, hk⟩).trans (trip_row v f blk h' k hk _ (hoff ⟨k, hk⟩) (inb ⟨k, hk⟩) _)) 256 le_rfl

section

variable (c : Dev nD) (i : grid0.Coords) (arg1 : Memref sig .tc .vmem S1x2048x8 .f32) (harg1 : arg1.IsWhole)
  (arg2 : Memref sig .tc .vmem S1x8x2048 .f32) (harg2 : arg2.IsWhole) (arg3 : Memref sig .tc .vmem S1x256x8 .f32)
  (harg3 : arg3.IsWhole) (arg4 : Memref sig .tc .vmem S256x256 .f32) (harg4 : arg4.IsWhole)
  (x0 : Vec F S1x2048x8 .f32) (x1 : Vec F S1x8x2048 .f32)

/-- One block of the overlap matrix of the boxes the kernel was given. -/
abbrev ovK (p t : ℕ) (hp : p < 8) (ht : t < 8) : FVec F S256x256 .f32 :=
  ovOf p t hp ht (r c arg1 harg1 x0) (r_1 c arg2 harg2 x1) (r_2 c arg1 harg1 x0) (r_3 c arg2 harg2 x1)

/-- A tile's suppression with an earlier tile's share added. -/
abbrev supK (p t : ℕ) (hp : p < 8) (ht : t < 8) (k s : FVec F S1x256 .f32) : FVec F S1x256 .f32 :=
  supOf p t hp ht (r c arg1 harg1 x0) (r_1 c arg2 harg2 x1) (r_2 c arg1 harg1 x0) (r_3 c arg2 harg2 x1) k s

/-- What a tile starts from. -/
abbrev aliveK (t : ℕ) (ht : t < 8) (s : FVec F S1x256 .f32) : FVec F S1x256 .f32 :=
  aliveOf t ht (r_5 c arg2 harg2 x1) s

/-- The empty suppression. -/
abbrev none0 : FVec F S1x256 .f32 := broadcast S1x256 zero

/-- Tile 0's flags. -/
theorem keep0_eq : r_9 c i arg1 harg1 arg2 harg2 arg3 harg3 arg4 harg4 x0 x1 = loopOf (ovK c arg1 harg1 arg2 harg2 x0 x1 0 0 (by decide) (by decide)) (validOf 0 (by decide) (r_5 c arg2 harg2 x1)) 256 := by
  unfold r_9
  exact tile_eq arg4.view _ _ _ ((View.read_writes_full ..).trans rfl) _ _ (by decide) k0_off1 (fun _ => rfl) k0_off1_inb rfl
    (fun k => (st_k0_t1_succ ..).trans (by unfold tripR_k0_t1 trip_k0_t1; rfl))

/-- What tile 1 starts from. -/
theorem init1_eq : r_12 c i arg1 harg1 arg2 harg2 arg3 harg3 arg4 harg4 x0 x1 = aliveK c arg2 harg2 x1 1 (by decide) (supK c arg1 harg1 arg2 harg2 x0 x1 0 1 (by decide) (by decide) (r_9 c i arg1 harg1 arg2 harg2 arg3 harg3 arg4 harg4 x0 x1)
      (none0)) := by
  rfl

/-- Tile 1's flags. -/
theorem keep1_eq : r_14 c i arg1 harg1 arg2 harg2 arg3 harg3 arg4 harg4 x0 x1 = loopOf (ovK c arg1 harg1 arg2 harg2 x0 x1 1 1 (by decide) (by decide)) (r_12 c i arg1 harg1 arg2 harg2 arg3 harg3 arg4 harg4 x0 x1) 256 := by
  unfold r_14
  exact tile_eq arg4.view _ _ _ ((View.read_writes_full ..).trans rfl) _ _ (by decide) k0_off2 (fun _ => rfl) k0_off2_inb rfl
    (fun k => (st_k0_t2_succ ..).trans (by unfold tripR_k0_t2 trip_k0_t2; rfl))

/-- What tile 2 starts from. -/
theorem init2_eq : r_23 c i arg1 harg1 arg2 harg2 arg3 harg3 arg4 harg4 x0 x1 = aliveK c arg2 harg2 x1 2 (by decide) (supK c arg1 harg1 arg2 harg2 x0 x1 1 2 (by decide) (by decide) (r_14 c i arg1 harg1 arg2 harg2 arg3 harg3 arg4 harg4 x0 x1)
      (supK c arg1 harg1 arg2 harg2 x0 x1 0 2 (by decide) (by decide) (r_9 c i arg1 harg1 arg2 harg2 arg3 harg3 arg4 harg4 x0 x1)
      (none0))) := by
  rfl

/-- Tile 2's flags. -/
theorem keep2_eq : r_28 c i arg1 harg1 arg2 harg2 arg3 harg3 arg4 harg4 x0 x1 = loopOf (ovK c arg1 harg1 arg2 harg2 x0 x1 2 2 (by decide) (by decide)) (r_23 c i arg1 harg1 arg2 harg2 arg3 harg3 arg4 harg4 x0 x1) 256 := by
  unfold r_28
  exact tile_eq arg4.view _ _ _ ((View.read_writes_full ..).trans rfl) _ _ (by decide) k0_off3 (fun _ => rfl) k0_off3_inb rfl
    (fun k => (st_k0_t3_succ ..).trans (by unfold tripR_k0_t3 trip_k0_t3; rfl))

/-- What tile 3 starts from. -/
theorem init3_eq : r_41 c i arg1 harg1 arg2 harg2 arg3 harg3 arg4 harg4 x0 x1 = aliveK c arg2 harg2 x1 3 (by decide) (supK c arg1 harg1 arg2 harg2 x0 x1 2 3 (by decide) (by decide) (r_28 c i arg1 harg1 arg2 harg2 arg3 harg3 arg4 harg4 x0 x1)
      (supK c arg1 harg1 arg2 harg2 x0 x1 1 3 (by decide) (by decide) (r_14 c i arg1 harg1 arg2 harg2 arg3 harg3 arg4 harg4 x0 x1)
      (supK c arg1 harg1 arg2 harg2 x0 x1 0 3 (by decide) (by decide) (r_9 c i arg1 harg1 arg2 harg2 arg3 harg3 arg4 harg4 x0 x1)
      (none0)))) := by
  rfl

/-- Tile 3's flags. -/
theorem keep3_eq : r_44 c i arg1 harg1 arg2 harg2 arg3 harg3 arg4 harg4 x0 x1 = loopOf (ovK c arg1 harg1 arg2 harg2 x0 x1 3 3 (by decide) (by decide)) (r_41 c i arg1 harg1 arg2 harg2 arg3 harg3 arg4 harg4 x0 x1) 256 := by
  unfold r_44
  exact tile_eq arg4.view _ _ _ ((View.read_writes_full ..).trans rfl) _ _ (by decide) k0_off4 (fun _ => rfl) k0_off4_inb rfl
    (fun k => (st_k0_t4_succ ..).trans (by unfold tripR_k0_t4 trip_k0_t4; rfl))

/-- What tile 4 starts from. -/
theorem init4_eq : r_60 c i arg1 harg1 arg2 harg2 arg3 harg3 arg4 harg4 x0 x1 = aliveK c arg2 harg2 x1 4 (by decide) (supK c arg1 harg1 arg2 harg2 x0 x1 3 4 (by decide) (by decide) (r_44 c i arg1 harg1 arg2 harg2 arg3 harg3 arg4 harg4 x0 x1)
      (supK c arg1 harg1 arg2 harg2 x0 x1 2 4 (by decide) (by decide) (r_28 c i arg1 harg1 arg2 harg2 arg3 harg3 arg4 harg4 x0 x1)
      (supK c arg1 harg1 arg2 harg2 x0 x1 1 4 (by decide) (by decide) (r_14 c i arg1 harg1 arg2 harg2 arg3 harg3 arg4 harg4 x0 x1)
      (supK c arg1 harg1 arg2 harg2 x0 x1 0 4 (by decide) (by decide) (r_9 c i arg1 harg1 arg2 harg2 arg3 harg3 arg4 harg4 x0 x1)
      (none0))))) := by
  rfl

/-- Tile 4's flags. -/
theorem keep4_eq : r_65 c i arg1 harg1 arg2 harg2 arg3 harg3 arg4 harg4 x0 x1 = loopOf (ovK c arg1 harg1 arg2 harg2 x0 x1 4 4 (by decide) (by decide)) (r_60 c i arg1 harg1 arg2 harg2 arg3 harg3 arg4 harg4 x0 x1) 256 := by
  unfold r_65
  exact tile_eq arg4.view _ _ _ ((View.read_writes_full ..).trans rfl) _ _ (by decide) k0_off5 (fun _ => rfl) k0_off5_inb rfl
    (fun k => (st_k0_t5_succ ..).trans (by unfold tripR_k0_t5 trip_k0_t5; rfl))

/-- What tile 5 starts from. -/
theorem init5_eq : r_84 c i arg1 harg1 arg2 harg2 arg3 harg3 arg4 harg4 x0 x1 = aliveK c arg2 harg2 x1 5 (by decide) (supK c arg1 harg1 arg2 harg2 x0 x1 4 5 (by decide) (by decide) (r_65 c i arg1 harg1 arg2 harg2 arg3 harg3 arg4 harg4 x0 x1)
      (supK c arg1 harg1 arg2 harg2 x0 x1 3 5 (by decide) (by decide) (r_44 c i arg1 harg1 arg2 harg2 arg3 harg3 arg4 harg4 x0 x1)
      (supK c arg1 harg1 arg2 harg2 x0 x1 2 5 (by decide) (by decide) (r_28 c i arg1 harg1 arg2 harg2 arg3 harg3 arg4 harg4 x0 x1)
      (supK c arg1 harg1 arg2 harg2 x0 x1 1 5 (by decide) (by decide) (r_14 c i arg1 harg1 arg2 harg2 arg3 harg3 arg4 harg4 x0 x1)
      (supK c arg1 harg1 arg2 harg2 x0 x1 0 5 (by decide) (by decide) (r_9 c i arg1 harg1 arg2 harg2 arg3 harg3 arg4 harg4 x0 x1)
      (none0)))))) := by
  rfl

/-- Tile 5's flags. -/
theorem keep5_eq : r_87 c i arg1 harg1 arg2 harg2 arg3 harg3 arg4 harg4 x0 x1 = loopOf (ovK c arg1 harg1 arg2 harg2 x0 x1 5 5 (by decide) (by decide)) (r_84 c i arg1 harg1 arg2 harg2 arg3 harg3 arg4 harg4 x0 x1) 256 := by
  unfold r_87
  exact tile_eq arg4.view _ _ _ ((View.read_writes_full ..).trans rfl) _ _ (by decide) k0_off6 (fun _ => rfl) k0_off6_inb rfl
    (fun k => (st_k0_t6_succ ..).trans (by unfold tripR_k0_t6 trip_k0_t6; rfl))

/-- What tile 6 starts from. -/
theorem init6_eq : r_109 c i arg1 harg1 arg2 harg2 arg3 harg3 arg4 harg4 x0 x1 = aliveK c arg2 harg2 x1 6 (by decide) (supK c arg1 harg1 arg2 harg2 x0 x1 5 6 (by decide) (by decide) (r_87 c i arg1 harg1 arg2 harg2 arg3 harg3 arg4 harg4 x0 x1)
      (supK c arg1 harg1 arg2 harg2 x0 x1 4 6 (by decide) (by decide) (r_65 c i arg1 harg1 arg2 harg2 arg3 harg3 arg4 harg4 x0 x1)
      (supK c arg1 harg1 arg2 harg2 x0 x1 3 6 (by decide) (by decide) (r_44 c i arg1 harg1 arg2 harg2 arg3 harg3 arg4 harg4 x0 x1)
      (supK c arg1 harg1 arg2 harg2 x0 x1 2 6 (by decide) (by decide) (r_28 c i arg1 harg1 arg2 harg2 arg3 harg3 arg4 harg4 x0 x1)
      (supK c arg1 harg1 arg2 harg2 x0 x1 1 6 (by decide) (by decide) (r_14 c i arg1 harg1 arg2 harg2 arg3 harg3 arg4 harg4 x0 x1)
      (supK c arg1 harg1 arg2 harg2 x0 x1 0 6 (by decide) (by decide) (r_9 c i arg1 harg1 arg2 harg2 arg3 harg3 arg4 harg4 x0 x1)
      (none0))))))) := by
  rfl

/-- Tile 6's flags. -/
theorem keep6_eq : r_114 c i arg1 harg1 arg2 harg2 arg3 harg3 arg4 harg4 x0 x1 = loopOf (ovK c arg1 harg1 arg2 harg2 x0 x1 6 6 (by decide) (by decide)) (r_109 c i arg1 harg1 arg2 harg2 arg3 harg3 arg4 harg4 x0 x1) 256 := by
  unfold r_114
  exact tile_eq arg4.view _ _ _ ((View.read_writes_full ..).trans rfl) _ _ (by decide) k0_off7 (fun _ => rfl) k0_off7_inb rfl
    (fun k => (st_k0_t7_succ ..).trans (by unfold tripR_k0_t7 trip_k0_t7; rfl))

/-- What tile 7 starts from. -/
theorem init7_eq : r_141 c i arg1 harg1 arg2 harg2 arg3 harg3 arg4 harg4 x0 x1 = aliveK c arg2 harg2 x1 7 (by decide) (supK c arg1 harg1 arg2 harg2 x0 x1 6 7 (by decide) (by decide) (r_114 c i arg1 harg1 arg2 harg2 arg3 harg3 arg4 harg4 x0 x1)
      (supK c arg1 harg1 arg2 harg2 x0 x1 5 7 (by decide) (by decide) (r_87 c i arg1 harg1 arg2 harg2 arg3 harg3 arg4 harg4 x0 x1)
      (supK c arg1 harg1 arg2 harg2 x0 x1 4 7 (by decide) (by decide) (r_65 c i arg1 harg1 arg2 harg2 arg3 harg3 arg4 harg4 x0 x1)
      (supK c arg1 harg1 arg2 harg2 x0 x1 3 7 (by decide) (by decide) (r_44 c i arg1 harg1 arg2 harg2 arg3 harg3 arg4 harg4 x0 x1)
      (supK c arg1 harg1 arg2 harg2 x0 x1 2 7 (by decide) (by decide) (r_28 c i arg1 harg1 arg2 harg2 arg3 harg3 arg4 harg4 x0 x1)
      (supK c arg1 harg1 arg2 harg2 x0 x1 1 7 (by decide) (by decide) (r_14 c i arg1 harg1 arg2 harg2 arg3 harg3 arg4 harg4 x0 x1)
      (supK c arg1 harg1 arg2 harg2 x0 x1 0 7 (by decide) (by decide) (r_9 c i arg1 harg1 arg2 harg2 arg3 harg3 arg4 harg4 x0 x1)
      (none0)))))))) := by
  rfl

/-- The flags of all tiles in one row. -/
theorem keepflat_eq : r_146 c i arg1 harg1 arg2 harg2 arg3 harg3 arg4 harg4 x0 x1 = k0_pay174 (r_9 c i arg1 harg1 arg2 harg2 arg3 harg3 arg4 harg4 x0 x1) (r_14 c i arg1 harg1 arg2 harg2 arg3 harg3 arg4 harg4 x0 x1) (r_28 c i arg1 harg1 arg2 harg2 arg3 harg3 arg4 harg4 x0 x1) (r_44 c i arg1 harg1 arg2 harg2 arg3 harg3 arg4 harg4 x0 x1) (r_65 c i arg1 harg1 arg2 harg2 arg3 harg3 arg4 harg4 x0 x1) (r_87 c i arg1 harg1 arg2 harg2 arg3 harg3 arg4 harg4 x0 x1) (r_114 c i arg1 harg1 arg2 harg2 arg3 harg3 arg4 harg4 x0 x1)
    (loopOf (ovK c arg1 harg1 arg2 harg2 x0 x1 7 7 (by decide) (by decide)) (r_141 c i arg1 harg1 arg2 harg2 arg3 harg3 arg4 harg4 x0 x1) 256) := by
  unfold r_146
  congr 1
  exact tile_eq arg4.view _ _ _ ((View.read_writes_full ..).trans rfl) _ _ (by decide) k0_off8 (fun _ => rfl) k0_off8_inb rfl
    (fun k => (st_k0_t8_succ ..).trans (by unfold tripR_k0_t8 trip_k0_t8; rfl))

/-- The keep flags and the number of boxes kept, as the run carries them. -/
abbrev flagsK := r_146 c i arg1 harg1 arg2 harg2 arg3 harg3 arg4 harg4 x0 x1
abbrev totalK := r_148 c i arg1 harg1 arg2 harg2 arg3 harg3 arg4 harg4 x0 x1

/-- The number of boxes kept is the total of the flags. -/
theorem total_eq : totalK c i arg1 harg1 arg2 harg2 arg3 harg3 arg4 harg4 x0 x1 = totalOf (flagsK c i arg1 harg1 arg2 harg2 arg3 harg3 arg4 harg4 x0 x1) := rfl

/-- The block the kernel stores is the selection from its boxes under its flags. -/
theorem block_eq : k0_pay1 (r c arg1 harg1 x0) (r_148 c i arg1 harg1 arg2 harg2 arg3 harg3 arg4 harg4 x0 x1) k0_pay177 k0_pay178 (r_213 c i arg1 harg1 arg2 harg2 arg3 harg3 arg4 harg4 x0 x1) (r_214 c i arg1 harg1 arg2 harg2 arg3 harg3 arg4 harg4 x0 x1)
    (r_215 c i arg1 harg1 arg2 harg2 arg3 harg3 arg4 harg4 x0 x1) (r_216 c i arg1 harg1 arg2 harg2 arg3 harg3 arg4 harg4 x0 x1) (r_217 c i arg1 harg1 arg2 harg2 arg3 harg3 arg4 harg4 x0 x1) cst_456
      = outOf (totalK c i arg1 harg1 arg2 harg2 arg3 harg3 arg4 harg4 x0 x1) (accAt (r c arg1 harg1 x0) (flagsK c i arg1 harg1 arg2 harg2 arg3 harg3 arg4 harg4 x0 x1) (totalK c i arg1 harg1 arg2 harg2 arg3 harg3 arg4 harg4 x0 x1) 16) := rfl

end

end Cert.KernelIdeal.Tiles

end
-- ==== Proof.KerKeep.lean ====
module

public import proofs.«01_k».proof.Proof.KerTiles
public import proofs.«01_k».proof.Proof.TileSem

/-!
The keep flags of the kernel's run over the extended reals: flag `j` is the indicator of box `j` being kept greedily.
-/

@[expose] public section

set_option maxRecDepth 16384

noncomputable section

namespace Cert.KernelIdeal.Tiles

open Idealize.ShloMosaic Idealize.ShloMosaic.TcCoe Idealize.ShloMosaic.Tactic Idealize.ShloMosaic.ValueIdx
open Cert.KernelIdeal.Gen Cert.KernelIdeal.Gen.kernelRun0_A.sl Cert.Nms

/-- The boxes of one batch as a table over the natural numbers. -/
def boxB (x0 : Vec Ideal S1x2048x8 .f32) (j d : ℕ) : EReal := if h : j < 2048 ∧ d < 8 then x0 (ix3 0 ⟨j, h.1⟩ ⟨d, h.2⟩) else 0

theorem boxB_apply (x0 : Vec Ideal S1x2048x8 .f32) (j : Fin 2048) (d : Fin 8) : boxB x0 j.val d.val = x0 (ix3 0 j d) :=
  dif_pos ⟨j.isLt, d.isLt⟩

/-- A box is valid where its score is positive. -/
def Valid (B : ℕ → ℕ → EReal) (j : ℕ) : Prop := 0 < B j 6

/-- The boxes kept in all. -/
def Kept (B : ℕ → ℕ → EReal) (j : ℕ) : Prop := Keep (Valid B) (OvB B) j

section

variable (c : Dev nD) (i : grid0.Coords) (arg1 : Memref sig .tc .vmem S1x2048x8 .f32) (harg1 : arg1.IsWhole)
  (arg2 : Memref sig .tc .vmem S1x8x2048 .f32) (harg2 : arg2.IsWhole) (arg3 : Memref sig .tc .vmem S1x256x8 .f32)
  (harg3 : arg3.IsWhole) (arg4 : Memref sig .tc .vmem S256x256 .f32) (harg4 : arg4.IsWhole)
  (x0 : Vec Ideal S1x2048x8 .f32) (x1 : Vec Ideal S1x8x2048 .f32)

/-- The boxes the run starts from. -/
theorem rows_eq : r c arg1 harg1 x0 = k0_pay2 x0 := by
  unfold r; rw [View.readAt_full, harg1.read_unread]
theorem cols_eq : r_1 c arg2 harg2 x1 = k0_pay3 x1 := by
  unfold r_1; rw [View.readAt_full, harg2.read_unread]
theorem volr_eq : r_2 c arg1 harg1 x0 = k0_pay4 x0 := by
  unfold r_2; rw [View.readAt_full, harg1.read_unread]
theorem volc_eq : r_3 c arg2 harg2 x1 = k0_pay5 x1 := by
  unfold r_3; rw [View.readAt_full, harg2.read_unread]
theorem score_eq : r_4 c arg2 harg2 x1 = k0_pay6 x1 := by
  unfold r_4; rw [View.readAt_full, harg2.read_unread]

theorem rows_apply (j : Fin 2048) (d : Fin 8) : k0_pay2 x0 (ix2 j d) = boxB x0 j.val d.val := by
  rw [boxB_apply]; exact shapeCast_1ab_ab_apply _ _ _ _

theorem pay4_apply (j : Fin 2048) : k0_pay4 x0 (ix2 j 0) = volB (boxB x0) j.val := by
  have hs : ∀ (d : ℕ) (hd : d < 8) (h : S2048x8.Slices ![0, d] S2048x1), extractStridedSlice S2048x1 ![0, d] (k0_pay2 x0) h (ix2 j 0) = boxB x0 j.val d :=
    fun d hd h => (slice2_axis1_apply d _ h j 0 ⟨d, hd⟩ rfl).trans (rows_apply x0 j ⟨d, hd⟩)
  show one * max (extractStridedSlice S2048x1 ![0, 3] (k0_pay2 x0) _ (ix2 j 0) - extractStridedSlice S2048x1 ![0, 0] (k0_pay2 x0) _ (ix2 j 0)) zero
    * max (extractStridedSlice S2048x1 ![0, 4] (k0_pay2 x0) _ (ix2 j 0) - extractStridedSlice S2048x1 ![0, 1] (k0_pay2 x0) _ (ix2 j 0)) zero
    * max (extractStridedSlice S2048x1 ![0, 5] (k0_pay2 x0) _ (ix2 j 0) - extractStridedSlice S2048x1 ![0, 2] (k0_pay2 x0) _ (ix2 j 0)) zero = _
  rw [hs 3 (by decide), hs 0 (by decide), hs 4 (by decide), hs 1 (by decide), hs 5 (by decide), hs 2 (by decide), zero_eq, one_eq]
  rfl

section

variable (hx : ∀ (j : Fin 2048) (d : Fin 8), x1 (ix3 0 d j) = x0 (ix3 0 j d))
include hx

theorem cols_apply (j : Fin 2048) (d : Fin 8) : k0_pay3 x1 (ix2 d j) = boxB x0 j.val d.val := by
  rw [boxB_apply, ← hx]; exact shapeCast_1ab_ab_apply _ _ _ _

theorem pay5_apply (j : Fin 2048) : k0_pay5 x1 (ix2 0 j) = volB (boxB x0) j.val := by
  have hs : ∀ (d : ℕ) (hd : d < 8) (h : S8x2048.Slices ![d, 0] S1x2048), extractStridedSlice S1x2048 ![d, 0] (k0_pay3 x1) h (ix2 0 j) = boxB x0 j.val d :=
    fun d hd h => (slice2_axis0_apply d _ h 0 j ⟨d, hd⟩ rfl).trans (cols_apply x0 x1 hx j ⟨d, hd⟩)
  show one * max (extractStridedSlice S1x2048 ![3, 0] (k0_pay3 x1) _ (ix2 0 j) - extractStridedSlice S1x2048 ![0, 0] (k0_pay3 x1) _ (ix2 0 j)) zero
    * max (extractStridedSlice S1x2048 ![4, 0] (k0_pay3 x1) _ (ix2 0 j) - extractStridedSlice S1x2048 ![1, 0] (k0_pay3 x1) _ (ix2 0 j)) zero
    * max (extractStridedSlice S1x2048 ![5, 0] (k0_pay3 x1) _ (ix2 0 j) - extractStridedSlice S1x2048 ![2, 0] (k0_pay3 x1) _ (ix2 0 j)) zero = _
  rw [hs 3 (by decide), hs 0 (by decide), hs 4 (by decide), hs 1 (by decide), hs 5 (by decide), hs 2 (by decide), zero_eq, one_eq]
  rfl

theorem valid_apply : IsValid (Valid (boxB x0)) (r_5 c arg2 harg2 x1) := fun j => by
  unfold r_5
  refine (mask_apply _ _ _).trans (ind_congr ?_)
  rw [gt_one, score_eq]
  have h : k0_pay6 x1 (ix2 0 j) = boxB x0 j.val 6 :=
    (slice2_axis0_apply 6 _ Facts₀.slices_S8x2048_o6_0_S1x2048 0 j ⟨6, by decide⟩ rfl).trans (cols_apply x0 x1 hx j ⟨6, by decide⟩)
  rw [h]
  show zero < _ ↔ _
  rw [zero_eq]; rfl

/-- Adding an earlier tile's share to the suppression. -/
theorem sup_step {p t : ℕ} (hp : p < 8) (ht : t < 8) {k s : FVec Ideal S1x256 .f32} (hk : IsKeep (Kept (boxB x0)) p k)
    (hs : IsSup (Kept (boxB x0)) (OvB (boxB x0)) (256 * p) t s) :
    IsSup (Kept (boxB x0)) (OvB (boxB x0)) (256 * (p + 1)) t (supK c arg1 harg1 arg2 harg2 x0 x1 p t hp ht k s) := by
  unfold supK
  rw [rows_eq, cols_eq, volr_eq, volc_eq]
  exact isSup_step (rows_apply x0) (cols_apply x0 x1 hx) (pay4_apply x0) (pay5_apply x0 x1 hx) hp ht hk hs

/-- A tile's loop from what the earlier tiles leave alive. -/
theorem keep_step {t : ℕ} (ht : t < 8) {s : FVec Ideal S1x256 .f32} (hs : IsSup (Kept (boxB x0)) (OvB (boxB x0)) (256 * t) t s) :
    IsKeep (Kept (boxB x0)) t (loopOf (ovK c arg1 harg1 arg2 harg2 x0 x1 t t ht ht) (aliveK c arg2 harg2 x1 t ht s) 256) := by
  unfold ovK
  rw [rows_eq, cols_eq, volr_eq, volc_eq]
  exact tile_keep (rows_apply x0) (cols_apply x0 x1 hx) (pay4_apply x0) (pay5_apply x0 x1 hx) ht
    (aliveOf_apply (valid_apply c arg2 harg2 x0 x1 hx) t ht hs)

theorem keep0 : IsKeep (Kept (boxB x0)) 0 (r_9 c i arg1 harg1 arg2 harg2 arg3 harg3 arg4 harg4 x0 x1) := by
  rw [keep0_eq]
  unfold ovK
  rw [rows_eq, cols_eq, volr_eq, volc_eq]
  refine tile_keep (V := Valid (boxB x0)) (rows_apply x0) (cols_apply x0 x1 hx) (pay4_apply x0) (pay5_apply x0 x1 hx) _ fun j => ?_
  rw [validOf_apply (valid_apply c arg2 harg2 x0 x1 hx) 0 _ j]
  exact ind_congr (and_iff_left fun i hi => absurd hi (by omega)).symm

theorem keep1 : IsKeep (Kept (boxB x0)) 1 (r_14 c i arg1 harg1 arg2 harg2 arg3 harg3 arg4 harg4 x0 x1) := by
  rw [keep1_eq, init1_eq]
  exact keep_step c arg1 harg1 arg2 harg2 x0 x1 hx _ (sup_step c arg1 harg1 arg2 harg2 x0 x1 hx _ _ (keep0 c i arg1 harg1 arg2 harg2 arg3 harg3 arg4 harg4 x0 x1 hx) (isSup_zero _ _ _))

theorem keep2 : IsKeep (Kept (boxB x0)) 2 (r_28 c i arg1 harg1 arg2 harg2 arg3 harg3 arg4 harg4 x0 x1) := by
  rw [keep2_eq, init2_eq]
  exact keep_step c arg1 harg1 arg2 harg2 x0 x1 hx _ (sup_step c arg1 harg1 arg2 harg2 x0 x1 hx _ _ (keep1 c i arg1 harg1 arg2 harg2 arg3 harg3 arg4 harg4 x0 x1 hx) (sup_step c arg1 harg1 arg2 harg2 x0 x1 hx _ _ (keep0 c i arg1 harg1 arg2 harg2 arg3 harg3 arg4 harg4 x0 x1 hx) (isSup_zero _ _ _)))

theorem keep3 : IsKeep (Kept (boxB x0)) 3 (r_44 c i arg1 harg1 arg2 harg2 arg3 harg3 arg4 harg4 x0 x1) := by
  rw [keep3_eq, init3_eq]
  exact keep_step c arg1 harg1 arg2 harg2 x0 x1 hx _ (sup_step c arg1 harg1 arg2 harg2 x0 x1 hx _ _ (keep2 c i arg1 harg1 arg2 harg2 arg3 harg3 arg4 harg4 x0 x1 hx) (sup_step c arg1 harg1 arg2 harg2 x0 x1 hx _ _ (keep1 c i arg1 harg1 arg2 harg2 arg3 harg3 arg4 harg4 x0 x1 hx) (sup_step c arg1 harg1 arg2 harg2 x0 x1 hx _ _ (keep0 c i arg1 harg1 arg2 harg2 arg3 harg3 arg4 harg4 x0 x1 hx) (isSup_zero _ _ _))))

theorem keep4 : IsKeep (Kept (boxB x0)) 4 (r_65 c i arg1 harg1 arg2 harg2 arg3 harg3 arg4 harg4 x0 x1) := by
  rw [keep4_eq, init4_eq]
  exact keep_step c arg1 harg1 arg2 harg2 x0 x1 hx _ (sup_step c arg1 harg1 arg2 harg2 x0 x1 hx _ _ (keep3 c i arg1 harg1 arg2 harg2 arg3 harg3 arg4 harg4 x0 x1 hx) (sup_step c arg1 harg1 arg2 harg2 x0 x1 hx _ _ (keep2 c i arg1 harg1 arg2 harg2 arg3 harg3 arg4 harg4 x0 x1 hx) (sup_step c arg1 harg1 arg2 harg2 x0 x1 hx _ _ (keep1 c i arg1 harg1 arg2 harg2 arg3 harg3 arg4 harg4 x0 x1 hx) (sup_step c arg1 harg1 arg2 harg2 x0 x1 hx _ _ (keep0 c i arg1 harg1 arg2 harg2 arg3 harg3 arg4 harg4 x0 x1 hx) (isSup_zero _ _ _)))))

theorem keep5 : IsKeep (Kept (boxB x0)) 5 (r_87 c i arg1 harg1 arg2 harg2 arg3 harg3 arg4 harg4 x0 x1) := by
  rw [keep5_eq, init5_eq]
  exact keep_step c arg1 harg1 arg2 harg2 x0 x1 hx _ (sup_step c arg1 harg1 arg2 harg2 x0 x1 hx _ _ (keep4 c i arg1 harg1 arg2 harg2 arg3 harg3 arg4 harg4 x0 x1 hx) (sup_step c arg1 harg1 arg2 harg2 x0 x1 hx _ _ (keep3 c i arg1 harg1 arg2 harg2 arg3 harg3 arg4 harg4 x0 x1 hx) (sup_step c arg1 harg1 arg2 harg2 x0 x1 hx _ _ (keep2 c i arg1 harg1 arg2 harg2 arg3 harg3 arg4 harg4 x0 x1 hx) (sup_step c arg1 harg1 arg2 harg2 x0 x1 hx _ _ (keep1 c i arg1 harg1 arg2 harg2 arg3 harg3 arg4 harg4 x0 x1 hx) (sup_step c arg1 harg1 arg2 harg2 x0 x1 hx _ _ (keep0 c i arg1 harg1 arg2 harg2 arg3 harg3 arg4 harg4 x0 x1 hx) (isSup_zero _ _ _))))))

theorem keep6 : IsKeep (Kept (boxB x0)) 6 (r_114 c i arg1 harg1 arg2 harg2 arg3 harg3 arg4 harg4 x0 x1) := by
  rw [keep6_eq, init6_eq]
  exact keep_step c arg1 harg1 arg2 harg2 x0 x1 hx _ (sup_step c arg1 harg1 arg2 harg2 x0 x1 hx _ _ (keep5 c i arg1 harg1 arg2 harg2 arg3 harg3 arg4 harg4 x0 x1 hx) (sup_step c arg1 harg1 arg2 harg2 x0 x1 hx _ _ (keep4 c i arg1 harg1 arg2 harg2 arg3 harg3 arg4 harg4 x0 x1 hx) (sup_step c arg1 harg1 arg2 harg2 x0 x1 hx _ _ (keep3 c i arg1 harg1 arg2 harg2 arg3 harg3 arg4 harg4 x0 x1 hx) (sup_step c arg1 harg1 arg2 harg2 x0 x1 hx _ _ (keep2 c i arg1 harg1 arg2 harg2 arg3 harg3 arg4 harg4 x0 x1 hx) (sup_step c arg1 harg1 arg2 harg2 x0 x1 hx _ _ (keep1 c i arg1 harg1 arg2 harg2 arg3 harg3 arg4 harg4 x0 x1 hx) (sup_step c arg1 harg1 arg2 harg2 x0 x1 hx _ _ (keep0 c i arg1 harg1 arg2 harg2 arg3 harg3 arg4 harg4 x0 x1 hx) (isSup_zero _ _ _)))))))

theorem keep7 : IsKeep (Kept (boxB x0)) 7 (loopOf (ovK c arg1 harg1 arg2 harg2 x0 x1 7 7 (by decide) (by decide)) (r_141 c i arg1 harg1 arg2 harg2 arg3 harg3 arg4 harg4 x0 x1) 256) := by
  rw [init7_eq]
  exact keep_step c arg1 harg1 arg2 harg2 x0 x1 hx _ (sup_step c arg1 harg1 arg2 harg2 x0 x1 hx _ _ (keep6 c i arg1 harg1 arg2 harg2 arg3 harg3 arg4 harg4 x0 x1 hx) (sup_step c arg1 harg1 arg2 harg2 x0 x1 hx _ _ (keep5 c i arg1 harg1 arg2 harg2 arg3 harg3 arg4 harg4 x0 x1 hx) (sup_step c arg1 harg1 arg2 harg2 x0 x1 hx _ _ (keep4 c i arg1 harg1 arg2 harg2 arg3 harg3 arg4 harg4 x0 x1 hx) (sup_step c arg1 harg1 arg2 harg2 x0 x1 hx _ _ (keep3 c i arg1 harg1 arg2 harg2 arg3 harg3 arg4 harg4 x0 x1 hx) (sup_step c arg1 harg1 arg2 harg2 x0 x1 hx _ _ (keep2 c i arg1 harg1 arg2 harg2 arg3 harg3 arg4 harg4 x0 x1 hx) (sup_step c arg1 harg1 arg2 harg2 x0 x1 hx _ _ (keep1 c i arg1 harg1 arg2 harg2 arg3 harg3 arg4 harg4 x0 x1 hx) (sup_step c arg1 harg1 arg2 harg2 x0 x1 hx _ _ (keep0 c i arg1 harg1 arg2 harg2 arg3 harg3 arg4 harg4 x0 x1 hx) (isSup_zero _ _ _))))))))

omit hx in
/-- Eight tiles' flags side by side. -/
theorem cat_apply (K : ℕ → Prop) (ks : Fin 8 → FVec Ideal S1x256 .f32) (hk : ∀ t : Fin 8, IsKeep K t.val (ks t)) (j : Fin 2048) :
    k0_pay174 (ks 0) (ks 1) (ks 2) (ks 3) (ks 4) (ks 5) (ks 6) (ks 7) (ix2 0 j) = ind (K j.val) := by
  refine (concatenate_ofFn_apply (t := S1x2048) (s₁ := S1x256) 1 ks Facts₀.concatenates_S1x256_S1x256_S1x256_S1x256_S1x256_S1x256_S1x256_S1x256_S1x2048_d1 rfl 256 rfl
    (ix2 0 j) ⟨j.val / 256, by omega⟩ rfl (ix2 0 ⟨j.val % 256, by omega⟩) rfl ?_).trans ?_
  · intro b hb
    match b with
    | ⟨0, _⟩ => rfl
    | ⟨1, _⟩ => exact absurd rfl hb
  · rw [hk]
    exact ind_congr (iff_of_eq (congrArg K (by show 256 * (j.val / 256) + j.val % 256 = j.val; omega)))

/-- Flag `j` of the run is the indicator of box `j` being kept. -/
theorem flags_apply (j : Fin 2048) : flagsK c i arg1 harg1 arg2 harg2 arg3 harg3 arg4 harg4 x0 x1 (ix2 0 j) = ind (Kept (boxB x0) j.val) := by
  unfold flagsK
  rw [keepflat_eq]
  exact cat_apply (Kept (boxB x0)) ![r_9 c i arg1 harg1 arg2 harg2 arg3 harg3 arg4 harg4 x0 x1, r_14 c i arg1 harg1 arg2 harg2 arg3 harg3 arg4 harg4 x0 x1, r_28 c i arg1 harg1 arg2 harg2 arg3 harg3 arg4 harg4 x0 x1, r_44 c i arg1 harg1 arg2 harg2 arg3 harg3 arg4 harg4 x0 x1, r_65 c i arg1 harg1 arg2 harg2 arg3 harg3 arg4 harg4 x0 x1, r_87 c i arg1 harg1 arg2 harg2 arg3 harg3 arg4 harg4 x0 x1, r_114 c i arg1 harg1 arg2 harg2 arg3 harg3 arg4 harg4 x0 x1,
    loopOf (ovK c arg1 harg1 arg2 harg2 x0 x1 7 7 (by decide) (by decide)) (r_141 c i arg1 harg1 arg2 harg2 arg3 harg3 arg4 harg4 x0 x1) 256]
    (fun t => by
      fin_cases t
      · exact keep0 c i arg1 harg1 arg2 harg2 arg3 harg3 arg4 harg4 x0 x1 hx
      · exact keep1 c i arg1 harg1 arg2 harg2 arg3 harg3 arg4 harg4 x0 x1 hx
      · exact keep2 c i arg1 harg1 arg2 harg2 arg3 harg3 arg4 harg4 x0 x1 hx
      · exact keep3 c i arg1 harg1 arg2 harg2 arg3 harg3 arg4 harg4 x0 x1 hx
      · exact keep4 c i arg1 harg1 arg2 harg2 arg3 harg3 arg4 harg4 x0 x1 hx
      · exact keep5 c i arg1 harg1 arg2 harg2 arg3 harg3 arg4 harg4 x0 x1 hx
      · exact keep6 c i arg1 harg1 arg2 harg2 arg3 harg3 arg4 harg4 x0 x1 hx
      · exact keep7 c i arg1 harg1 arg2 harg2 arg3 harg3 arg4 harg4 x0 x1 hx) j

end

end

end Cert.KernelIdeal.Tiles

end
-- ==== Proof.SelSem.lean ====
module

public import proofs.«01_k».proof.Proof.TileSem
public import proofs.«01_k».proof.Proof.StableTop

/-!
What the selection computes over the extended reals: row `r` of the output is the box whose place is `r`, the kept
boxes being numbered first and the others after them.
-/

@[expose] public section

set_option maxRecDepth 16384

noncomputable section

namespace Cert.KernelIdeal.Tiles

open Idealize.ShloMosaic Idealize.ShloMosaic.TcCoe Idealize.ShloMosaic.ValueIdx
open Facts₀ Facts Cert.Nms
open scoped Classical

variable [Facts₀]

/-- A sum over the indices of a row is the sum over its lanes. -/
theorem sum_row {n : ℕ} (f : (⟨2, ![1, n]⟩ : Shape).Idx → EReal) : ∑ i, f i = ∑ j : Fin n, f (ix2 0 j) := by
  refine Finset.sum_nbij' (fun i => i 1) (fun j => ix2 0 j) (fun _ _ => Finset.mem_univ _) (fun _ _ => Finset.mem_univ _) ?_ ?_ ?_
  · intro i _; exact ((eq_ix2 i).trans (congrArg (fun x => ix2 x (i 1)) (Fin.eq_zero (i 0)))).symm
  · intro j _; rfl
  · intro i _; exact congrArg f ((eq_ix2 i).trans (congrArg (fun x => ix2 x (i 1)) (Fin.eq_zero (i 0))))

theorem countOf_apply (P : ℕ → Prop) (k : FVec Ideal S1x128 .f32) (hk : ∀ j : Fin 128, k (ix2 0 j) = ind (P j.val)) :
    countOf k = nat (cnt P 128) := by
  refine (Ideal.multiReduction_add_total _ _ _ (fun b => by match b with | ⟨0, _⟩ => rfl) (.inl rfl) rfl _).trans ?_
  refine (Equiv.sum_comp (Shape.reshapeEquiv shapeCasts_S1x128_S1x1x128) k).trans ?_
  rw [sum_row, ← sum_ind]
  exact Finset.sum_congr rfl fun j _ => hk j

theorem totalOf_apply (P : ℕ → Prop) (k : FVec Ideal S1x2048 .f32) (hk : ∀ j : Fin 2048, k (ix2 0 j) = ind (P j.val)) :
    totalOf k = nat (cnt P 2048) := by
  refine (Ideal.multiReduction_add_total _ _ _ (fun b => by match b with | ⟨0, _⟩ => rfl) (.inl rfl) rfl _).trans ?_
  refine (Equiv.sum_comp (Shape.reshapeEquiv shapeCasts_S1x2048_S1x1x2048) k).trans ?_
  rw [sum_row, ← sum_ind]
  exact Finset.sum_congr rfl fun j _ => hk j

theorem flipOf_apply (P : ℕ → Prop) (k : FVec Ideal S1x128 .f32) (hk : ∀ j : Fin 128, k (ix2 0 j) = ind (P j.val)) (j : Fin 128) :
    flipOf k (ix2 0 j) = ind (¬ P j.val) := by
  show one - k (ix2 0 j) = _
  rw [hk, one_eq, one_sub_ind]

theorem upper_apply (a b : Fin 128) : (upper : FVec Ideal S128x128 .f32) (ix2 a b) = ind (a.val ≤ b.val) := by
  refine (mask_apply _ _ _).trans (ind_congr ?_)
  refine (ofBool_one' _).trans ?_
  rw [BitVec.sle_iff_toInt_le, iota_single_apply, iota_single_apply]
  show (BitVec.ofNat 32 a.val).toInt ≤ (BitVec.ofNat 32 b.val).toInt ↔ _
  rw [toInt_small a.val (by omega), toInt_small b.val (by omega)]
  exact Int.ofNat_le

theorem preOf_apply (P : ℕ → Prop) (k : FVec Ideal S1x128 .f32) (hk : ∀ j : Fin 128, k (ix2 0 j) = ind (P j.val)) (j : Fin 128) :
    preOf k (ix2 0 j) = nat (cnt P (j.val + 1)) := by
  show FloatOps.matmul (DotDims.plain 1 128 128) none k upper (constant S1x128 .f32 0x00000000#32) (ix2 0 j) = _
  rw [Ideal.matmul_plain_apply, constant_apply, Ideal.ofBits_zero_f32, zero_add, ← cnt_upto 128 P j.val j.isLt, ← sum_ind]
  refine Finset.sum_congr rfl fun i _ => ?_
  rw [hk, upper_apply, ind_mul]

theorem ranks_apply (r : Fin 256) (x : Fin 1) : (ranks : FVec Ideal S256x1 .f32) (ix2 r x) = nat r.val := by
  show (((iota .tc S256x1 32 [0] iota_S256x1_d0_w32 (ix2 r x)).toInt : ℝ) : EReal) = _
  rw [iota_single_apply]
  show (((BitVec.ofNat 32 r.val).toInt : ℝ) : EReal) = _
  rw [toInt_small r.val (by omega)]; simp [nat]

theorem posOf_apply (K : ℕ → Prop) (n : ℕ) (hn : n < 16) (k : FVec Ideal S1x128 .f32) (hk : ∀ j : Fin 128, k (ix2 0 j) = ind (K (128 * n + j.val)))
    (j : Fin 128) :
    posOf k (nat (cnt K (128 * n))) (nat (cnt K 2048 + cnt (fun i => ¬ K i) (128 * n))) (ix2 0 j) = nat (place K 2048 (128 * n + j.val)) := by
  unfold posOf
  rw [sel_gt, hk]
  show (if (zero : Ideal .f32) < _ then nat _ + preOf k (ix2 0 j) - (one : Ideal .f32) else nat _ + preOf (flipOf k) (ix2 0 j) - (one : Ideal .f32)) = _
  rw [preOf_apply (fun j => K (128 * n + j)) k hk, preOf_apply (fun j => ¬ K (128 * n + j)) _ (flipOf_apply (fun j => K (128 * n + j)) k hk), zero_eq, one_eq]
  refine (if_congr (ind_pos _) rfl rfl).trans ?_
  unfold place
  split_ifs with h
  · rw [nat_add, ← cnt_add, ← Nat.add_assoc, cnt_succ, if_pos h, nat_sub_one]; rfl
  · rw [nat_add, Nat.add_assoc, ← cnt_add _ (128 * n) (j.val + 1), ← Nat.add_assoc (128 * n), cnt_succ _ (128 * n + j.val), if_pos h, ← Nat.add_assoc, nat_sub_one]; unfold cnt; congr!

theorem permOf_apply (pos : FVec Ideal S1x128 .f32) (p : ℕ → ℕ) (hp : ∀ j : Fin 128, pos (ix2 0 j) = nat (p j.val)) (r : Fin 256) (j : Fin 128) :
    permOf pos (ix2 r j) = ind (p j.val = r.val) := by
  refine (mask_apply _ _ _).trans (ind_congr ?_)
  rw [eq_one]
  have h1 : broadcastTo S256x128 (ranks : FVec Ideal S256x1 .f32) broadcasts_S256x1_S256x128 (ix2 r j) = nat r.val :=
    (congrArg ranks (funext fun x => by match x with | ⟨0, _⟩ => rfl | ⟨1, _⟩ => rfl)).trans (ranks_apply r 0)
  have h2 : broadcastTo S256x128 pos broadcasts_S1x128_S256x128 (ix2 r j) = nat (p j.val) := (broadcastTo_1b_ab_apply _ _ _ _).trans (hp j)
  rw [h1, h2, nat_inj]
  exact eq_comm

section

variable {B : ℕ → ℕ → EReal} {br : Rows Ideal} (hbr : ∀ (j : Fin 2048) (d : Fin 8), br (ix2 j d) = B j.val d.val)
  {K : ℕ → Prop} {kf : FVec Ideal S1x2048 .f32} (hk : ∀ j : Fin 2048, kf (ix2 0 j) = ind (K j.val))

include hk in
theorem chunkOf_apply (n : ℕ) (hn : n < 16) (j : Fin 128) : chunkOf n hn kf (ix2 0 j) = ind (K (128 * n + j.val)) :=
  (slice2_axis1_apply (128 * n) kf _ 0 j ⟨128 * n + j.val, by omega⟩ rfl).trans (hk _)

include hbr in
theorem boxesOf_apply (n : ℕ) (hn : n < 16) (j : Fin 128) (d : Fin 8) : boxesOf n hn br (ix2 j d) = B (128 * n + j.val) d.val :=
  (slice2_axis0_apply (128 * n) br _ j d ⟨128 * n + j.val, by omega⟩ rfl).trans (hbr _ _)

include hk in
theorem keptAt_apply : ∀ n, n ≤ 16 → keptAt kf n = nat (cnt K (128 * n))
  | 0, _ => by rw [Nat.mul_zero, cnt_zero, nat_zero]; exact zero_eq
  | n + 1, h => by
    rw [keptAt, dif_pos (by omega : n < 16)]
    show keptAt kf n + countOf _ = _
    rw [keptAt_apply n (by omega), countOf_apply (fun j => K (128 * n + j)) _ (chunkOf_apply hk n (by omega)), nat_add, Nat.mul_succ, cnt_add]

include hk in
theorem restAt_apply (tot : ℕ) : ∀ n, n ≤ 16 → restAt kf (nat tot) n = nat (tot + cnt (fun i => ¬ K i) (128 * n))
  | 0, _ => by rw [Nat.mul_zero, cnt_zero]; rfl
  | n + 1, h => by
    rw [restAt, dif_pos (by omega : n < 16)]
    show restAt kf _ n + countOf _ = _
    rw [restAt_apply tot n (by omega), countOf_apply (fun j => ¬ K (128 * n + j)) _ (flipOf_apply (fun j => K (128 * n + j)) _ (chunkOf_apply hk n (by omega))), nat_add, Nat.mul_succ, cnt_add,
      Nat.add_assoc]

include hbr hk in
/-- The rows gathered before run `n`. -/
theorem accAt_apply (r : Fin 256) (d : Fin 8) : ∀ n, n ≤ 16 →
    accAt br kf (nat (cnt K 2048)) n (ix2 r d) = ∑ j ∈ Finset.range (128 * n), ind (place K 2048 j = r.val) * B j d.val
  | 0, _ => by rw [Nat.mul_zero, Finset.sum_range_zero]; exact zero_eq
  | n + 1, h => by
    rw [accAt, dif_pos (by omega : n < 16)]
    show accAt br kf _ n (ix2 r d) + FloatOps.matmul (DotDims.plain 256 128 8) none (permOf _) (boxesOf n _ br) (constant S256x8 .f32 0x00000000#32) (ix2 r d) = _
    rw [Ideal.matmul_plain_apply, constant_apply, Ideal.ofBits_zero_f32, zero_add, accAt_apply r d n (by omega), Nat.mul_succ, Finset.sum_range_add]
    refine congrArg _ ?_
    rw [Finset.sum_range]
    refine Finset.sum_congr rfl fun j _ => ?_
    rw [boxesOf_apply hbr, keptAt_apply hk n (by omega), restAt_apply hk _ n (by omega),
      permOf_apply _ (fun j => place K 2048 (128 * n + j)) (posOf_apply K n (by omega) _ (chunkOf_apply hk n (by omega)))]

include hbr hk in
/-- The block stored: row `r` is the box `σ` whose place is `r`, its score `-1` past the kept ones. -/
theorem outOf_apply (σ : Fin 256 → Fin 2048) (hσ : ∀ r, place K 2048 (σ r).val = r.val)
    (hu : ∀ (r : Fin 256) (j : Fin 2048), place K 2048 j.val = r.val → j = σ r) (r : Fin 256) (d : Fin 8) :
    outOf (totalOf kf) (accAt br kf (totalOf kf) 16) (ix3 0 r d)
      = if d.val = 6 then (if K (σ r).val then B (σ r).val 6 else Ideal.ofBits .f32 0xBF800000#32) else B (σ r).val d.val := by
  rw [totalOf_apply K kf hk]
  have hacc : ∀ d : Fin 8, accAt br kf (nat (cnt K 2048)) 16 (ix2 r d) = B (σ r).val d.val := fun d => by
    rw [accAt_apply hbr hk r d 16 le_rfl, Finset.sum_range]
    exact sum_single (fun j : Fin 2048 => B j.val d.val) (fun j => place K 2048 j.val = r.val) (σ r) (hσ r) (hu r)
  refine (shapeCast_ab_1ab_apply _ _ _ _ _).trans ?_
  rw [sel_apply]
  have hd : cmpi .eq (iota .tc S256x8 32 [1] iota_S256x8_d1_w32) (broadcast S256x8 6#32) (ix2 r d) = 1#1 ↔ d.val = 6 := by
    refine (ofBool_one' _).trans ?_
    rw [iota_single_apply]
    show (BitVec.ofNat 32 d.val == BitVec.ofNat 32 6) = true ↔ _
    rw [beq_iff_eq, ← BitVec.toNat_inj, BitVec.toNat_ofNat, BitVec.toNat_ofNat, Nat.mod_eq_of_lt (by omega), Nat.mod_eq_of_lt (by omega)]
  refine if_congr hd ?_ (hacc d)
  have hb : ∀ v : FVec Ideal S256x1 .f32, broadcastTo S256x8 v broadcasts_S256x1_S256x8 (ix2 r d) = v (ix2 r 0) := fun v =>
    congrArg v (funext fun x => by match x with | ⟨0, _⟩ => rfl | ⟨1, _⟩ => rfl)
  rw [hb, shapeCast_self, sel_lt, ranks_apply]
  show (if nat r.val < nat (cnt K 2048) then _ else _) = _
  refine if_congr ?_ ((slice2_axis1_apply 6 _ slices_S256x8_o0_6_S256x1 r 0 ⟨6, by decide⟩ rfl).trans (hacc ⟨6, by decide⟩)) rfl
  rw [nat_lt, ← hσ r]
  exact place_lt_total_iff K 2048 (σ r).val (σ r).isLt

end

end Cert.KernelIdeal.Tiles

end
-- ==== Proof.KerBlock.lean ====
module

public import proofs.«01_k».proof.Proof.KerKeep
public import proofs.«01_k».proof.Proof.SelSem
public import Idealize.ShloMosaic.Lib.Pipeline.ValueKit

/-!
The block the kernel stores for one batch, over the extended reals: the boxes in the order of their kept scores.
-/

@[expose] public section

set_option maxRecDepth 16384
set_option maxHeartbeats 1000000

noncomputable section

namespace Cert.KernelIdeal.Tiles

open Idealize.ShloMosaic Idealize.ShloMosaic.TcCoe Idealize.ShloMosaic.Tactic Idealize.ShloMosaic.ValueIdx
open Cert.KernelIdeal.Gen Cert.Nms
open scoped Classical

/-- The score of a box that is not kept. -/
def minusOne : EReal := Ideal.ofBits .f32 0xBF800000#32

theorem minusOne_neg : minusOne < 0 := by
  rw [show minusOne = ((-1 : ℝ) : EReal) from by unfold minusOne; simp [Ideal.ofBits, Ideal.ieee, -EReal.coe_mul]; norm_num]
  exact_mod_cast (by norm_num : (-1 : ℝ) < 0)

/-- The `r`-th box in the order of the kept scores. -/
def chosen (B : ℕ → ℕ → EReal) (r : Fin 256) : Fin 2048 :=
  top (fun j : Fin 2048 => if Kept B j.val then B j.val 6 else minusOne) (r.castLE (by decide))

/-- The output of one batch. -/
def outB (B : ℕ → ℕ → EReal) (r : Fin 256) (d : Fin 8) : EReal :=
  if d.val = 6 then (if Kept B (chosen B r).val then B (chosen B r).val 6 else minusOne) else B (chosen B r).val d.val

/-- The scores fall along the boxes. -/
def Falling (B : ℕ → ℕ → EReal) : Prop := ∀ i j : Fin 2048, i ≤ j → B j.val 6 ≤ B i.val 6

theorem kept_pos (B : ℕ → ℕ → EReal) (j : ℕ) (h : Kept B j) : 0 < B j 6 := ((keep_iff _ _ _).mp h).1

theorem chosen_place (B : ℕ → ℕ → EReal) (hs : Falling B) (r : Fin 256) : place (Kept B) 2048 (chosen B r).val = r.val :=
  place_of_kept (fun j : Fin 2048 => B j.val 6) (Kept B) hs (fun i h => kept_pos B i.val h) minusOne minusOne_neg _

theorem chosen_unique (B : ℕ → ℕ → EReal) (hs : Falling B) (r : Fin 256) (j : Fin 2048) (h : place (Kept B) 2048 j.val = r.val) :
    j = chosen B r := by
  obtain ⟨q, rfl⟩ := top_surjective (fun j : Fin 2048 => if Kept B j.val then B j.val 6 else minusOne) j
  have := place_of_kept (fun j : Fin 2048 => B j.val 6) (Kept B) hs (fun i h => kept_pos B i.val h) minusOne minusOne_neg q
  exact congrArg _ (Fin.ext (this.symm.trans h))

section

variable (c : Dev nD) (i : grid0.Coords) (arg1 : Memref sig .tc .vmem S1x2048x8 .f32) (harg1 : arg1.IsWhole)
  (arg2 : Memref sig .tc .vmem S1x8x2048 .f32) (harg2 : arg2.IsWhole) (arg3 : Memref sig .tc .vmem S1x256x8 .f32)
  (harg3 : arg3.IsWhole) (arg4 : Memref sig .tc .vmem S256x256 .f32) (harg4 : arg4.IsWhole)
  (x0 : Vec Ideal S1x2048x8 .f32) (x1 : Vec Ideal S1x8x2048 .f32)

/-- What a grid point stores. -/
theorem out_apply (hx : ∀ (j : Fin 2048) (d : Fin 8), x1 (ValueIdx.ix3 0 d j) = x0 (ValueIdx.ix3 0 j d)) (hs : Falling (boxB x0)) (q : Fin 256) (d : Fin 8) :
    out0_A_2 c i arg1 harg1 arg2 harg2 arg3 harg3 arg4 harg4 x0 x1 (ValueIdx.ix3 0 q d) = outB (boxB x0) q d := by
  unfold out0_A_2
  rw [View.read_writes_eq_canon _ _ _ (cover0_A_2 c _ _ _ _ _ _ _ _ _ _ _)]
  unfold kernelRun0_A
  dsimp only
  rw [View.canon_unit_zero (by funext a; fin_cases a <;> rfl)]
  refine (congrFun (block_eq c i arg1 harg1 arg2 harg2 arg3 harg3 arg4 harg4 x0 x1) (ValueIdx.ix3 0 q d)).trans ?_
  rw [total_eq]
  have hf := flags_apply c i arg1 harg1 arg2 harg2 arg3 harg3 arg4 harg4 x0 x1 hx
  generalize flagsK c i arg1 harg1 arg2 harg2 arg3 harg3 arg4 harg4 x0 x1 = kf at hf ⊢
  rw [rows_eq]
  exact outOf_apply (rows_apply x0) hf (chosen (boxB x0)) (chosen_place _ hs) (chosen_unique _ hs) q d

end

end Cert.KernelIdeal.Tiles

end
-- ==== Proof.KerArr.lean ====
module

public import proofs.«01_k».proof.Proof.KerBlock

/-!
The array the region leaves: batch by batch the boxes in the order of their kept scores.
-/

@[expose] public section

set_option maxRecDepth 16384

noncomputable section

namespace Cert.KernelIdeal.Tiles

open Idealize.ShloMosaic Idealize.ShloMosaic.TcCoe Idealize.ShloMosaic.Tactic
open Cert.KernelIdeal.Gen Cert.Nms
open Idealize.ShloMosaic.Pipeline (Dat)

variable (m : (ℓ : Loc nD τ sig) → Buf (Elt Ideal) ℓ)

/-- The boxes of one batch of an array as a table over the natural numbers. -/
def batchB (X : FVec Ideal S4x2048x8 .f32) (b : Fin 4) (j d : ℕ) : EReal :=
  if h : j < 2048 ∧ d < 8 then X (ValueIdx.ix3 b ⟨j, h.1⟩ ⟨d, h.2⟩) else 0

theorem index_eq : ∀ t : Fin cfg0.N, win0_0.index t = ![t.val, 0, 0] ∧ win0_1.index t = ![t.val, 0, 0] ∧ win0_2.index t = ![t.val, 0, 0] ∧ t.val < 4 :=
  (by decide +kernel : ∀ t : Fin grid0.N, _)

/-- The boxes and their transpose as the region finds them. -/
abbrev boxesV (c : Dev nD) : FVec Ideal S4x2048x8 .f32 := V m c main_v33
abbrev boxesTV (c : Dev nD) : FVec Ideal S4x8x2048 .f32 := V m c main_v34

theorem iblk0_apply (c : Dev nD) (t : Fin cfg0.N) (j : Fin 2048) (d : Fin 8) :
    (iblk m c 0 t : Vec Ideal S1x2048x8 .f32) (ValueIdx.ix3 0 j d) = boxesV m c (ValueIdx.ix3 ⟨t.val, (index_eq t).2.2.2⟩ j d) := by
  blk_ext [iblk, index_eq t]

theorem iblk1_apply (c : Dev nD) (t : Fin cfg0.N) (j : Fin 2048) (d : Fin 8) :
    (iblk m c 1 t : Vec Ideal S1x8x2048 .f32) (ValueIdx.ix3 0 d j) = boxesTV m c (ValueIdx.ix3 ⟨t.val, (index_eq t).2.2.2⟩ d j) := by
  blk_ext [iblk, index_eq t]

theorem boxB_eq (c : Dev nD) (t : Fin cfg0.N) : boxB (iblk m c 0 t) = batchB (boxesV m c) ⟨t.val, (index_eq t).2.2.2⟩ := by
  funext j d
  unfold boxB batchB
  split_ifs with h
  · exact iblk0_apply m c t _ _
  · rfl

/-- The output array. -/
def outArr (X : FVec Ideal S4x2048x8 .f32) : FVec Ideal S4x256x8 .f32 := fun i => outB (batchB X (i 0)) (i 1) (i 2)

theorem final (c : Dev nD) (hx : ∀ (b : Fin 4) (j : Fin 2048) (d : Fin 8), boxesTV m c (ValueIdx.ix3 b d j) = boxesV m c (ValueIdx.ix3 b j d))
    (hs : ∀ b, Falling (batchB (boxesV m c) b)) : (dats m 0 c).arrAt 2 (cfgs 0).N = outArr (boxesV m c) := by
  refine (dats m 0 c).arrAt_eq_of_covers 2 _ (by decide +kernel) fun t _ y => ?_
  blk_simp
  rw [after0_2]
  unfold outsAt0
  obtain ⟨q, d, rfl⟩ : ∃ (q : Fin 256) (d : Fin 8), y = ValueIdx.ix3 (0 : Fin 1) q d :=
    ⟨y 1, y 2, (ValueIdx.eq_ix3 y).trans (congrArg (fun x => ValueIdx.ix3 x (y 1) (y 2)) (Fin.eq_zero (y 0)))⟩
  have he : ((cfg0.win 2).blk t).view.emb (ValueIdx.ix3 (0 : Fin 1) q d) = ValueIdx.ix3 ⟨t.val, (index_eq t).2.2.2⟩ q d := by
    blk_ext [index_eq t]
  refine (out_apply c (grid0.coords t) (ms0_0 t) (hs0_0 t) (ms0_1 t) (hs0_1 t) (ms0_2 t) (hs0_2 t) scM0_0 (Memref.isWhole_whole _) (iblk m c 0 t)
    (iblk m c 1 t) (fun j d => ?_) ?_ q d).trans ?_
  · rw [iblk0_apply, iblk1_apply, hx]
  · rw [boxB_eq]; exact hs _
  · rw [boxB_eq, he]; rfl

end Cert.KernelIdeal.Tiles

end
-- ==== Proof.KerSegs.lean ====
module

public import proofs.«01_k».proof.Proof.KerArr
public import proofs.«01_k».proof.Proof.HostOps

/-!
What the stretches of host operations before the region leave at the references the region's operands come from.
-/

@[expose] public section

set_option maxRecDepth 16384
set_option maxHeartbeats 2000000

noncomputable section

namespace Cert.KernelIdeal.Host

open Idealize.ShloMosaic Idealize.ShloMosaic.TcCoe Idealize.ShloMosaic.Tactic Idealize.ShloMosaic.StableHlo
open Cert.KernelIdeal.Gen Cert.Nms

section

variable (W : Valuation τ sig (Elt Ideal))

theorem s2_v15 : after (hostOps0_2 (F := Ideal)) W (Proc.devRef .tc main_v15) = shapeCast S4x360000 (W (Proc.devRef .tc main_v14)) Facts₀.shapeCasts_S4x20000x18_S4x360000 := by
  simp only [hostOps0_2]; after_results; rfl
theorem s2_values : after (hostOps0_2 (F := Ideal)) W (Proc.devRef .tc main_values)
    = (Host.topK S4x2048 1 (FloatOps.cmpfTotal (F := Ideal) (φ := .f32) .gt) (after (hostOps0_2 (F := Ideal)) W (Proc.devRef .tc main_v15)) Facts₀.sliceFits_S4x360000_S4x2048).1 := by
  rw [s2_v15]; simp only [hostOps0_2]; after_results; rfl
theorem s2_indices : after (hostOps0_2 (F := Ideal)) W (Proc.devRef .tc main_indices)
    = (Host.topK S4x2048 1 (FloatOps.cmpfTotal (F := Ideal) (φ := .f32) .gt) (after (hostOps0_2 (F := Ideal)) W (Proc.devRef .tc main_v15)) Facts₀.sliceFits_S4x360000_S4x2048).2 := by
  rw [s2_v15]; simp only [hostOps0_2]; after_results; rfl
theorem s2_c : after (hostOps0_2 (F := Ideal)) W (Proc.devRef .tc main_c) = constantI S_ 32 18#32 := by
  simp only [hostOps0_2]; after_results
theorem s3_v16 : after (hostOps0_3 (F := Ideal)) W (Proc.devRef .tc main_v16) = remOf Facts₀.bcast_S_S4x2048 (W (Proc.devRef .tc main_indices)) (W (Proc.devRef .tc main_c)) := by
  simp only [hostOps0_3]; after_results; rfl
theorem s4_v17 : after (hostOps0_4 (F := Ideal)) W (Proc.devRef .tc main_v17) = shapeCast S4x360000x6 (W (Proc.devRef .tc main_arg1)) Facts₀.shapeCasts_S4x20000x18x6_S4x360000x6 := by
  simp only [hostOps0_4]; after_results; rfl
theorem s4_v18 : after (hostOps0_4 (F := Ideal)) W (Proc.devRef .tc main_v18) = broadcastInDim S4x2048x1 ![0, 1] Facts₀.bcast_S4x2048_S4x2048x1_0_1 (W (Proc.devRef .tc main_indices)) := by
  simp only [hostOps0_4]; after_results
theorem s5_v19 : after (hostOps0_5 (F := Ideal)) W (Proc.devRef .tc main_v19)
    = takeOf (N := 360000) Facts₀.bcast_S_S4x2048x1 Facts₀.bcast_S1_S1x1x1_2 Facts₀.bcast_S1x1x1_S4x2048x1_0_1_2 Facts₀.reducesTo_S4x2048x1_S4x2048_d2 Facts₀.h_S_
      Facts₀.bcast_S4x2048_S4x2048x6_0_1 gather_S4x360000x6_S4x2048x1_S4x2048x6_2_1_0_0_1_2_116 360000#32 359999#32 (W (Proc.devRef .tc main_v17))
      (W (Proc.devRef .tc main_v18)) (broadcastInDim S4x2048x6 ![] Facts₀.bcast_S_S4x2048x6 (constant (F := Ideal) S_ .f32 0x7FC00000#32)) := by
  simp only [hostOps0_5]; after_results; rfl
theorem s6_c : after (hostOps0_6 (F := Ideal)) W (Proc.devRef .tc main_c_4) = constantI S_ 32 18#32 := by
  simp only [hostOps0_6]; after_results
theorem s7_v20 : after (hostOps0_7 (F := Ideal)) W (Proc.devRef .tc main_v20) = floorOf Facts₀.bcast_S_S4x2048 (W (Proc.devRef .tc main_indices)) (W (Proc.devRef .tc main_c_4)) := by
  simp only [hostOps0_7]; after_results; rfl
theorem s8_v21 : after (hostOps0_8 (F := Ideal)) W (Proc.devRef .tc main_v21) = broadcastInDim S4x2048x1 ![0, 1] Facts₀.bcast_S4x2048_S4x2048x1_0_1 (W (Proc.devRef .tc main_v20)) := by
  simp only [hostOps0_8]; after_results
theorem s9_v22 : after (hostOps0_9 (F := Ideal)) W (Proc.devRef .tc main_v22)
    = takeOf (N := 20000) Facts₀.bcast_S_S4x2048x1 Facts₀.bcast_S1_S1x1x1_2 Facts₀.bcast_S1x1x1_S4x2048x1_0_1_2 Facts₀.reducesTo_S4x2048x1_S4x2048_d2 Facts₀.h_S_
      Facts₀.bcast_S4x2048_S4x2048x6_0_1 gather_S4x20000x6_S4x2048x1_S4x2048x6_2_1_0_0_1_2_116 20000#32 19999#32 (W (Proc.devRef .tc main_arg2))
      (W (Proc.devRef .tc main_v21)) (broadcastInDim S4x2048x6 ![] Facts₀.bcast_S_S4x2048x6 (constant (F := Ideal) S_ .f32 0x7FC00000#32)) := by
  simp only [hostOps0_9]; after_results; rfl
theorem s10_v23 : after (hostOps0_10 (F := Ideal)) W (Proc.devRef .tc main_v23) = broadcastInDim S4x2048x1 ![0, 1] Facts₀.bcast_S4x2048_S4x2048x1_0_1 (W (Proc.devRef .tc main_v20)) := by
  simp only [hostOps0_10]; after_results
theorem s11_v24 : after (hostOps0_11 (F := Ideal)) W (Proc.devRef .tc main_v24)
    = takeOf (N := 20000) Facts₀.bcast_S_S4x2048x1 Facts₀.bcast_S1_S1x1x1_2 Facts₀.bcast_S1x1x1_S4x2048x1_0_1_2 Facts₀.reducesTo_S4x2048x1_S4x2048_d2 Facts₀.h_S_
      Facts₀.bcast_S4x2048_S4x2048x3_0_1 gather_S4x20000x3_S4x2048x1_S4x2048x3_2_1_0_0_1_2_113 20000#32 19999#32 (W (Proc.devRef .tc main_arg3))
      (W (Proc.devRef .tc main_v23)) (broadcastInDim S4x2048x3 ![] Facts₀.bcast_S_S4x2048x3 (constant (F := Ideal) S_ .f32 0x7FC00000#32)) := by
  simp only [hostOps0_11]; after_results; rfl

/-- The table of boxes the last stretch assembles. -/
def tableOf (p d : FVec Ideal S4x2048x6 .f32) (o : FVec Ideal S4x2048x3 .f32) (v : FVec Ideal S4x2048 .f32) (k : IVec S4x2048 32) : FVec Ideal S4x2048x8 .f32 :=
  concatenate S4x2048x8 2
    [⟨S4x2048x3, subf o (extractStridedSlice S4x2048x3 ![0, 0, 0] (addf p d) Facts₀.slices_S4x2048x6_S4x2048x3_0_0_0)⟩,
     ⟨S4x2048x3, addf o (extractStridedSlice S4x2048x3 ![0, 0, 3] (addf p d) Facts₀.slices_S4x2048x6_S4x2048x3_0_0_3)⟩,
     ⟨S4x2048x1, broadcastInDim S4x2048x1 ![0, 1] Facts₀.bcast_S4x2048_S4x2048x1_0_1 v⟩,
     ⟨S4x2048x1, broadcastInDim S4x2048x1 ![0, 1] Facts₀.bcast_S4x2048_S4x2048x1_0_1 (sitofp .f32 k)⟩]
    Facts₀.concatenates_S4x2048x3_S4x2048x3_S4x2048x1_S4x2048x1_S4x2048x8_d2

theorem s12_v33 : after (hostOps0_12 (F := Ideal)) W (Proc.devRef .tc main_v33) = tableOf (W (Proc.devRef .tc main_v22)) (W (Proc.devRef .tc main_v19)) (W (Proc.devRef .tc main_v24))
    (W (Proc.devRef .tc main_values)) (W (Proc.devRef .tc main_v16)) := by
  simp only [hostOps0_12]; after_results; rfl
theorem s12_v34 : after (hostOps0_12 (F := Ideal)) W (Proc.devRef .tc main_v34) = transpose S4x8x2048 [0, 2, 1] (after (hostOps0_12 (F := Ideal)) W (Proc.devRef .tc main_v33)) Facts₀.transposes_S4x2048x8_S4x8x2048_0_2_1 := by
  rw [s12_v33]; simp only [hostOps0_12]; after_results; rfl

end

/-! What a stretch does not write, it leaves. -/

/-- The references stretch 0 writes. -/
abbrev w0 : List (Ref sig .tc) := [main_cst, main_v0, main_cst_0, main_v1, main_v2, main_v3, main_v4, main_v5, main_v6, main_cst_1, main_v7, main_v8, main_v9, main_v10, main_v11, main_cst_2, main_v12, main_v13, main_cst_3]
theorem keep0 (W : Valuation τ sig (Elt Ideal)) (r : Ref sig .tc) (h : r ∉ w0) : after (hostOps0 (F := Ideal)) W (Proc.devRef .tc r) = W (Proc.devRef .tc r) :=
  after_of_writes_sub _ _ (forall_writes_sub_of_map (W := w0) rfl) h
/-- The references stretch 1 writes. -/
abbrev w1 : List (Ref sig .tc) := [main_call0_v0, main_call0_v1, main_v14]
theorem keep1 (W : Valuation τ sig (Elt Ideal)) (r : Ref sig .tc) (h : r ∉ w1) : after (hostOps0_1 (F := Ideal)) W (Proc.devRef .tc r) = W (Proc.devRef .tc r) :=
  after_of_writes_sub _ _ (forall_writes_sub_of_map (W := w1) rfl) h
/-- The references stretch 2 writes. -/
abbrev w2 : List (Ref sig .tc) := [main_v15, main_values, main_indices, main_c]
theorem keep2 (W : Valuation τ sig (Elt Ideal)) (r : Ref sig .tc) (h : r ∉ w2) : after (hostOps0_2 (F := Ideal)) W (Proc.devRef .tc r) = W (Proc.devRef .tc r) :=
  after_of_writes_sub _ _ (forall_writes_sub_of_map (W := w2) rfl) h
/-- The references stretch 3 writes. -/
abbrev w3 : List (Ref sig .tc) := [main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v16]
theorem keep3 (W : Valuation τ sig (Elt Ideal)) (r : Ref sig .tc) (h : r ∉ w3) : after (hostOps0_3 (F := Ideal)) W (Proc.devRef .tc r) = W (Proc.devRef .tc r) :=
  after_of_writes_sub _ _ (forall_writes_sub_of_map (W := w3) rfl) h
/-- The references stretch 4 writes. -/
abbrev w4 : List (Ref sig .tc) := [main_v17, main_v18]
theorem keep4 (W : Valuation τ sig (Elt Ideal)) (r : Ref sig .tc) (h : r ∉ w4) : after (hostOps0_4 (F := Ideal)) W (Proc.devRef .tc r) = W (Proc.devRef .tc r) :=
  after_of_writes_sub _ _ (forall_writes_sub_of_map (W := w4) rfl) h
/-- The references stretch 5 writes. -/
abbrev w5 : List (Ref sig .tc) := [main_call2_c, main_call2_v0, main_call2_v1, main_call2_c_0, main_call2_v2, main_call2_v3, main_call2_v4, main_call2_c_1, main_call2_c_2, main_call2_v5, main_call2_v6, main_call2_v7, main_call2_v8, main_call2_v9, main_call2_v10, main_call2_c_3, main_call2_v11, main_call2_v12, main_call2_v13, main_call2_cst, main_call2_v14, main_v19]
theorem keep5 (W : Valuation τ sig (Elt Ideal)) (r : Ref sig .tc) (h : r ∉ w5) : after (hostOps0_5 (F := Ideal)) W (Proc.devRef .tc r) = W (Proc.devRef .tc r) :=
  after_of_writes_sub _ _ (forall_writes_sub_of_map (W := w5) rfl) h
/-- The references stretch 6 writes. -/
abbrev w6 : List (Ref sig .tc) := [main_c_4]
theorem keep6 (W : Valuation τ sig (Elt Ideal)) (r : Ref sig .tc) (h : r ∉ w6) : after (hostOps0_6 (F := Ideal)) W (Proc.devRef .tc r) = W (Proc.devRef .tc r) :=
  after_of_writes_sub _ _ (forall_writes_sub_of_map (W := w6) rfl) h
/-- The references stretch 7 writes. -/
abbrev w7 : List (Ref sig .tc) := [main_call3_v0, main_call3_v1, main_call3_v2, main_call3_v3, main_call3_v4, main_call3_v5, main_call3_v6, main_call3_v7, main_call3_v8, main_call3_c, main_call3_v9, main_call3_v10, main_call3_v11, main_call3_c_0, main_call3_v12, main_call3_v13, main_v20]
theorem keep7 (W : Valuation τ sig (Elt Ideal)) (r : Ref sig .tc) (h : r ∉ w7) : after (hostOps0_7 (F := Ideal)) W (Proc.devRef .tc r) = W (Proc.devRef .tc r) :=
  after_of_writes_sub _ _ (forall_writes_sub_of_map (W := w7) rfl) h
/-- The references stretch 8 writes. -/
abbrev w8 : List (Ref sig .tc) := [main_v21]
theorem keep8 (W : Valuation τ sig (Elt Ideal)) (r : Ref sig .tc) (h : r ∉ w8) : after (hostOps0_8 (F := Ideal)) W (Proc.devRef .tc r) = W (Proc.devRef .tc r) :=
  after_of_writes_sub _ _ (forall_writes_sub_of_map (W := w8) rfl) h
/-- The references stretch 9 writes. -/
abbrev w9 : List (Ref sig .tc) := [main_call4_c, main_call4_v0, main_call4_v1, main_call4_c_0, main_call4_v2, main_call4_v3, main_call4_v4, main_call4_c_1, main_call4_c_2, main_call4_v5, main_call4_v6, main_call4_v7, main_call4_v8, main_call4_v9, main_call4_v10, main_call4_c_3, main_call4_v11, main_call4_v12, main_call4_v13, main_call4_cst, main_call4_v14, main_v22]
theorem keep9 (W : Valuation τ sig (Elt Ideal)) (r : Ref sig .tc) (h : r ∉ w9) : after (hostOps0_9 (F := Ideal)) W (Proc.devRef .tc r) = W (Proc.devRef .tc r) :=
  after_of_writes_sub _ _ (forall_writes_sub_of_map (W := w9) rfl) h
/-- The references stretch 10 writes. -/
abbrev w10 : List (Ref sig .tc) := [main_v23]
theorem keep10 (W : Valuation τ sig (Elt Ideal)) (r : Ref sig .tc) (h : r ∉ w10) : after (hostOps0_10 (F := Ideal)) W (Proc.devRef .tc r) = W (Proc.devRef .tc r) :=
  after_of_writes_sub _ _ (forall_writes_sub_of_map (W := w10) rfl) h
/-- The references stretch 11 writes. -/
abbrev w11 : List (Ref sig .tc) := [main_call5_c, main_call5_v0, main_call5_v1, main_call5_c_0, main_call5_v2, main_call5_v3, main_call5_v4, main_call5_c_1, main_call5_c_2, main_call5_v5, main_call5_v6, main_call5_v7, main_call5_v8, main_call5_v9, main_call5_v10, main_call5_c_3, main_call5_v11, main_call5_v12, main_call5_v13, main_call5_cst, main_call5_v14, main_v24]
theorem keep11 (W : Valuation τ sig (Elt Ideal)) (r : Ref sig .tc) (h : r ∉ w11) : after (hostOps0_11 (F := Ideal)) W (Proc.devRef .tc r) = W (Proc.devRef .tc r) :=
  after_of_writes_sub _ _ (forall_writes_sub_of_map (W := w11) rfl) h
/-- The references stretch 12 writes. -/
abbrev w12 : List (Ref sig .tc) := [main_v25, main_v26, main_v27, main_v28, main_v29, main_v30, main_v31, main_v32, main_v33, main_v34]
theorem keep12 (W : Valuation τ sig (Elt Ideal)) (r : Ref sig .tc) (h : r ∉ w12) : after (hostOps0_12 (F := Ideal)) W (Proc.devRef .tc r) = W (Proc.devRef .tc r) :=
  after_of_writes_sub _ _ (forall_writes_sub_of_map (W := w12) rfl) h

end Cert.KernelIdeal.Host

end
-- ==== Proof.KerHost.lean ====
module

public import proofs.«01_k».proof.Proof.KerSegs
public import proofs.«01_k».proof.Proof.Boxes
public import Idealize.ShloMosaic.Lib.StableHlo.RunLoop

/-!
The boxes the region finds are the candidates' table.
-/

@[expose] public section

set_option maxRecDepth 16384

noncomputable section

namespace Cert.KernelIdeal.Host

open Idealize.ShloMosaic Idealize.ShloMosaic.TcCoe Idealize.ShloMosaic.Tactic Idealize.ShloMosaic.StableHlo
open Cert.KernelIdeal.Gen Cert.Nms Cert.KernelIdeal.Tiles

/-! The last stretch's table, entry by entry. -/

section

variable (p d : FVec Ideal S4x2048x6 .f32) (o : FVec Ideal S4x2048x3 .f32) (v : FVec Ideal S4x2048 .f32) (k : IVec S4x2048 32) (b : Fin 4) (r : Fin 2048)

/-- The four pieces of the table. -/
def pieces : List ((s : Shape) × (s.Idx → Ideal .f32)) :=
  [⟨S4x2048x3, subf o (extractStridedSlice S4x2048x3 ![0, 0, 0] (addf p d) Facts₀.slices_S4x2048x6_S4x2048x3_0_0_0)⟩,
   ⟨S4x2048x3, addf o (extractStridedSlice S4x2048x3 ![0, 0, 3] (addf p d) Facts₀.slices_S4x2048x6_S4x2048x3_0_0_3)⟩,
   ⟨S4x2048x1, broadcastInDim S4x2048x1 ![0, 1] Facts₀.bcast_S4x2048_S4x2048x1_0_1 v⟩,
   ⟨S4x2048x1, broadcastInDim S4x2048x1 ![0, 1] Facts₀.bcast_S4x2048_S4x2048x1_0_1 (sitofp .f32 k)⟩]

theorem joins : Shape.Concatenates ((pieces p d o v k).map (·.1)) S4x2048x8 2 := Facts₀.concatenates_S4x2048x3_S4x2048x3_S4x2048x1_S4x2048x1_S4x2048x8_d2

theorem tableOf_lo (e : Fin 3) : tableOf p d o v k (ValueIdx.ix3 b r ⟨e.val, by omega⟩)
    = o (ValueIdx.ix3 b r e) - (p (ValueIdx.ix3 b r ⟨e.val, by omega⟩) + d (ValueIdx.ix3 b r ⟨e.val, by omega⟩)) := by
  refine (concatenate_apply_piece 2 (pieces p d o v k) (joins p d o v k) _ 0 (show 0 < 4 by decide) S4x2048x3 _ rfl rfl 0 rfl
    (ValueIdx.ix3 b r e) (fun c hc => ?_) ?_).trans ?_
  · fin_cases c
    · rfl
    · rfl
    · exact absurd rfl hc
  · exact Nat.zero_add _
  · refine congrArg (fun x => o (ValueIdx.ix3 b r e) - x) (extractStridedSlice_apply _ _ _ _ (ValueIdx.ix3 b r ⟨e.val, by omega⟩) fun c => ?_)
    fin_cases c <;> exact (Nat.zero_add _).symm

theorem tableOf_hi (e : Fin 3) : tableOf p d o v k (ValueIdx.ix3 b r ⟨3 + e.val, by omega⟩)
    = o (ValueIdx.ix3 b r e) + (p (ValueIdx.ix3 b r ⟨3 + e.val, by omega⟩) + d (ValueIdx.ix3 b r ⟨3 + e.val, by omega⟩)) := by
  refine (concatenate_apply_piece 2 (pieces p d o v k) (joins p d o v k) _ 1 (show 1 < 4 by decide) S4x2048x3 _ rfl rfl 3 rfl
    (ValueIdx.ix3 b r e) (fun c hc => ?_) rfl).trans ?_
  · fin_cases c
    · rfl
    · rfl
    · exact absurd rfl hc
  · refine congrArg (fun x => o (ValueIdx.ix3 b r e) + x) (extractStridedSlice_apply _ _ _ _ (ValueIdx.ix3 b r ⟨3 + e.val, by omega⟩) fun c => ?_)
    fin_cases c
    · exact (Nat.zero_add _).symm
    · exact (Nat.zero_add _).symm
    · rfl

theorem col_apply {α : Type} (x : S4x2048.Idx → α) : broadcastInDim S4x2048x1 ![0, 1] Facts₀.bcast_S4x2048_S4x2048x1_0_1 x (ValueIdx.ix3 b r 0) = x (ValueIdx.ix2 b r) :=
  broadcastInDim_apply _ _ _ _ _ fun c => by fin_cases c <;> rfl

theorem tableOf_score : tableOf p d o v k (ValueIdx.ix3 b r 6) = v (ValueIdx.ix2 b r) := by
  refine (concatenate_apply_piece 2 (pieces p d o v k) (joins p d o v k) _ 2 (show 2 < 4 by decide) S4x2048x1 _ rfl rfl 6 rfl
    (ValueIdx.ix3 b r 0) (fun c hc => ?_) rfl).trans (col_apply b r _)
  fin_cases c
  · rfl
  · rfl
  · exact absurd rfl hc

theorem tableOf_class : tableOf p d o v k (ValueIdx.ix3 b r 7) = FloatOps.sitofp .f32 (k (ValueIdx.ix2 b r)) := by
  refine (concatenate_apply_piece 2 (pieces p d o v k) (joins p d o v k) _ 3 (show 3 < 4 by decide) S4x2048x1 _ rfl rfl 7 rfl
    (ValueIdx.ix3 b r 0) (fun c hc => ?_) rfl).trans (col_apply b r _)
  fin_cases c
  · rfl
  · rfl
  · exact absurd rfl hc

end

/-! The contents after each stretch. -/

section

variable (m : (ℓ : Loc nD τ sig) → Buf (Elt Ideal) ℓ) (c : Dev nD)

def U0 : Valuation τ sig (Elt Ideal) := fun b => m (c, b)
def U1 : Valuation τ sig (Elt Ideal) := after hostOps0 (U0 m c)
def U2 : Valuation τ sig (Elt Ideal) := after hostOps0_1 (U1 m c)
def U3 : Valuation τ sig (Elt Ideal) := after hostOps0_2 (U2 m c)
def U4 : Valuation τ sig (Elt Ideal) := after hostOps0_3 (U3 m c)
def U5 : Valuation τ sig (Elt Ideal) := after hostOps0_4 (U4 m c)
def U6 : Valuation τ sig (Elt Ideal) := after hostOps0_5 (U5 m c)
def U7 : Valuation τ sig (Elt Ideal) := after hostOps0_6 (U6 m c)
def U8 : Valuation τ sig (Elt Ideal) := after hostOps0_7 (U7 m c)
def U9 : Valuation τ sig (Elt Ideal) := after hostOps0_8 (U8 m c)
def U10 : Valuation τ sig (Elt Ideal) := after hostOps0_9 (U9 m c)
def U11 : Valuation τ sig (Elt Ideal) := after hostOps0_10 (U10 m c)
def U12 : Valuation τ sig (Elt Ideal) := after hostOps0_11 (U11 m c)
def U13 : Valuation τ sig (Elt Ideal) := after hostOps0_12 (U12 m c)

theorem V_eq (r : Ref sig .tc) : V m c r = U13 m c (Proc.devRef .tc r) := by
  show after (List.flatten _) _ _ = _
  rw [← afterL_eq_after_flatten]
  rfl

/-- The candidates' scores, and the arguments. -/
def scores : FVec Ideal S4x360000 .f32 := U3 m c (Proc.devRef .tc main_v15)
def deltas : FVec Ideal S4x20000x18x6 .f32 := m ((c.tc : Thread nD τ).loc main_arg1)
def props : FVec Ideal S4x20000x6 .f32 := m ((c.tc : Thread nD τ).loc main_arg2)
def origs : FVec Ideal S4x20000x3 .f32 := m ((c.tc : Thread nD τ).loc main_arg3)

variable (b : Fin 4) (r : Fin 2048)

theorem val_eq : (U3 m c (Proc.devRef .tc main_values) : FVec Ideal S4x2048 .f32) (ValueIdx.ix2 b r) = scores m c (ValueIdx.ix2 b (pick (scores m c) b r)) :=
  (congrFun (s2_values (U2 m c)) _).trans (topK_apply (by decide) (scores m c) Facts₀.sliceFits_S4x360000_S4x2048 b r).1
theorem ind_eq : (U3 m c (Proc.devRef .tc main_indices) : IVec S4x2048 32) (ValueIdx.ix2 b r) = BitVec.ofNat 32 (pick (scores m c) b r).val :=
  (congrFun (s2_indices (U2 m c)) _).trans (topK_apply (by decide) (scores m c) Facts₀.sliceFits_S4x360000_S4x2048 b r).2
theorem c_eq : (U3 m c (Proc.devRef .tc main_c) : IVec S_ 32) = constantI S_ 32 18#32 := s2_c _
theorem pick_small : (pick (scores m c) b r).val < 2 ^ 31 := lt_trans (pick (scores m c) b r).isLt (by decide)

theorem class_eq : (U4 m c (Proc.devRef .tc main_v16) : IVec S4x2048 32) (ValueIdx.ix2 b r) = BitVec.ofNat 32 (classAt (pick (scores m c) b r)).val := by
  refine (congrFun (s3_v16 (U3 m c)) _).trans ?_
  rw [c_eq]
  exact remOf_apply _ _ _ _ (pick_small m c b r) (ind_eq m c b r)

theorem ind4 : U4 m c (Proc.devRef .tc main_indices) = U3 m c (Proc.devRef .tc main_indices) := keep3 _ _ (by decide +kernel)
theorem ind7 : U7 m c (Proc.devRef .tc main_indices) = U3 m c (Proc.devRef .tc main_indices) :=
  (keep6 _ _ (by decide +kernel)).trans ((keep5 _ _ (by decide +kernel)).trans ((keep4 _ _ (by decide +kernel)).trans (ind4 m c)))
theorem d4 : U4 m c (Proc.devRef .tc main_arg1) = deltas m c :=
  (keep3 _ _ (by decide +kernel)).trans ((keep2 _ _ (by decide +kernel)).trans ((keep1 _ _ (by decide +kernel)).trans (keep0 _ _ (by decide +kernel))))

theorem delta_eq (d : Fin 6) : (U6 m c (Proc.devRef .tc main_v19) : FVec Ideal S4x2048x6 .f32) (ValueIdx.ix3 b r d)
    = deltas m c (ValueIdx.ix4 b (anchorAt (pick (scores m c) b r)) (classAt (pick (scores m c) b r)) d) := by
  refine (congrFun (s5_v19 (U5 m c)) _).trans ?_
  refine (takeOf_apply (N := 360000) _ _ _ _ _ _ Facts₀.gather_S4x360000x6_S4x2048x1_S4x2048x6_2_1_0_0_1_2_116_wf 360000#32 359999 rfl (by decide) _ _ _
    (pick (scores m c)) (fun b r => ?_) b r d).trans ?_
  · refine (congrFun (s4_v18 (U4 m c)) _).trans ((col_apply b r _).trans ?_)
    rw [ind4]
    exact ind_eq m c b r
  · refine (congrFun (s4_v17 (U4 m c)) _).trans ?_
    rw [d4]
    exact faces_apply _ _ b _ d

theorem row_eq : (U8 m c (Proc.devRef .tc main_v20) : IVec S4x2048 32) (ValueIdx.ix2 b r) = BitVec.ofNat 32 (anchorAt (pick (scores m c) b r)).val := by
  refine (congrFun (s7_v20 (U7 m c)) _).trans ?_
  rw [show U7 m c (Proc.devRef .tc main_c_4) = constantI S_ 32 18#32 from s6_c _, ind7]
  exact floorOf_apply _ _ _ _ (pick_small m c b r) (ind_eq m c b r)

theorem p9 : U9 m c (Proc.devRef .tc main_arg2) = props m c :=
  (keep8 _ _ (by decide +kernel)).trans ((keep7 _ _ (by decide +kernel)).trans ((keep6 _ _ (by decide +kernel)).trans ((keep5 _ _ (by decide +kernel)).trans
    ((keep4 _ _ (by decide +kernel)).trans ((keep3 _ _ (by decide +kernel)).trans ((keep2 _ _ (by decide +kernel)).trans
      ((keep1 _ _ (by decide +kernel)).trans (keep0 _ _ (by decide +kernel)))))))))

theorem prop_eq (d : Fin 6) : (U10 m c (Proc.devRef .tc main_v22) : FVec Ideal S4x2048x6 .f32) (ValueIdx.ix3 b r d)
    = props m c (ValueIdx.ix3 b (anchorAt (pick (scores m c) b r)) d) := by
  refine (congrFun (s9_v22 (U9 m c)) _).trans ?_
  rw [p9]
  refine (takeOf_apply (N := 20000) _ _ _ _ _ _ Facts₀.gather_S4x20000x6_S4x2048x1_S4x2048x6_2_1_0_0_1_2_116_wf 20000#32 19999 rfl (by decide) _ _ _
    (fun b r => anchorAt (pick (scores m c) b r)) (fun b r => ?_) b r d)
  exact (congrFun (s8_v21 (U8 m c)) _).trans ((col_apply b r _).trans (row_eq m c b r))

theorem o11 : U11 m c (Proc.devRef .tc main_arg3) = origs m c :=
  (keep10 _ _ (by decide +kernel)).trans ((keep9 _ _ (by decide +kernel)).trans ((keep8 _ _ (by decide +kernel)).trans ((keep7 _ _ (by decide +kernel)).trans
    ((keep6 _ _ (by decide +kernel)).trans ((keep5 _ _ (by decide +kernel)).trans ((keep4 _ _ (by decide +kernel)).trans ((keep3 _ _ (by decide +kernel)).trans
      ((keep2 _ _ (by decide +kernel)).trans ((keep1 _ _ (by decide +kernel)).trans (keep0 _ _ (by decide +kernel)))))))))))

theorem orig_eq (d : Fin 3) : (U12 m c (Proc.devRef .tc main_v24) : FVec Ideal S4x2048x3 .f32) (ValueIdx.ix3 b r d)
    = origs m c (ValueIdx.ix3 b (anchorAt (pick (scores m c) b r)) d) := by
  refine (congrFun (s11_v24 (U11 m c)) _).trans ?_
  rw [o11]
  refine (takeOf_apply (N := 20000) _ _ _ _ _ _ Facts₀.gather_S4x20000x3_S4x2048x1_S4x2048x3_2_1_0_0_1_2_113_wf 20000#32 19999 rfl (by decide) _ _ _
    (fun b r => anchorAt (pick (scores m c) b r)) (fun b r => ?_) b r d)
  refine (congrFun (s10_v23 (U10 m c)) _).trans ((col_apply b r _).trans ?_)
  rw [show U10 m c (Proc.devRef .tc main_v20) = U8 m c (Proc.devRef .tc main_v20) from (keep9 _ _ (by decide +kernel)).trans (keep8 _ _ (by decide +kernel))]
  exact row_eq m c b r

theorem val12 : U12 m c (Proc.devRef .tc main_values) = U3 m c (Proc.devRef .tc main_values) :=
  (keep11 _ _ (by decide +kernel)).trans ((keep10 _ _ (by decide +kernel)).trans ((keep9 _ _ (by decide +kernel)).trans ((keep8 _ _ (by decide +kernel)).trans
    ((keep7 _ _ (by decide +kernel)).trans ((keep6 _ _ (by decide +kernel)).trans ((keep5 _ _ (by decide +kernel)).trans ((keep4 _ _ (by decide +kernel)).trans
      (keep3 _ _ (by decide +kernel)))))))))
theorem class12 : U12 m c (Proc.devRef .tc main_v16) = U4 m c (Proc.devRef .tc main_v16) :=
  (keep11 _ _ (by decide +kernel)).trans ((keep10 _ _ (by decide +kernel)).trans ((keep9 _ _ (by decide +kernel)).trans ((keep8 _ _ (by decide +kernel)).trans
    ((keep7 _ _ (by decide +kernel)).trans ((keep6 _ _ (by decide +kernel)).trans ((keep5 _ _ (by decide +kernel)).trans (keep4 _ _ (by decide +kernel))))))))
theorem delta12 : U12 m c (Proc.devRef .tc main_v19) = U6 m c (Proc.devRef .tc main_v19) :=
  (keep11 _ _ (by decide +kernel)).trans ((keep10 _ _ (by decide +kernel)).trans ((keep9 _ _ (by decide +kernel)).trans ((keep8 _ _ (by decide +kernel)).trans
    ((keep7 _ _ (by decide +kernel)).trans (keep6 _ _ (by decide +kernel))))))
theorem prop12 : U12 m c (Proc.devRef .tc main_v22) = U10 m c (Proc.devRef .tc main_v22) := (keep11 _ _ (by decide +kernel)).trans (keep10 _ _ (by decide +kernel))

/-- The region's boxes are the table. -/
theorem boxes_eq (e : Fin 8) : boxesV m c (ValueIdx.ix3 b r e) = table (scores m c) (deltas m c) (props m c) (origs m c) b r e := by
  have hb : (boxesV m c) = tableOf (U12 m c (Proc.devRef .tc main_v22)) (U12 m c (Proc.devRef .tc main_v19)) (U12 m c (Proc.devRef .tc main_v24))
      (U12 m c (Proc.devRef .tc main_values)) (U12 m c (Proc.devRef .tc main_v16)) := (V_eq m c main_v33).trans (s12_v33 _)
  rw [hb, val12, class12, delta12, prop12]
  have hlo (d : Fin 3) : _ := (tableOf_lo (U10 m c (Proc.devRef .tc main_v22)) (U6 m c (Proc.devRef .tc main_v19)) (U12 m c (Proc.devRef .tc main_v24))
    (U3 m c (Proc.devRef .tc main_values)) (U4 m c (Proc.devRef .tc main_v16)) b r d).trans
    ((congrArg₂ (fun x y : EReal => x - y) (orig_eq m c b r d) (congrArg₂ (fun x y : EReal => x + y) (prop_eq m c b r _) (delta_eq m c b r _))).trans
      (table_lo (scores m c) (deltas m c) (props m c) (origs m c) b r d).symm)
  have hhi (d : Fin 3) : _ := (tableOf_hi (U10 m c (Proc.devRef .tc main_v22)) (U6 m c (Proc.devRef .tc main_v19)) (U12 m c (Proc.devRef .tc main_v24))
    (U3 m c (Proc.devRef .tc main_values)) (U4 m c (Proc.devRef .tc main_v16)) b r d).trans
    ((congrArg₂ (fun x y : EReal => x + y) (orig_eq m c b r d) (congrArg₂ (fun x y : EReal => x + y) (prop_eq m c b r _) (delta_eq m c b r _))).trans
      (table_hi (scores m c) (deltas m c) (props m c) (origs m c) b r d).symm)
  fin_cases e
  · exact hlo 0
  · exact hlo 1
  · exact hlo 2
  · exact hhi 0
  · exact hhi 1
  · exact hhi 2
  · exact (tableOf_score _ _ _ _ _ b r).trans (val_eq m c b r)
  · refine (tableOf_class _ _ _ _ _ b r).trans ((congrArg _ (class_eq m c b r)).trans (word_real _ ?_))
    exact lt_trans (classAt (pick (scores m c) b r)).isLt (by decide)

theorem boxesT_eq (e : Fin 8) : boxesTV m c (ValueIdx.ix3 b e r) = boxesV m c (ValueIdx.ix3 b r e) := by
  refine (congrFun ((V_eq m c main_v34).trans (s12_v34 _)) _).trans ((ValueIdx.transpose_ix3_021_apply _ _ b e r).trans ?_)
  exact (congrFun (V_eq m c main_v33) _).symm

theorem batch_eq : batchB (boxesV m c) b = tableN (scores m c) (deltas m c) (props m c) (origs m c) b := by
  funext j d
  unfold batchB tableN
  split_ifs with h
  · exact boxes_eq m c b _ _
  · rfl

/-- What the region leaves. -/
theorem region : (dats m 0 c).arrAt 2 (cfgs 0).N = outArr (boxesV m c) :=
  final m c (fun b j d => boxesT_eq m c b j d) fun b i j h => by
    rw [batch_eq]
    exact table_falls _ _ _ _ b i j h

end

end Cert.KernelIdeal.Host

end
-- ==== Proof.KerRun.lean ====
module

public import proofs.«01_k».proof.Proof.KerHost

/-!
The kernel's run: it ends with the chosen candidates' boxes and scores, and with their classes.
-/

@[expose] public section

set_option maxRecDepth 16384
set_option maxHeartbeats 2000000

noncomputable section

namespace Cert.KernelIdeal.Host

open Idealize.ShloMosaic Idealize.ShloMosaic.TcCoe Idealize.ShloMosaic.Tactic Idealize.ShloMosaic.StableHlo Idealize.SL.Sem
open Cert.KernelIdeal.Gen Cert.Nms Cert.KernelIdeal.Tiles

/-- The two results in terms of the scores and the boxes' data. -/
def finalBoxes (X : FVec Ideal S4x360000 .f32) (D : FVec Ideal S4x20000x18x6 .f32) (P : FVec Ideal S4x20000x6 .f32) (O : FVec Ideal S4x20000x3 .f32) :
    FVec Ideal S4x256x7 .f32 := fun i => outB (tableN X D P O (i 0)) (i 1) ((i 2).castLE (by decide))
def finalClasses (X : FVec Ideal S4x360000 .f32) (D : FVec Ideal S4x20000x18x6 .f32) (P : FVec Ideal S4x20000x6 .f32) (O : FVec Ideal S4x20000x3 .f32) :
    IVec S4x256 32 := fun i => BitVec.ofNat 32 (classAt (pick X (i 0) (chosen (tableN X D P O (i 0)) (i 1)))).val

theorem to_word (k : ℕ) (hk : k < 18) : FloatOps.fptosi (F := Ideal) (φ := .f32) 32 ((((k : ℝ) : EReal)) : Ideal .f32) = BitVec.ofNat 32 k := by
  show BitVec.ofInt 32 (Ideal.toIntClamped _ _ _) = _
  rw [Ideal.toIntClamped_coe, if_pos (Nat.cast_nonneg k), Int.floor_natCast]
  interval_cases k <;> rfl

section

variable (W : Valuation τ sig (Elt Ideal))

theorem t_v36 : after (hostOps1 (F := Ideal)) W (Proc.devRef .tc main_v36)
    = extractStridedSlice S4x256x7 ![0, 0, 0] (W (Proc.devRef .tc main_v35)) Facts₀.slices_S4x256x8_S4x256x7_0_0_0 := by
  simp only [hostOps1]; after_results
theorem t_v39 : after (hostOps1 (F := Ideal)) W (Proc.devRef .tc main_v39)
    = fptosi 32 (shapeCast S4x256 (extractStridedSlice S4x256x1 ![0, 0, 7] (show FVec Ideal S4x256x8 .f32 from W (Proc.devRef .tc main_v35)) Facts₀.slices_S4x256x8_S4x256x1_0_0_7)
        Facts₀.shapeCasts_S4x256x1_S4x256) := by
  simp only [hostOps1]; after_results; rfl

end

variable (m : (ℓ : Loc nD τ sig) → Buf (Elt Ideal) ℓ) (c : Dev nD)

theorem outArr_class (X : FVec Ideal S4x360000 .f32) (D : FVec Ideal S4x20000x18x6 .f32) (P : FVec Ideal S4x20000x6 .f32) (O : FVec Ideal S4x20000x3 .f32)
    (b : Fin 4) (q : Fin 256) : outB (tableN X D P O b) q 7 = (((classAt (pick X b (chosen (tableN X D P O b) q))).val : ℝ) : EReal) := by
  show (if (7 : Fin 8).val = 6 then _ else tableN X D P O b (chosen (tableN X D P O b) q).val (7 : Fin 8).val) = _
  rw [if_neg (by decide), tableN_apply, table_class]

theorem exit_v35 : Pipeline.withArrays (cfgs 0).spec c (V0 m c) (fun w => (dats m 0 c).arrAt w (cfgs 0).N) (Proc.devRef .tc main_v35) = outArr (boxesV m c) :=
  (Pipeline.withArrays_arr (cfgs 0).spec (by decide : Function.Injective (Pipeline.arrRef spec0)) c (V0 m c) (fun w => (dats m 0 c).arrAt w (cfgs 0).N) 2).trans (region m c)

theorem end_v36 : Pipeline.afterTail₀ cfgs (dats m) 0 (V0 m) [hostOps1] c main_v36 = finalBoxes (scores m c) (deltas m c) (props m c) (origs m c) := by
  unfold Pipeline.afterTail₀
  refine (t_v36 _).trans ?_
  rw [exit_v35]
  funext i
  obtain ⟨b, q, d, rfl⟩ : ∃ (b : Fin 4) (q : Fin 256) (d : Fin 7), i = ValueIdx.ix3 b q d := ⟨i 0, i 1, i 2, ValueIdx.eq_ix3 i⟩
  refine (extractStridedSlice_apply _ _ _ _ (ValueIdx.ix3 b q (d.castLE (by decide))) fun a => ?_).trans ?_
  · fin_cases a <;> exact (Nat.zero_add _).symm
  · show outB (batchB (boxesV m c) b) q _ = outB (tableN _ _ _ _ b) q _
    rw [batch_eq]
    rfl

theorem end_v39 : Pipeline.afterTail₀ cfgs (dats m) 0 (V0 m) [hostOps1] c main_v39 = finalClasses (scores m c) (deltas m c) (props m c) (origs m c) := by
  unfold Pipeline.afterTail₀
  refine (t_v39 _).trans ?_
  rw [exit_v35]
  funext i
  obtain ⟨b, q, rfl⟩ : ∃ (b : Fin 4) (q : Fin 256), i = ValueIdx.ix2 b q := ⟨i 0, i 1, ValueIdx.eq_ix2 i⟩
  refine (congrArg (FloatOps.fptosi 32) ?_).trans (to_word _ (classAt (pick (scores m c) b (chosen (tableN (scores m c) (deltas m c) (props m c) (origs m c) b) q))).isLt)
  refine (shapeCast_apply _ _ _ (ValueIdx.ix3 b q 0) ?_).trans ?_
  · rw [rowMajor_val3 _ 256 1 rfl rfl, rowMajor_val2 _ 256 rfl]
    show b.val * 256 + q.val * 1 + 0 = b.val * 256 + q.val
    omega
  refine (extractStridedSlice_apply _ _ _ _ (ValueIdx.ix3 b q 7) fun a => ?_).trans ?_
  · fin_cases a
    · exact (Nat.zero_add _).symm
    · exact (Nat.zero_add _).symm
    · rfl
  · show outB (batchB (boxesV m c) b) q 7 = _
    rw [batch_eq]
    exact outArr_class _ _ _ _ b q

/-- The kernel's run. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v36) = finalBoxes (scores m c) (deltas m c) (props m c) (origs m c)
      ∧ r.2.mem ((c.tc : Thread nD τ).loc main_v39) = finalClasses (scores m c) (deltas m c) (props m c) (origs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono (fun r h c =>
    ⟨((h c).2 main_v36 (Pipeline.mem_restRefs_of main_v36 (by decide) (by decide))).trans (end_v36 m c),
     ((h c).2 main_v39 (Pipeline.mem_restRefs_of main_v39 (by decide) (by decide))).trans (end_v39 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩) (Gen.run_main m ρ)

end Cert.KernelIdeal.Host

end
-- ==== Proof.RefHost.lean ====
module

public import proofs.«01_k».proof.Proof.RefLoop
public import proofs.«01_k».proof.Proof.KerRun

/-!
The reference's candidates, their moved boxes and their overlap ratios, up to its loop.
-/

@[expose] public section

set_option maxRecDepth 16384
set_option maxHeartbeats 1000000

noncomputable section

namespace Cert.ReferenceIdeal.Value

open Cert.ReferenceIdeal Cert.ReferenceIdeal.Gen Cert.Nms Cert.KernelIdeal.Tiles
open Idealize.ShloMosaic Idealize.ShloMosaic.TcCoe Idealize.ShloMosaic.StableHlo

/-! The faces of every proposal and class. -/

section

variable (D : FVec Ideal S4x20000x18x6 .f32) (P : FVec Ideal S4x20000x6 .f32) (O : FVec Ideal S4x20000x3 .f32) (b : Fin 4) (a : Fin 20000) (k : Fin 18)

theorem sides_apply (d : Fin 6) : sidesOf D P (ValueIdx.ix4 b a k d) = (P (ValueIdx.ix3 b a d) + D (ValueIdx.ix4 b a k d) : EReal) :=
  congrArg (fun y : EReal => y + D (ValueIdx.ix4 b a k d)) ((broadcastInDim_apply _ _ _ _ (ValueIdx.ix4 b a 0 d) fun c => by fin_cases c <;> rfl).trans
    (broadcastInDim_apply _ _ _ _ (ValueIdx.ix3 b a d) fun c => by fin_cases c <;> rfl))

theorem origins_apply (d : Fin 3) : originsOf O (ValueIdx.ix4 b a k d) = O (ValueIdx.ix3 b a d) :=
  (broadcastInDim_apply _ _ _ _ (ValueIdx.ix4 b a 0 d) fun c => by fin_cases c <;> rfl).trans
    (broadcastInDim_apply _ _ _ _ (ValueIdx.ix3 b a d) fun c => by fin_cases c <;> rfl)

/-- The joined faces. -/
def joined : FVec Ideal S4x20000x18x6 .f32 := concatenate S4x20000x18x6 3 (halves D P O) (halves_join D P O)

theorem joined_lo (e : Fin 3) : joined D P O (ValueIdx.ix4 b a k ⟨e.val, by omega⟩)
    = (O (ValueIdx.ix3 b a e) - (P (ValueIdx.ix3 b a ⟨e.val, by omega⟩) + D (ValueIdx.ix4 b a k ⟨e.val, by omega⟩)) : EReal) := by
  refine (concatenate_apply_piece 3 (halves D P O) (halves_join D P O) _ 0 (show 0 < 2 by decide) S4x20000x18x3 _ rfl rfl 0 rfl
    (ValueIdx.ix4 b a k e) (fun c hc => ?_) ?_).trans ?_
  · fin_cases c
    · rfl
    · rfl
    · rfl
    · exact absurd rfl hc
  · exact Nat.zero_add _
  · refine congrArg₂ (fun x y : EReal => x - y) (origins_apply O b a k e) ((extractStridedSlice_apply _ _ _ _ (ValueIdx.ix4 b a k ⟨e.val, by omega⟩) fun c => ?_).trans (sides_apply D P b a k _))
    fin_cases c <;> exact (Nat.zero_add _).symm

theorem joined_hi (e : Fin 3) : joined D P O (ValueIdx.ix4 b a k ⟨3 + e.val, by omega⟩)
    = (O (ValueIdx.ix3 b a e) + (P (ValueIdx.ix3 b a ⟨3 + e.val, by omega⟩) + D (ValueIdx.ix4 b a k ⟨3 + e.val, by omega⟩)) : EReal) := by
  refine (concatenate_apply_piece 3 (halves D P O) (halves_join D P O) _ 1 (show 1 < 2 by decide) S4x20000x18x3 _ rfl rfl 3 rfl
    (ValueIdx.ix4 b a k e) (fun c hc => ?_) rfl).trans ?_
  · fin_cases c
    · rfl
    · rfl
    · rfl
    · exact absurd rfl hc
  · refine congrArg₂ (fun x y : EReal => x + y) (origins_apply O b a k e) ((extractStridedSlice_apply _ _ _ _ (ValueIdx.ix4 b a k ⟨3 + e.val, by omega⟩) fun c => ?_).trans (sides_apply D P b a k _))
    fin_cases c
    · exact (Nat.zero_add _).symm
    · exact (Nat.zero_add _).symm
    · exact (Nat.zero_add _).symm
    · rfl

theorem joined_apply (t : Fin 360000) (d : Fin 6) : joined D P O (ValueIdx.ix4 b (anchorAt t) (classAt t) d) = faceAt D P O b t d := by
  unfold faceAt
  split_ifs with h
  · exact joined_lo D P O b (anchorAt t) (classAt t) ⟨d.val, h⟩
  · have hd := d.isLt
    obtain ⟨e, rfl⟩ : ∃ e : Fin 3, d = ⟨3 + e.val, Nat.add_lt_add_left e.isLt 3⟩ := ⟨⟨d.val - 3, by omega⟩, Fin.ext (by show d.val = 3 + (d.val - 3); omega)⟩
    refine (joined_hi D P O b (anchorAt t) (classAt t) e).trans ?_
    have he : (⟨3 + e.val - 3, by omega⟩ : Fin 3) = e := Fin.ext (by show 3 + e.val - 3 = e.val; omega)
    show _ = hiAt D P O b t ⟨3 + e.val - 3, _⟩
    rw [he]
    rfl

/-- A face is real when the arguments are. -/
theorem face_real (hD : ∀ i, ∃ r : ℝ, D i = (r : EReal)) (hP : ∀ i, ∃ r : ℝ, P i = (r : EReal)) (hO : ∀ i, ∃ r : ℝ, O i = (r : EReal)) (t : Fin 360000) (d : Fin 6) :
    ∃ r : ℝ, faceAt D P O b t d = (r : EReal) := by
  have hs (d : Fin 6) : ∃ r : ℝ, sideAt D P b t d = (r : EReal) := by
    obtain ⟨p, hp⟩ := hP (ValueIdx.ix3 b (anchorAt t) d)
    obtain ⟨q, hq⟩ := hD (ValueIdx.ix4 b (anchorAt t) (classAt t) d)
    exact ⟨p + q, (congrArg₂ (fun x y : EReal => x + y) hp hq).trans (EReal.coe_add p q).symm⟩
  unfold faceAt
  split_ifs with h
  · obtain ⟨o, ho⟩ := hO (ValueIdx.ix3 b (anchorAt t) ⟨d.val, h⟩)
    obtain ⟨s, hs⟩ := hs ⟨d.val, by omega⟩
    exact ⟨o - s, (congrArg₂ (fun x y : EReal => x - y) ho hs).trans (EReal.coe_sub o s).symm⟩
  · have hd := d.isLt
    obtain ⟨o, ho⟩ := hO (ValueIdx.ix3 b (anchorAt t) ⟨d.val - 3, by omega⟩)
    obtain ⟨s, hs⟩ := hs ⟨3 + (d.val - 3), by omega⟩
    exact ⟨o + s, (congrArg₂ (fun x y : EReal => x + y) ho hs).trans (EReal.coe_add o s).symm⟩

end

/-! The contents after each stretch. -/

section

variable (m : (ℓ : Loc nD τ sig) → Buf (Elt Ideal) ℓ) (c : Dev nD)

def T0 : Valuation τ sig (Elt Ideal) := fun b => m (c, b)
def T1 : Valuation τ sig (Elt Ideal) := after hostOps0 (T0 m c)
def T2 : Valuation τ sig (Elt Ideal) := after hostOps0_1 (T1 m c)
def T3 : Valuation τ sig (Elt Ideal) := after hostOps0_2 (T2 m c)
def T4 : Valuation τ sig (Elt Ideal) := after hostOps0_3 (T3 m c)
def T5 : Valuation τ sig (Elt Ideal) := after hostOps0_4 (T4 m c)
def T6 : Valuation τ sig (Elt Ideal) := after hostOps0_5 (T5 m c)
def T7 : Valuation τ sig (Elt Ideal) := after hostOps0_6 (T6 m c)
def T8 : Valuation τ sig (Elt Ideal) := after hostOps0_7 (T7 m c)
def T9 : Valuation τ sig (Elt Ideal) := after hostOps0_8 (T8 m c)

theorem entry_eq : entryContents preI m c = T9 m c := rfl

theorem k1 (V : Valuation τ sig (Elt Ideal)) (r : Ref sig .tc) (h : r ∉ hostOps0_1_W) : after (hostOps0_1 (F := Ideal)) V (Proc.devRef .tc r) = V (Proc.devRef .tc r) :=
  after_of_writes_sub _ _ hostOps0_1_writes h
theorem k2 (V : Valuation τ sig (Elt Ideal)) (r : Ref sig .tc) (h : r ∉ hostOps0_2_W) : after (hostOps0_2 (F := Ideal)) V (Proc.devRef .tc r) = V (Proc.devRef .tc r) :=
  after_of_writes_sub _ _ hostOps0_2_writes h
theorem k3 (V : Valuation τ sig (Elt Ideal)) (r : Ref sig .tc) (h : r ∉ hostOps0_3_W) : after (hostOps0_3 (F := Ideal)) V (Proc.devRef .tc r) = V (Proc.devRef .tc r) :=
  after_of_writes_sub _ _ hostOps0_3_writes h
theorem k4 (V : Valuation τ sig (Elt Ideal)) (r : Ref sig .tc) (h : r ∉ hostOps0_4_W) : after (hostOps0_4 (F := Ideal)) V (Proc.devRef .tc r) = V (Proc.devRef .tc r) :=
  after_of_writes_sub _ _ hostOps0_4_writes h
theorem k5 (V : Valuation τ sig (Elt Ideal)) (r : Ref sig .tc) (h : r ∉ hostOps0_5_W) : after (hostOps0_5 (F := Ideal)) V (Proc.devRef .tc r) = V (Proc.devRef .tc r) :=
  after_of_writes_sub _ _ hostOps0_5_writes h
theorem k6 (V : Valuation τ sig (Elt Ideal)) (r : Ref sig .tc) (h : r ∉ hostOps0_6_W) : after (hostOps0_6 (F := Ideal)) V (Proc.devRef .tc r) = V (Proc.devRef .tc r) :=
  after_of_writes_sub _ _ hostOps0_6_writes h
theorem k7 (V : Valuation τ sig (Elt Ideal)) (r : Ref sig .tc) (h : r ∉ hostOps0_7_W) : after (hostOps0_7 (F := Ideal)) V (Proc.devRef .tc r) = V (Proc.devRef .tc r) :=
  after_of_writes_sub _ _ hostOps0_7_writes h
theorem k8 (V : Valuation τ sig (Elt Ideal)) (r : Ref sig .tc) (h : r ∉ hostOps0_8_W) : after (hostOps0_8 (F := Ideal)) V (Proc.devRef .tc r) = V (Proc.devRef .tc r) :=
  after_of_writes_sub _ _ hostOps0_8_writes h

/-- The candidates' scores, and the arguments. -/
def scores : FVec Ideal S4x360000 .f32 := T3 m c (Proc.devRef .tc main_v26)
def deltas : FVec Ideal S4x20000x18x6 .f32 := m ((c.tc : Thread nD τ).loc main_arg1)
def props : FVec Ideal S4x20000x6 .f32 := m ((c.tc : Thread nD τ).loc main_arg2)
def origs : FVec Ideal S4x20000x3 .f32 := m ((c.tc : Thread nD τ).loc main_arg3)
/-- The candidates' faces, their classes, and their faces moved. -/
def cand : FVec Ideal S4x2048x6 .f32 := T5 m c (Proc.devRef .tc main_v35)
def classes : IVec S4x2048 32 := T4 m c (Proc.devRef .tc main_v27)
def moved : FVec Ideal S4x2048x6 .f32 := movedOf (cand m c) (classes m c)
/-- The candidates' table of a batch. -/
def tab (b : Fin 4) : ℕ → ℕ → EReal := tableN (scores m c) (deltas m c) (props m c) (origs m c) b

variable (b : Fin 4) (r : Fin 2048)

theorem val_eq : (T3 m c (Proc.devRef .tc main_values) : FVec Ideal S4x2048 .f32) (ValueIdx.ix2 b r) = scores m c (ValueIdx.ix2 b (pick (scores m c) b r)) :=
  (congrFun (r2_values (T2 m c)) _).trans (topK_apply (by decide) (scores m c) Facts₀.sliceFits_S4x360000_S4x2048 b r).1
theorem ind_eq : (T3 m c (Proc.devRef .tc main_indices) : IVec S4x2048 32) (ValueIdx.ix2 b r) = BitVec.ofNat 32 (pick (scores m c) b r).val :=
  (congrFun (r2_indices (T2 m c)) _).trans (topK_apply (by decide) (scores m c) Facts₀.sliceFits_S4x360000_S4x2048 b r).2
theorem pick_small : (pick (scores m c) b r).val < 2 ^ 31 := lt_trans (pick (scores m c) b r).isLt (by decide)

theorem class_eq : classes m c (ValueIdx.ix2 b r) = BitVec.ofNat 32 (classAt (pick (scores m c) b r)).val := by
  refine (congrFun (r3_v27 (T3 m c)) _).trans ?_
  rw [show T3 m c (Proc.devRef .tc main_c) = constantI S_ 32 18#32 from r2_c _]
  exact remOf_apply _ _ _ _ (pick_small m c b r) (ind_eq m c b r)

theorem ind4 : T4 m c (Proc.devRef .tc main_indices) = T3 m c (Proc.devRef .tc main_indices) := k3 _ _ (by decide +kernel)
theorem v22_4 : T4 m c (Proc.devRef .tc main_v22) = joined (deltas m c) (props m c) (origs m c) :=
  (k3 _ _ (by decide +kernel)).trans ((k2 _ _ (by decide +kernel)).trans ((k1 _ _ (by decide +kernel)).trans (r0_v22 (T0 m c))))

theorem cand_eq (d : Fin 6) : cand m c (ValueIdx.ix3 b r d) = faceAt (deltas m c) (props m c) (origs m c) b (pick (scores m c) b r) d := by
  refine (congrFun (r4_v35 (T4 m c)) _).trans ?_
  rw [ind4, v22_4]
  unfold candOf
  refine (rows_gather Facts₀.gather_S4x360000x6_S4x2048x1_S4x2048x6_2_1_0_0_1_2_116_wf _ _ b r d (pick (scores m c) b r) (pick_small m c b r) ?_).trans ?_
  · refine (broadcastInDim_apply _ _ _ _ (ValueIdx.ix2 b r) fun c => by fin_cases c <;> rfl).trans ?_
    exact wrapOf_apply _ _ _ _ _ (pick_small m c b r) (ind_eq m c b r)
  · exact (faces_apply _ _ b _ d).trans (joined_apply _ _ _ b _ d)

/-! The table's entries. -/

theorem tab_face (d : ℕ) (hd : d < 6) : tab m c b r.val d = cand m c (ValueIdx.ix3 b r ⟨d, hd⟩) := by
  refine (tableN_apply _ _ _ _ b r ⟨d, by omega⟩).trans ?_
  unfold table
  rw [dif_pos (show d < 6 from hd), cand_eq]
theorem tab_score : tab m c b r.val 6 = (T3 m c (Proc.devRef .tc main_values) : FVec Ideal S4x2048 .f32) (ValueIdx.ix2 b r) :=
  (tableN_apply _ _ _ _ b r 6).trans ((table_score _ _ _ _ b r).trans (val_eq m c b r).symm)
theorem tab_class : tab m c b r.val 7 = (((classAt (pick (scores m c) b r)).val : ℝ) : EReal) := tableN_apply _ _ _ _ b r 7

/-! What the loop finds. -/

theorem moved5 : T5 m c (Proc.devRef .tc main_v48) = moved m c := by
  refine (r4_v48 (T4 m c)).trans ?_
  rw [← r4_v35]
  rfl
theorem gaps5 : T5 m c (Proc.devRef .tc main_v63) = gapsOf (moved m c) := by
  refine (r4_v63 (T4 m c)).trans ?_
  rw [← r4_v35]
  rfl
theorem ext6 : T6 m c (Proc.devRef .tc main_v64) = extentsOf (moved m c) := by
  refine (r5_v64 (T5 m c)).trans ?_
  rw [gaps5, show T5 m c (Proc.devRef .tc main_cst_9) = constant (F := Ideal) S_ .f32 0x00000000#32 from r4_cst _]
  rfl
theorem len8 : T8 m c (Proc.devRef .tc main_v76) = lengthsOf (moved m c) := by
  refine (r7_v76 (T7 m c)).trans ?_
  rw [show T7 m c (Proc.devRef .tc main_cst_10) = constant (F := Ideal) S_ .f32 0x00000000#32 from r6_cst _,
    show T7 m c (Proc.devRef .tc main_v75) = spansOf (T6 m c (Proc.devRef .tc main_v48)) from r6_v75 _,
    show T6 m c (Proc.devRef .tc main_v48) = moved m c from (k5 _ _ (by decide +kernel)).trans (moved5 m c)]
  rfl
theorem ratio9 : T9 m c (Proc.devRef .tc main_v97_0) = ratioOf (crossOf (extentsOf (moved m c))) (bulkOf (lengthsOf (moved m c))) := by
  refine (r8_ratio (T8 m c)).trans ?_
  rw [len8, show T8 m c (Proc.devRef .tc main_v72) = T7 m c (Proc.devRef .tc main_v72) from k7 _ _ (by decide +kernel),
    show T7 m c (Proc.devRef .tc main_v72) = crossOf (T6 m c (Proc.devRef .tc main_v64)) from r6_v72 _, ext6]

theorem keep_3_9 (x : Ref sig .tc) (h3 : x ∉ hostOps0_3_W) (h4 : x ∉ hostOps0_4_W) (h5 : x ∉ hostOps0_5_W) (h6 : x ∉ hostOps0_6_W) (h7 : x ∉ hostOps0_7_W) :
    T8 m c (Proc.devRef .tc x) = T3 m c (Proc.devRef .tc x) :=
  (k7 _ _ h7).trans ((k6 _ _ h6).trans ((k5 _ _ h5).trans ((k4 _ _ h4).trans (k3 _ _ h3))))
theorem val8 : T8 m c (Proc.devRef .tc main_values) = T3 m c (Proc.devRef .tc main_values) :=
  keep_3_9 m c _ (by decide +kernel) (by decide +kernel) (by decide +kernel) (by decide +kernel) (by decide +kernel)
theorem val9 : T9 m c (Proc.devRef .tc main_values) = T3 m c (Proc.devRef .tc main_values) := (k8 _ _ (by decide +kernel)).trans (val8 m c)
theorem cand9 : T9 m c (Proc.devRef .tc main_v35) = cand m c :=
  (k8 _ _ (by decide +kernel)).trans ((k7 _ _ (by decide +kernel)).trans ((k6 _ _ (by decide +kernel)).trans (k5 _ _ (by decide +kernel))))
theorem classes9 : T9 m c (Proc.devRef .tc main_v27) = classes m c :=
  (k8 _ _ (by decide +kernel)).trans ((k7 _ _ (by decide +kernel)).trans ((k6 _ _ (by decide +kernel)).trans ((k5 _ _ (by decide +kernel)).trans (k4 _ _ (by decide +kernel)))))

theorem valid9 : (T9 m c (Proc.devRef .tc main_v97_4) : IVec S4x2048 1) (ValueIdx.ix2 b r) = 1#1 ↔ Valid (tab m c b) r.val := by
  have e : T9 m c (Proc.devRef .tc main_v97_4) = cmpf .ogt (show FVec Ideal S4x2048 .f32 from T3 m c (Proc.devRef .tc main_values))
      (broadcastInDim S4x2048 ![] Facts₀.bcast_S_S4x2048 (constant S_ .f32 0x00000000#32)) := by
    refine (r8_valid (T8 m c)).trans ?_
    rw [val8]
  rw [e, gt_one, scalar_apply _ _ _ ValueIdx.ix0]
  unfold Valid
  rw [tab_score]
  exact iff_of_eq (congrArg (· < _) Ideal.ofBits_zero_f32)

/-- The ratio test is the overlap relation, the arguments being real. -/
theorem overlap9 (hD : ∀ i, ∃ r : ℝ, deltas m c i = (r : EReal)) (hP : ∀ i, ∃ r : ℝ, props m c i = (r : EReal)) (hO : ∀ i, ∃ r : ℝ, origs m c i = (r : EReal))
    (i j : Fin 2048) : quarter < (T9 m c (Proc.devRef .tc main_v97_0) : FVec Ideal S4x2048x2048 .f32) (ValueIdx.ix3 b i j) ↔ OvB (tab m c b) i.val j.val := by
  set f : ℕ → ℕ → ℝ := fun j d => (tab m c b j d).toReal with hf
  have real (j : Fin 2048) (d : ℕ) (hd : d < 6) : tab m c b j.val d = (f j.val d : EReal) := by
    obtain ⟨y, hy⟩ := face_real _ _ _ b hD hP hO (pick (scores m c) b j) ⟨d, hd⟩
    have e : tab m c b j.val d = (y : EReal) := (tab_face m c b j d hd).trans ((cand_eq m c b j _).trans hy)
    rw [hf]
    show _ = (((tab m c b j.val d).toReal : ℝ) : EReal)
    rw [e, EReal.toReal_coe]
  obtain ⟨M, hM, hb⟩ := largest (cand m c) b f fun j d => (tab_face m c b j d.val d.isLt).symm.trans (real j d.val d.isLt)
  set k : ℕ → ℕ := fun j => if h : j < 2048 then (classAt (pick (scores m c) b ⟨j, h⟩)).val else 0 with hk
  have kj (j : Fin 2048) : k j.val = (classAt (pick (scores m c) b j)).val := dif_pos j.isLt
  have shifted (j : Fin 2048) (d : ℕ) (hd : d < 6) : facesN (moved m c) b j.val d = ((f j.val d + (k j.val : ℝ) * 2 * M : ℝ) : EReal) := by
    rw [facesN_apply _ b j d hd, kj]
    exact moved_apply (cand m c) b (classes m c) j ⟨d, hd⟩ M hM _ (classAt (pick (scores m c) b j)).isLt (class_eq m c b j) _
      ((tab_face m c b j d hd).symm.trans (real j d hd))
  have cls (j : Fin 2048) : tab m c b j.val 7 = ((k j.val : ℝ) : EReal) := by rw [tab_class, kj]
  rw [ratio9, ratio_apply]
  exact overlap_iff (real i) (real j) (shifted i) (shifted j) (cls i) (cls j) fun x hx d hd =>
    hb x d (by rcases hx with rfl | rfl; exacts [i.isLt, j.isLt]) hd

end

end Cert.ReferenceIdeal.Value

end
-- ==== Proof.RefEnd.lean ====
module

public import proofs.«01_k».proof.Proof.RefHost

/-!
What the reference returns: the boxes the loop keeps, in the order of their scores.
-/

@[expose] public section

set_option maxRecDepth 16384
set_option maxHeartbeats 1000000

noncomputable section

namespace Cert.ReferenceIdeal.Value

open Cert.ReferenceIdeal Cert.ReferenceIdeal.Gen Cert.Nms Cert.KernelIdeal.Tiles
open Idealize.ShloMosaic Idealize.ShloMosaic.TcCoe Idealize.ShloMosaic.StableHlo
open Cert.KernelIdeal.Host (finalBoxes finalClasses)
open scoped Classical

variable (m : (ℓ : Loc nD τ sig) → Buf (Elt Ideal) ℓ) (c : Dev nD)

def Z0 : Valuation τ sig (Elt Ideal) := after condOps (atK m 2048 c)
def Z1 : Valuation τ sig (Elt Ideal) := after hostOps0_9 (Z0 m c)
def Z2 : Valuation τ sig (Elt Ideal) := after hostOps0_10 (Z1 m c)
/-- The scores after the loop, those of the dropped boxes replaced. -/
def left : FVec Ideal S4x2048 .f32 := Z2 m c (Proc.devRef .tc main_v98)

theorem final_eq : finalContents condOps preI bodyI postI 2048 m c = after hostOps0_11 (Z2 m c) := rfl

/-- What the first two stretches after the loop write. -/
abbrev post9 : List (Ref sig .tc) := [main_cst_15]
abbrev post10 : List (Ref sig .tc) := [main_call4_v0, main_call4_v1, main_call4_v2, main_v98]

theorem p9 (V : Valuation τ sig (Elt Ideal)) (r : Ref sig .tc) (h : r ∉ post9) : after (hostOps0_9 (F := Ideal)) V (Proc.devRef .tc r) = V (Proc.devRef .tc r) :=
  after_of_writes_sub _ _ (forall_writes_sub_of_map (W := post9) rfl) h
theorem p10 (V : Valuation τ sig (Elt Ideal)) (r : Ref sig .tc) (h : r ∉ post10) : after (hostOps0_10 (F := Ideal)) V (Proc.devRef .tc r) = V (Proc.devRef .tc r) :=
  after_of_writes_sub _ _ (forall_writes_sub_of_map (W := post10) rfl) h

theorem z0 (r : Ref sig .tc) (h1 : r ∉ condOps_W) (h2 : r ∉ while0Ops0_W) : Z0 m c (Proc.devRef .tc r) = T9 m c (Proc.devRef .tc r) :=
  (after_of_writes_sub condOps _ condOps_writes h1).trans (loop_keep m c r h1 h2 2048)

theorem z_cand : Z2 m c (Proc.devRef .tc main_v35) = cand m c :=
  (p10 _ _ (by decide +kernel)).trans ((p9 _ _ (by decide +kernel)).trans ((z0 m c _ (by decide +kernel) (by decide +kernel)).trans (cand9 m c)))
theorem z_classes : Z2 m c (Proc.devRef .tc main_v27) = classes m c :=
  (p10 _ _ (by decide +kernel)).trans ((p9 _ _ (by decide +kernel)).trans ((z0 m c _ (by decide +kernel) (by decide +kernel)).trans (classes9 m c)))
theorem z_values : Z1 m c (Proc.devRef .tc main_values) = T3 m c (Proc.devRef .tc main_values) :=
  (p9 _ _ (by decide +kernel)).trans ((z0 m c _ (by decide +kernel) (by decide +kernel)).trans (val9 m c))

section

variable (hD : ∀ i, ∃ r : ℝ, deltas m c i = (r : EReal)) (hP : ∀ i, ∃ r : ℝ, props m c i = (r : EReal)) (hO : ∀ i, ∃ r : ℝ, origs m c i = (r : EReal))
variable (b : Fin 4) (j : Fin 2048)

include hD hP hO

theorem z_kept : (Z1 m c (Proc.devRef .tc main_v97_4) : IVec S4x2048 1) (ValueIdx.ix2 b j) = 1#1 ↔ Kept (tab m c b) j.val := by
  have e : Z1 m c (Proc.devRef .tc main_v97_4) = (STEP^[2048] (T9 m c)) (Proc.devRef .tc main_v97_4) :=
    (p9 _ _ (by decide +kernel)).trans ((cond_keeps _ main_v97_4 (by decide)).trans (atK_agree m c 2048 main_v97_4 (by decide)))
  rw [e]
  exact loop_keeps (T9 m c) (r8_start _) (r8_ranks _) b (Valid (tab m c b)) (OvB (tab m c b)) (valid9 m c b) (overlap9 m c b hD hP hO) j

/-- The kept scores. -/
theorem z_scores : left m c (ValueIdx.ix2 b j) = if Kept (tab m c b) j.val then tab m c b j.val 6 else minusOne := by
  refine (congrFun (r10_v98 (Z1 m c)) _).trans ?_
  refine (sel_apply _ _ _ _).trans ?_
  refine if_congr (z_kept m c hD hP hO b j) ?_ ?_
  · exact (congrFun (z_values m c) _).trans (tab_score m c b j).symm
  · refine (broadcastInDim_apply _ _ _ _ (ValueIdx.ix1 j) fun c => by fin_cases c; rfl).trans ?_
    refine (scalar_apply _ _ _ ValueIdx.ix0).trans ?_
    rw [show Z1 m c (Proc.devRef .tc main_cst_15) = constant (F := Ideal) S_ .f32 0xBF800000#32 from r9_cst _]
    rfl

variable (q : Fin 256)

theorem order_eq : top (fun j : Fin 2048 => (left m c (ValueIdx.ix2 b j) : EReal)) (q.castLE (by decide)) = chosen (tab m c b) q :=
  congrArg (fun f : Fin 2048 → EReal => top f (q.castLE (by decide))) (funext fun j => z_scores m c hD hP hO b j)

theorem best_index : (bestOf (left m c)).2 (ValueIdx.ix2 b q) = BitVec.ofNat 32 (chosen (tab m c b) q).val := by
  refine (topK_apply (by decide) _ Facts₀.sliceFits_S4x2048_S4x256 b q).2.trans ?_
  exact congrArg (fun j : Fin 2048 => BitVec.ofNat 32 j.val) (order_eq m c hD hP hO b q)
theorem best_score : (bestOf (left m c)).1 (ValueIdx.ix2 b q)
    = if Kept (tab m c b) (chosen (tab m c b) q).val then tab m c b (chosen (tab m c b) q).val 6 else minusOne := by
  refine (topK_apply (by decide) _ Facts₀.sliceFits_S4x2048_S4x256 b q).1.trans ?_
  refine Eq.trans ?_ (z_scores m c hD hP hO b (chosen (tab m c b) q))
  exact congrArg (fun j : Fin 2048 => left m c (ValueIdx.ix2 b j)) (order_eq m c hD hP hO b q)

theorem chosen_small : (chosen (tab m c b) q).val < 2 ^ 31 := lt_trans (chosen (tab m c b) q).isLt (by decide)

theorem place_eq : placesOf (bestOf (left m c)).2 (ValueIdx.ix3 b q 0) = BitVec.ofNat 32 (chosen (tab m c b) q).val :=
  (broadcastInDim_apply _ _ _ _ (ValueIdx.ix2 b q) fun c => by fin_cases c <;> rfl).trans
    (wrapOf_apply _ _ _ _ _ (lt_trans (chosen (tab m c b) q).isLt (by decide)) (best_index m c hD hP hO b q))

theorem end_classes : finalContents condOps preI bodyI postI 2048 m c (Proc.devRef .tc main_v112) = finalClasses (scores m c) (deltas m c) (props m c) (origs m c) := by
  rw [final_eq]
  refine (r11_v112 _).trans ?_
  rw [z_classes]
  funext i
  obtain ⟨b, q, rfl⟩ : ∃ (b : Fin 4) (q : Fin 256), i = ValueIdx.ix2 b q := ⟨i 0, i 1, ValueIdx.eq_ix2 i⟩
  refine (entries_gather Facts₀.gather_S4x2048_S4x256x1_S4x256_n_1_0_0_1_2_11_wf _ _ b q (chosen (tab m c b) q) (lt_trans (chosen (tab m c b) q).isLt (by decide))
    (place_eq m c hD hP hO b q)).trans ?_
  exact class_eq m c b _

theorem end_boxes : finalContents condOps preI bodyI postI 2048 m c (Proc.devRef .tc main_v114) = finalBoxes (scores m c) (deltas m c) (props m c) (origs m c) := by
  rw [final_eq]
  refine (r11_v114 _).trans ?_
  rw [z_cand]
  funext i
  obtain ⟨b, q, d, rfl⟩ : ∃ (b : Fin 4) (q : Fin 256) (d : Fin 7), i = ValueIdx.ix3 b q d := ⟨i 0, i 1, i 2, ValueIdx.eq_ix3 i⟩
  show _ = outB (tab m c b) q (d.castLE (by decide))
  unfold outB
  by_cases hd : d.val = 6
  · obtain rfl : d = 6 := Fin.ext hd
    rw [if_pos (by rfl)]
    refine (concatenate_apply_piece 2 (columns _ _) (columns_join _ _) _ 1 (show 1 < 2 by decide) S4x256x1 _ rfl rfl 6 rfl (ValueIdx.ix3 b q 0) (fun c hc => ?_) rfl).trans ?_
    · fin_cases c
      · rfl
      · rfl
      · exact absurd rfl hc
    · exact (broadcastInDim_apply _ _ _ _ (ValueIdx.ix2 b q) fun c => by fin_cases c <;> rfl).trans (best_score m c hD hP hO b q)
  · have h6 : d.val < 6 := by have := d.isLt; omega
    rw [if_neg (show ¬(d.castLE (by decide) : Fin 8).val = 6 from hd)]
    refine (concatenate_apply_piece 2 (columns _ _) (columns_join _ _) _ 0 (show 0 < 2 by decide) S4x256x6 _ rfl rfl 0 rfl (ValueIdx.ix3 b q ⟨d.val, h6⟩) (fun c hc => ?_) ?_).trans ?_
    · fin_cases c
      · rfl
      · rfl
      · exact absurd rfl hc
    · exact Nat.zero_add _
    · refine (rows_gather Facts₀.gather_S4x2048x6_S4x256x1_S4x256x6_2_1_0_0_1_2_116_wf _ _ b q ⟨d.val, h6⟩ (chosen (tab m c b) q)
        (lt_trans (chosen (tab m c b) q).isLt (by decide)) (place_eq m c hD hP hO b q)).trans ?_
      exact (tab_face m c b (chosen (tab m c b) q) d.val h6).symm

end

end Cert.ReferenceIdeal.Value

end
-- ==== Proof.Scores.lean ====
module

public import proofs.«01_k».proof.Proof.RefEnd

/-!
The kernel's host and the reference score the candidates alike.
-/

@[expose] public section

set_option maxRecDepth 16384
set_option maxHeartbeats 1000000

noncomputable section

namespace Cert.KernelIdeal.Host

open Cert.KernelIdeal Cert.KernelIdeal.Gen Cert.Nms
open Idealize.ShloMosaic Idealize.ShloMosaic.TcCoe Idealize.ShloMosaic.StableHlo

/-- The probabilities above the threshold, the others replaced. -/
def scoresOf (x : FVec Ideal S4x20000x19 .f32) : FVec Ideal S4x20000x18 .f32 := fun i =>
  if cmpf .ogt (Cert.ReferenceIdeal.Value.softOf x) (broadcastInDim S4x20000x18 ![] Cert.ReferenceIdeal.Gen.facts.bcast_S_S4x20000x18 (constant S_ .f32 0x3D4CCCCD#32)) i = 1#1
  then Cert.ReferenceIdeal.Value.softOf x i else Ideal.ofBits .f32 0xBF800000#32

section

variable (W : Valuation τ sig (Elt Ideal))

theorem s0_v11 : after (hostOps0 (F := Ideal)) W (Proc.devRef .tc main_v11) = Cert.ReferenceIdeal.Value.softOf (W (Proc.devRef .tc main_arg0)) := by
  simp only [hostOps0]; after_results; rfl
theorem s0_v13 : after (hostOps0 (F := Ideal)) W (Proc.devRef .tc main_v13)
    = cmpf .ogt (Cert.ReferenceIdeal.Value.softOf (W (Proc.devRef .tc main_arg0))) (broadcastInDim S4x20000x18 ![] Cert.ReferenceIdeal.Gen.facts.bcast_S_S4x20000x18 (constant S_ .f32 0x3D4CCCCD#32)) := by
  simp only [hostOps0]; after_results; rfl
theorem s0_cst : after (hostOps0 (F := Ideal)) W (Proc.devRef .tc main_cst_3) = constant (F := Ideal) S_ .f32 0xBF800000#32 := by
  simp only [hostOps0]; after_results
theorem s1_v14 : after (hostOps0_1 (F := Ideal)) W (Proc.devRef .tc main_v14)
    = select (W (Proc.devRef .tc main_v13)) (W (Proc.devRef .tc main_v11)) (broadcastInDim S4x20000x18 ![] Facts₀.bcast_S_S4x20000x18 (W (Proc.devRef .tc main_cst_3))) := by
  simp only [hostOps0_1]; after_results; rfl

end

variable (m : (ℓ : Loc nD τ sig) → Buf (Elt Ideal) ℓ) (c : Dev nD)

theorem scores_eq : scores m c = shapeCast S4x360000 (scoresOf (m ((c.tc : Thread nD τ).loc main_arg0))) Cert.ReferenceIdeal.Gen.facts.shapeCasts_S4x20000x18_S4x360000 := by
  refine (s2_v15 (U2 m c)).trans ?_
  refine congrArg (fun v : FVec Ideal S4x20000x18 .f32 => shapeCast S4x360000 v _) ?_
  refine (s1_v14 (U1 m c)).trans ?_
  rw [show U1 m c (Proc.devRef .tc main_cst_3) = constant (F := Ideal) S_ .f32 0xBF800000#32 from s0_cst _,
    show U1 m c (Proc.devRef .tc main_v11) = _ from s0_v11 _, show U1 m c (Proc.devRef .tc main_v13) = _ from s0_v13 _]
  funext i
  refine (sel_apply _ _ _ _).trans ?_
  refine if_congr Iff.rfl rfl ?_
  exact scalar_apply _ _ _ ValueIdx.ix0

end Cert.KernelIdeal.Host

namespace Cert.ReferenceIdeal.Value

open Cert.ReferenceIdeal Cert.ReferenceIdeal.Gen Cert.Nms
open Idealize.ShloMosaic Idealize.ShloMosaic.TcCoe Idealize.ShloMosaic.StableHlo

variable (m : (ℓ : Loc nD τ sig) → Buf (Elt Ideal) ℓ) (c : Dev nD)

theorem scores_eq : scores m c = shapeCast S4x360000 (Cert.KernelIdeal.Host.scoresOf (m ((c.tc : Thread nD τ).loc main_arg0))) Facts₀.shapeCasts_S4x20000x18_S4x360000 := by
  refine (r2_v26 (T2 m c)).trans ?_
  refine congrArg (fun v : FVec Ideal S4x20000x18 .f32 => shapeCast S4x360000 v _) ?_
  refine (r1_v25 (T1 m c)).trans ?_
  rw [show T1 m c (Proc.devRef .tc main_cst_3) = constant (F := Ideal) S_ .f32 0xBF800000#32 from r0_cst _,
    show T1 m c (Proc.devRef .tc main_v11) = _ from r0_v11 _, show T1 m c (Proc.devRef .tc main_v24) = _ from r0_v24 _]
  funext i
  obtain ⟨b, a, k, rfl⟩ : ∃ (b : Fin 4) (a : Fin 20000) (k : Fin 18), i = ValueIdx.ix3 b a k := ⟨i 0, i 1, i 2, ValueIdx.eq_ix3 i⟩
  refine (sel_apply _ _ _ _).trans ?_
  refine if_congr Iff.rfl rfl ?_
  refine (broadcastInDim_apply _ _ _ _ (ValueIdx.ix2 a k) fun c => by fin_cases c <;> rfl).trans ?_
  exact scalar_apply _ _ _ ValueIdx.ix0

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefFrame
public import proofs.«01_k».proof.Proof.PreFacts
public import proofs.«01_k».proof.Proof.Finite
public import proofs.«01_k».proof.Proof.Scores
public import Idealize.ShloMosaic.Adequacy
public import Idealize.ShloMosaic.Init

@[expose] public section

noncomputable section

namespace Cert.Proof

open Idealize.ShloMosaic Idealize.SL.Sem Cert.Kernel

theorem frames : Cert.quiescent_Kernel ∧ Cert.quiescent_KernelIdeal ∧ Cert.quiescent_ReferenceIdeal :=
  ⟨fun m ρ _ => Cert.Kernel.Gen.frame m ρ, fun m ρ _ => Cert.KernelIdeal.Gen.frame m ρ, quiescent_reference⟩

theorem value : Cert.algebraic_KernelIdeal_ReferenceIdeal_pre_finite_boxes := by
  intro m g m' g' hpre he
  refine ⟨fun c => Cert.KernelIdeal.Host.finalBoxes (Cert.KernelIdeal.Host.scores m c) (Cert.KernelIdeal.Host.deltas m c) (Cert.KernelIdeal.Host.props m c) (Cert.KernelIdeal.Host.origs m c),
    fun c => Cert.KernelIdeal.Host.finalClasses (Cert.KernelIdeal.Host.scores m c) (Cert.KernelIdeal.Host.deltas m c) (Cert.KernelIdeal.Host.props m c) (Cert.KernelIdeal.Host.origs m c),
    Cert.KernelIdeal.Host.run m g, ?_⟩
  refine (θ_run (Cert.ReferenceIdeal.defs (F := Ideal)) _ _).mono (fun r h c => ?_) (Cert.ReferenceIdeal.Value.run_args m' g')
  obtain ⟨e0, e1, e2, e3⟩ := he c
  obtain ⟨hD, hP, hO⟩ := finite_args _ _ _ _ (hpre c)
  have x : Cert.ReferenceIdeal.Value.scores m' c = Cert.KernelIdeal.Host.scores m c := by
    rw [Cert.ReferenceIdeal.Value.scores_eq, Cert.KernelIdeal.Host.scores_eq, e0]
  have d : Cert.ReferenceIdeal.Value.deltas m' c = Cert.KernelIdeal.Host.deltas m c := e1
  have p : Cert.ReferenceIdeal.Value.props m' c = Cert.KernelIdeal.Host.props m c := e2
  have o : Cert.ReferenceIdeal.Value.origs m' c = Cert.KernelIdeal.Host.origs m c := e3
  have hd : ∀ i, ∃ y : ℝ, Cert.ReferenceIdeal.Value.deltas m' c i = (y : EReal) := by rw [d]; exact hD
  have hp : ∀ i, ∃ y : ℝ, Cert.ReferenceIdeal.Value.props m' c i = (y : EReal) := by rw [p]; exact hP
  have ho : ∀ i, ∃ y : ℝ, Cert.ReferenceIdeal.Value.origs m' c i = (y : EReal) := by rw [o]; exact hO
  have a := Cert.ReferenceIdeal.Value.end_boxes m' c hd hp ho
  have b := Cert.ReferenceIdeal.Value.end_classes m' c hd hp ho
  rw [x, d, p, o] at a b
  exact ⟨(h c).1.trans a, (h c).2.1.trans b, (h c).2.2⟩

theorem claim : Cert.Claim := ⟨Cert.Kernel.Gen.facts, Cert.KernelIdeal.Gen.facts, Cert.ReferenceIdeal.Gen.facts, preFacts,
  frames.1, frames.2.1, fun m g _ => frames.2.1 m g trivial, frames.2.2, fun m g _ => frames.2.2 m g trivial, trivial, value⟩

end Cert.Proof

end
